-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v38)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v38) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x2048x1536 : Shape := ⟨3, ![8, 2048, 1536]⟩
abbrev S12x15x31 : Shape := ⟨3, ![12, 15, 31]⟩
abbrev S_ : Shape := ⟨0, ![]⟩

class Facts : Prop where
  bcast_S_S8x2048x1536 : S_.BroadcastsInDim S8x2048x1536 (![] : Fin 0 → Fin S8x2048x1536.rank)
  reducesTo_S8x2048x1536_S_d0_1_2 : S8x2048x1536.ReducesTo [0, 1, 2] S_
  h_S_ : 0 < S_.numel
  bcast_S_S12x15x31 : S_.BroadcastsInDim S12x15x31 (![] : Fin 0 → Fin S12x15x31.rank)
  reducesTo_S12x15x31_S_d0_1_2 : S12x15x31.ReducesTo [0, 1, 2] S_

variable [Facts]

def fn {F : FTy → Type} [FloatOps F] (main_arg0 : FVec F S8x2048x1536 .f32) (main_arg1 : FVec F S8x2048x1536 .f32) (main_arg2 : FVec F S8x2048x1536 .f32) (main_arg3 : FVec F S12x15x31 .f32) : IVec S_ 1 :=
  let main_v0 : FVec F S8x2048x1536 .f32 := Host.absf main_arg0
  let main_cst : FVec F S_ .f32 := constant S_ .f32 0x7F800000#32
  let main_v1 : FVec F S8x2048x1536 .f32 := broadcastInDim S8x2048x1536 ![] bcast_S_S8x2048x1536 main_cst
  let main_v2 : IVec S8x2048x1536 1 := cmpf .olt main_v0 main_v1
  let main_c : IVec S_ 1 := constantI S_ 1 1#1
  let main_v3 : IVec S_ 1 := (fun x v => Host.reduce IntOp.andi x v reducesTo_S8x2048x1536_S_d0_1_2 h_S_) main_v2 main_c
  let main_v4 : FVec F S8x2048x1536 .f32 := Host.absf main_arg1
  let main_cst_0 : FVec F S_ .f32 := constant S_ .f32 0x7F800000#32
  let main_v5 : FVec F S8x2048x1536 .f32 := broadcastInDim S8x2048x1536 ![] bcast_S_S8x2048x1536 main_cst_0
  let main_v6 : IVec S8x2048x1536 1 := cmpf .olt main_v4 main_v5
  let main_c_1 : IVec S_ 1 := constantI S_ 1 1#1
  let main_v7 : IVec S_ 1 := (fun x v => Host.reduce IntOp.andi x v reducesTo_S8x2048x1536_S_d0_1_2 h_S_) main_v6 main_c_1
  let main_v8 : IVec S_ 1 := andi main_v3 main_v7
  let main_v9 : FVec F S12x15x31 .f32 := Host.absf main_arg3
  let main_cst_2 : FVec F S_ .f32 := constant S_ .f32 0x7F800000#32
  let main_v10 : FVec F S12x15x31 .f32 := broadcastInDim S12x15x31 ![] bcast_S_S12x15x31 main_cst_2
  let main_v11 : IVec S12x15x31 1 := cmpf .olt main_v9 main_v10
  let main_c_3 : IVec S_ 1 := constantI S_ 1 1#1
  let main_v12 : IVec S_ 1 := (fun x v => Host.reduce IntOp.andi x v reducesTo_S12x15x31_S_d0_1_2 h_S_) main_v11 main_c_3
  let main_v13 : IVec S_ 1 := andi main_v8 main_v12
  main_v13
-- ==== Kernel.lean ====
abbrev S8x2048x1536 : Shape := ⟨3, ![8, 2048, 1536]⟩
abbrev S12x15x31 : Shape := ⟨3, ![12, 15, 31]⟩
abbrev S4x64x128 : Shape := ⟨3, ![4, 64, 128]⟩
abbrev S_ : Shape := ⟨0, ![]⟩
abbrev S16384x6144 : Shape := ⟨2, ![16384, 6144]⟩
abbrev S16384x1536 : Shape := ⟨2, ![16384, 1536]⟩
abbrev S16384x12288 : Shape := ⟨2, ![16384, 12288]⟩
abbrev S12x15x128 : Shape := ⟨3, ![12, 15, 128]⟩
abbrev S12x15x1x128 : Shape := ⟨4, ![12, 15, 1, 128]⟩
abbrev S12x15x64x128 : Shape := ⟨4, ![12, 15, 64, 128]⟩
abbrev S12x15x8192 : Shape := ⟨3, ![12, 15, 8192]⟩
abbrev S12x15x8128 : Shape := ⟨3, ![12, 15, 8128]⟩
abbrev S12x15x64x127 : Shape := ⟨4, ![12, 15, 64, 127]⟩
abbrev S12x15x64x64 : Shape := ⟨4, ![12, 15, 64, 64]⟩
abbrev S12x39x64x64 : Shape := ⟨4, ![12, 39, 64, 64]⟩
abbrev S12x38x64x64 : Shape := ⟨4, ![12, 38, 64, 64]⟩
abbrev S12x38x64x128 : Shape := ⟨4, ![12, 38, 64, 128]⟩
abbrev S2048x128 : Shape := ⟨2, ![2048, 128]⟩
abbrev S1x38x64x128 : Shape := ⟨4, ![1, 38, 64, 128]⟩
abbrev S3x256x768 : Shape := ⟨3, ![3, 256, 768]⟩
abbrev S1x1x64x128 : Shape := ⟨4, ![1, 1, 64, 128]⟩
abbrev S64x128 : Shape := ⟨2, ![64, 128]⟩
abbrev S1x64x128 : Shape := ⟨3, ![1, 64, 128]⟩
abbrev S256x128 : Shape := ⟨2, ![256, 128]⟩
abbrev S768x128 : Shape := ⟨2, ![768, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩

abbrev nBuf : Space → Nat
  | .hbm => 32
  | .vmem => 12
  | .smem => 0
  | _ => 0

abbrev bufTy : (tb : Table) → Fin (tcTables nBuf tb) → BufTy
  | .hbm, ⟨0, _⟩ => ⟨S8x2048x1536, .f32⟩
  | .hbm, ⟨1, _⟩ => ⟨S8x2048x1536, .f32⟩
  | .hbm, ⟨2, _⟩ => ⟨S8x2048x1536, .f32⟩
  | .hbm, ⟨3, _⟩ => ⟨S12x15x31, .f32⟩
  | .hbm, ⟨4, _⟩ => ⟨S4x64x128, .f32⟩
  | .hbm, ⟨5, _⟩ => ⟨S_, .bf16⟩
  | .hbm, ⟨6, _⟩ => ⟨S16384x6144, .bf16⟩
  | .hbm, ⟨7, _⟩ => ⟨S16384x1536, .f32⟩
  | .hbm, ⟨8, _⟩ => ⟨S16384x1536, .bf16⟩
  | .hbm, ⟨9, _⟩ => ⟨S16384x1536, .f32⟩
  | .hbm, ⟨10, _⟩ => ⟨S16384x1536, .bf16⟩
  | .hbm, ⟨11, _⟩ => ⟨S16384x1536, .f32⟩
  | .hbm, ⟨12, _⟩ => ⟨S16384x1536, .bf16⟩
  | .hbm, ⟨13, _⟩ => ⟨S_, .bf16⟩
  | .hbm, ⟨14, _⟩ => ⟨S16384x1536, .bf16⟩
  | .hbm, ⟨15, _⟩ => ⟨S16384x12288, .bf16⟩
  | .hbm, ⟨16, _⟩ => ⟨S_, .i32⟩
  | .hbm, ⟨17, _⟩ => ⟨S_, .f32⟩
  | .hbm, ⟨18, _⟩ => ⟨S12x15x128, .f32⟩
  | .hbm, ⟨19, _⟩ => ⟨S12x15x1x128, .f32⟩
  | .hbm, ⟨20, _⟩ => ⟨S12x15x64x128, .f32⟩
  | .hbm, ⟨21, _⟩ => ⟨S12x15x8192, .f32⟩
  | .hbm, ⟨22, _⟩ => ⟨S12x15x8128, .f32⟩
  | .hbm, ⟨23, _⟩ => ⟨S12x15x64x127, .f32⟩
  | .hbm, ⟨24, _⟩ => ⟨S12x15x64x64, .f32⟩
  | .hbm, ⟨25, _⟩ => ⟨S_, .i32⟩
  | .hbm, ⟨26, _⟩ => ⟨S_, .f32⟩
  | .hbm, ⟨27, _⟩ => ⟨S12x39x64x64, .f32⟩
  | .hbm, ⟨28, _⟩ => ⟨S12x38x64x64, .f32⟩
  | .hbm, ⟨29, _⟩ => ⟨S12x38x64x64, .f32⟩
  | .hbm, ⟨30, _⟩ => ⟨S12x38x64x128, .f32⟩
  | .hbm, ⟨31, _⟩ => ⟨S16384x1536, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x38x64x128, .f32⟩
  | .local _ .vmem, ⟨7, _⟩ => ⟨S1x38x64x128, .f32⟩
  | .local _ .vmem, ⟨8, _⟩ => ⟨S4x64x128, .f32⟩
  | .local _ .vmem, ⟨9, _⟩ => ⟨S2048x128, .bf16⟩
  | .local _ .vmem, ⟨10, _⟩ => ⟨S2048x128, .bf16⟩
  | .local _ .vmem, ⟨11, _⟩ => ⟨S3x256x768, .f32⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x38x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x1536 : Shape := ⟨3, ![8, 2048, 1536]⟩
abbrev S12x15x31 : Shape := ⟨3, ![12, 15, 31]⟩
abbrev S_ : Shape := ⟨0, ![]⟩
abbrev S8x32x64x12x128 : Shape := ⟨5, ![8, 32, 64, 12, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x12x128 : Shape := ⟨6, ![8, 32, 8, 64, 12, 128]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S12x32x64x8x64 : Shape := ⟨5, ![12, 32, 64, 8, 64]⟩
abbrev S8x32x12x64x8x64 : Shape := ⟨6, ![8, 32, 12, 64, 8, 64]⟩
abbrev S32x12x64x8x64 : Shape := ⟨5, ![32, 12, 64, 8, 64]⟩
abbrev S1x32x12x64x8x64 : Shape := ⟨6, ![1, 32, 12, 64, 8, 64]⟩
abbrev S1x1x1x64x1x64 : Shape := ⟨6, ![1, 1, 1, 64, 1, 64]⟩
abbrev S8x32x12x64x512 : Shape := ⟨5, ![8, 32, 12, 64, 512]⟩
abbrev S8x32x12x64 : Shape := ⟨4, ![8, 32, 12, 64]⟩
abbrev S8x32x12x64x1 : Shape := ⟨5, ![8, 32, 12, 64, 1]⟩
abbrev S8x32x12x128x64 : Shape := ⟨5, ![8, 32, 12, 128, 64]⟩
abbrev S16384x1536 : Shape := ⟨2, ![16384, 1536]⟩

abbrev nBuf : Space → Nat
  | .hbm => 153
  | .vmem => 0
  | .smem => 0
  | _ => 0

abbrev hbmTy0_0 (i : Nat) : BufTy := match i % 128 with
  | 0 => ⟨S8x2048x1536, .f32⟩
  | 1 => ⟨S8x2048x1536, .f32⟩
  | 2 => ⟨S8x2048x1536, .f32⟩
  | 3 => ⟨S12x15x31, .f32⟩
  | 4 => ⟨S_, .f32⟩
  | 5 => ⟨S8x2048x1536, .f32⟩
  | 6 => ⟨S8x2048x1536, .f32⟩
  | 7 => ⟨S8x32x64x12x128, .f32⟩
  | 8 => ⟨S8x32x64x12x128, .f32⟩
  | 9 => ⟨S8x32x64x12x128, .f32⟩
  | 10 => ⟨S64, .i32⟩
  | 11 => ⟨S_, .i32⟩
  | 12 => ⟨S64, .i32⟩
  | 13 => ⟨S64, .i32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S1x64, .i32⟩
  | 23 => ⟨S64x1, .i32⟩
  | 24 => ⟨S64x64, .i32⟩
  | 25 => ⟨S64x64, .i32⟩
  | 26 => ⟨S64x64, .i1⟩
  | 27 => ⟨S1x64, .i32⟩
  | 28 => ⟨S64x1, .i32⟩
  | 29 => ⟨S_, .i32⟩
  | 30 => ⟨S64x1, .i32⟩
  | 31 => ⟨S64x1, .i32⟩
  | 32 => ⟨S64x64, .i32⟩
  | 33 => ⟨S64x64, .i32⟩
  | 34 => ⟨S64x64, .i1⟩
  | 35 => ⟨S64x64, .i1⟩
  | 36 => ⟨S1x64, .i32⟩
  | 37 => ⟨S64x1, .i32⟩
  | 38 => ⟨S64x64, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S_, .i32⟩
  | 48 => ⟨S_, .i32⟩
  | 49 => ⟨S_, .i32⟩
  | 50 => ⟨S64x64, .i32⟩
  | 51 => ⟨S64x64, .i32⟩
  | 52 => ⟨S_, .i32⟩
  | 53 => ⟨S64x64, .i32⟩
  | 54 => ⟨S64x64, .i32⟩
  | 55 => ⟨S32, .i32⟩
  | 56 => ⟨S_, .i32⟩
  | 57 => ⟨S32, .i32⟩
  | 58 => ⟨S32, .i32⟩
  | 59 => ⟨S_, .i32⟩
  | 60 => ⟨S_, .i32⟩
  | 61 => ⟨S_, .i32⟩
  | 62 => ⟨S32, .i32⟩
  | 63 => ⟨S32, .i32⟩
  | 64 => ⟨S_, .i32⟩
  | 65 => ⟨S32, .i32⟩
  | 66 => ⟨S32, .i32⟩
  | 67 => ⟨S32x1, .i32⟩
  | 68 => ⟨S8, .i32⟩
  | 69 => ⟨S1x8, .i32⟩
  | 70 => ⟨S32x8, .i32⟩
  | 71 => ⟨S32x8, .i32⟩
  | 72 => ⟨S32x8, .i32⟩
  | 73 => ⟨S_, .i32⟩
  | 74 => ⟨S32x8, .i32⟩
  | 75 => ⟨S32x8, .i1⟩
  | 76 => ⟨S_, .i32⟩
  | 77 => ⟨S32x8, .i32⟩
  | 78 => ⟨S32x8, .i32⟩
  | 79 => ⟨S32x8, .i32⟩
  | 80 => ⟨S32x8x1, .i32⟩
  | 81 => ⟨S8x32x8x64x12x128, .f32⟩
  | 82 => ⟨S_, .i32⟩
  | 83 => ⟨S32x8, .i32⟩
  | 84 => ⟨S32x8, .i1⟩
  | 85 => ⟨S_, .i32⟩
  | 86 => ⟨S32x8, .i32⟩
  | 87 => ⟨S32x8, .i32⟩
  | 88 => ⟨S32x8, .i32⟩
  | 89 => ⟨S32x8x1, .i32⟩
  | 90 => ⟨S8x32x8x64x12x128, .f32⟩
  | 91 => ⟨S32x1, .i32⟩
  | 92 => ⟨S32x8, .i32⟩
  | 93 => ⟨S32x8, .i32⟩
  | 94 => ⟨S_, .i32⟩
  | 95 => ⟨S32x8, .i32⟩
  | 96 => ⟨S32x8, .i32⟩
  | 97 => ⟨S_, .i32⟩
  | 98 => ⟨S32x8, .i32⟩
  | 99 => ⟨S32x8, .i32⟩
  | 100 => ⟨S32x1x8x1, .i32⟩
  | 101 => ⟨S1x64x1x64, .i32⟩
  | 102 => ⟨S_, .i32⟩
  | 103 => ⟨S32x1x8x1, .i32⟩
  | 104 => ⟨S32x1x8x1, .i1⟩
  | 105 => ⟨S_, .i32⟩
  | 106 => ⟨S32x1x8x1, .i32⟩
  | 107 => ⟨S32x1x8x1, .i32⟩
  | 108 => ⟨S32x1x8x1, .i32⟩
  | 109 => ⟨S_, .i32⟩
  | 110 => ⟨S1x64x1x64, .i32⟩
  | 111 => ⟨S1x64x1x64, .i1⟩
  | 112 => ⟨S_, .i32⟩
  | 113 => ⟨S1x64x1x64, .i32⟩
  | 114 => ⟨S1x64x1x64, .i32⟩
  | 115 => ⟨S1x64x1x64, .i32⟩
  | 116 => ⟨S32x64x8x64, .i32⟩
  | 117 => ⟨S32x64x8x64, .i32⟩
  | 118 => ⟨S32x64x8x64x1, .i32⟩
  | 119 => ⟨S32x64x8x64x1, .i32⟩
  | 120 => ⟨S32x64x8x64x2, .i32⟩
  | 121 => ⟨S12x32x64x8x64, .f32⟩
  | 122 => ⟨S8x32x12x64x8x64, .f32⟩
  | 123 => ⟨S32x12x64x8x64, .f32⟩
  | 124 => ⟨S1x32x12x64x8x64, .f32⟩
  | 125 => ⟨S8x32x12x64x8x64, .f32⟩
  | 126 => ⟨S8x32x12x64x8x64, .f32⟩
  | 127 => ⟨S1x1x1x64x1x64, .i1⟩
  | _ => ⟨S8x2048x1536, .f32⟩

abbrev hbmTy0_1 (i : Nat) : BufTy := match i % 128 with
  | 0 => ⟨S_, .f32⟩
  | 1 => ⟨S_, .f32⟩
  | 2 => ⟨S8x32x12x64x8x64, .i1⟩
  | 3 => ⟨S8x32x12x64x8x64, .f32⟩
  | 4 => ⟨S8x32x12x64x8x64, .f32⟩
  | 5 => ⟨S8x32x12x64x512, .f32⟩
  | 6 => ⟨S_, .f32⟩
  | 7 => ⟨S8x32x12x64, .f32⟩
  | 8 => ⟨S_, .f32⟩
  | 9 => ⟨S8x32x12x64, .f32⟩
  | 10 => ⟨S8x32x12x64, .f32⟩
  | 11 => ⟨S8x32x12x64x1, .f32⟩
  | 12 => ⟨S8x32x12x64x512, .f32⟩
  | 13 => ⟨S8x32x12x64x512, .f32⟩
  | 14 => ⟨S8x32x12x64x512, .f32⟩
  | 15 => ⟨S_, .f32⟩
  | 16 => ⟨S8x32x12x64, .f32⟩
  | 17 => ⟨S8x32x12x64x1, .f32⟩
  | 18 => ⟨S8x32x12x64x512, .f32⟩
  | 19 => ⟨S8x32x12x64x512, .f32⟩
  | 20 => ⟨S8x32x12x64x8x64, .f32⟩
  | 21 => ⟨S8x32x12x128x64, .f32⟩
  | 22 => ⟨S8x32x64x12x128, .f32⟩
  | 23 => ⟨S16384x1536, .f32⟩
  | 24 => ⟨S16384x1536, .bf16⟩
  | _ => ⟨S8x2048x1536, .f32⟩

abbrev hbmTy (i : Nat) : BufTy := match i / 128 with
  | 0 => hbmTy0_0 i
  | 1 => hbmTy0_1 i
  | _ => ⟨S8x2048x1536, .f32⟩

abbrev bufTy : (tb : Table) → Fin (tcTables nBuf tb) → BufTy
  | .hbm, ⟨i, _⟩ => hbmTy i
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_c_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_c_9 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_14 : Ref sig .tc := ⟨.hbm, 94, rfl⟩
abbrev main_v59 : Ref sig .tc := ⟨.hbm, 95, rfl⟩
abbrev main_v60 : Ref sig .tc := ⟨.hbm, 96, rfl⟩
abbrev main_c_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_16 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_18 : Ref sig .tc := ⟨.hbm, 109, rfl⟩
abbrev main_v70 : Ref sig .tc := ⟨.hbm, 110, rfl⟩
abbrev main_v71 : Ref sig .tc := ⟨.hbm, 111, rfl⟩
abbrev main_c_19 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_20 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_cst_22 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_23 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩

abbrev nD : Nat := 1
abbrev τ : Topo := Topo.v7x

variable {F : FTy → Type} [FloatOps F]
-- ==== Kernel2.lean ====
abbrev S8x2048x4096 : Shape := ⟨3, ![8, 2048, 4096]⟩
abbrev S1x4096 : Shape := ⟨2, ![1, 4096]⟩
abbrev S1x4096x22016 : Shape := ⟨3, ![1, 4096, 22016]⟩
abbrev S16384x4096 : Shape := ⟨2, ![16384, 4096]⟩
abbrev S16384x32x128 : Shape := ⟨3, ![16384, 32, 128]⟩
abbrev S_ : Shape := ⟨0, ![]⟩
abbrev S16384x128 : Shape := ⟨2, ![16384, 128]⟩
abbrev S1x4096x1 : Shape := ⟨3, ![1, 4096, 1]⟩
abbrev S16384x11264 : Shape := ⟨2, ![16384, 11264]⟩
abbrev S1024x4096 : Shape := ⟨2, ![1024, 4096]⟩
abbrev S1024x128 : Shape := ⟨2, ![1024, 128]⟩
abbrev S1x4096x512 : Shape := ⟨3, ![1, 4096, 512]⟩
abbrev S1x4096x256 : Shape := ⟨3, ![1, 4096, 256]⟩
abbrev S1024x512 : Shape := ⟨2, ![1024, 512]⟩
abbrev S1024 : Shape := ⟨1, ![1024]⟩
abbrev S1024x1 : Shape := ⟨2, ![1024, 1]⟩
abbrev S4096x512 : Shape := ⟨2, ![4096, 512]⟩
abbrev S4096x256 : Shape := ⟨2, ![4096, 256]⟩
abbrev S1024x256 : Shape := ⟨2, ![1024, 256]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x22016, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S16384x32x128, .f32⟩
  | .hbm, ⟨7, _⟩ => ⟨S_, .f32⟩
  | .hbm, ⟨8, _⟩ => ⟨S16384x128, .f32⟩
  | .hbm, ⟨9, _⟩ => ⟨S1x4096x1, .f32⟩
  | .hbm, ⟨10, _⟩ => ⟨S1x4096x22016, .f32⟩
  | .hbm, ⟨11, _⟩ => ⟨S1x4096x22016, .f32⟩
  | .hbm, ⟨12, _⟩ => ⟨S1x4096x22016, .bf16⟩
  | .hbm, ⟨13, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x512, .bf16⟩
  | .local _ .vmem, ⟨5, _⟩ => ⟨S1x4096x512, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1024x512, .bf16⟩
  | .local _ .vmem, ⟨11, _⟩ => ⟨S1024x512, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c11008_i32 : BitVec 32 := 11008#32
  let v2 : BitVec 1 := Scalar.cmpi .sgt v1 c11008_i32
  let v_true : BitVec 1 := 1#1
  let v3 : BitVec 1 := Scalar.xori v2 v_true
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c1_i32 : BitVec 32 := 1#32
  let v0 : BitVec 32 := Scalar.addi arg1 c1_i32
  let c512_i32 : BitVec 32 := 512#32
  let v1 : BitVec 32 := Scalar.muli v0 c512_i32
  let c11008_i32 : BitVec 32 := 11008#32
  let v2 : BitVec 1 := Scalar.cmpi .sgt v1 c11008_i32
  let v6 : BitVec 32 := Scalar.extui v2
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c43_i32 : BitVec 32 := 43#32
  let v1 : BitVec 32 := Scalar.addi c43_i32 v0
  let c85_i32 : BitVec 32 := 85#32
  let v2 : BitVec 32 := Scalar.minsi v1 c85_i32
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  ![c0_i32.toNat, c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x4096 : Shape := ⟨3, ![8, 2048, 4096]⟩
abbrev S1x4096 : Shape := ⟨2, ![1, 4096]⟩
abbrev S1x4096x22016 : Shape := ⟨3, ![1, 4096, 22016]⟩
abbrev S_ : Shape := ⟨0, ![]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩
abbrev S4096x22016 : Shape := ⟨2, ![4096, 22016]⟩
abbrev S8x2048x22016 : Shape := ⟨3, ![8, 2048, 22016]⟩
abbrev S8x2048x11008 : Shape := ⟨3, ![8, 2048, 11008]⟩
abbrev S16384x11008 : Shape := ⟨2, ![16384, 11008]⟩
abbrev S16384x11264 : Shape := ⟨2, ![16384, 11264]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x22016, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S4096x22016, .f32⟩
  | .hbm, ⟨21, _⟩ => ⟨S8x2048x22016, .f32⟩
  | .hbm, ⟨22, _⟩ => ⟨S8x2048x11008, .f32⟩
  | .hbm, ⟨23, _⟩ => ⟨S8x2048x11008, .f32⟩
  | .hbm, ⟨24, _⟩ => ⟨S8x2048x11008, .f32⟩
  | .hbm, ⟨25, _⟩ => ⟨S8x2048x11008, .f32⟩
  | .hbm, ⟨26, _⟩ => ⟨S_, .f32⟩
  | .hbm, ⟨27, _⟩ => ⟨S8x2048x11008, .f32⟩
  | .hbm, ⟨28, _⟩ => ⟨S8x2048x11008, .f32⟩
  | .hbm, ⟨29, _⟩ => ⟨S_, .f32⟩
  | .hbm, ⟨30, _⟩ => ⟨S8x2048x11008, .f32⟩
  | .hbm, ⟨31, _⟩ => ⟨S8x2048x11008, .f32⟩
  | .hbm, ⟨32, _⟩ => ⟨S8x2048x11008, .f32⟩
  | .hbm, ⟨33, _⟩ => ⟨S8x2048x11008, .f32⟩
  | .hbm, ⟨34, _⟩ => ⟨S8x2048x11008, .bf16⟩
  | .hbm, ⟨35, _⟩ => ⟨S16384x11008, .bf16⟩
  | .hbm, ⟨36, _⟩ => ⟨S_, .i32⟩
  | .hbm, ⟨37, _⟩ => ⟨S_, .bf16⟩
  | .hbm, ⟨38, _⟩ => ⟨S16384x11264, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call1_v0 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S8x2048x4096 : Shape := ⟨3, ![8, 2048, 4096]⟩
abbrev S8x2048x11008 : Shape := ⟨3, ![8, 2048, 11008]⟩
abbrev S1x11008x4096 : Shape := ⟨3, ![1, 11008, 4096]⟩
abbrev S16384x11008 : Shape := ⟨2, ![16384, 11008]⟩
abbrev S_ : Shape := ⟨0, ![]⟩
abbrev S16384x11264 : Shape := ⟨2, ![16384, 11264]⟩
abbrev S1x11264x4096 : Shape := ⟨3, ![1, 11264, 4096]⟩
abbrev S16384x4096 : Shape := ⟨2, ![16384, 4096]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩
abbrev S1024x2560 : Shape := ⟨2, ![1024, 2560]⟩
abbrev S1x2560x1024 : Shape := ⟨3, ![1, 2560, 1024]⟩
abbrev S2560x1024 : Shape := ⟨2, ![2560, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S8x2048x11008, .f32⟩
  | .hbm, ⟨2, _⟩ => ⟨S1x11008x4096, .f32⟩
  | .hbm, ⟨3, _⟩ => ⟨S16384x11008, .f32⟩
  | .hbm, ⟨4, _⟩ => ⟨S16384x11008, .bf16⟩
  | .hbm, ⟨5, _⟩ => ⟨S_, .i32⟩
  | .hbm, ⟨6, _⟩ => ⟨S_, .bf16⟩
  | .hbm, ⟨7, _⟩ => ⟨S16384x11264, .bf16⟩
  | .hbm, ⟨8, _⟩ => ⟨S_, .f32⟩
  | .hbm, ⟨9, _⟩ => ⟨S1x11008x4096, .f32⟩
  | .hbm, ⟨10, _⟩ => ⟨S1x11008x4096, .f32⟩
  | .hbm, ⟨11, _⟩ => ⟨S1x11008x4096, .bf16⟩
  | .hbm, ⟨12, _⟩ => ⟨S_, .i32⟩
  | .hbm, ⟨13, _⟩ => ⟨S_, .bf16⟩
  | .hbm, ⟨14, _⟩ => ⟨S1x11264x4096, .bf16⟩
  | .hbm, ⟨15, _⟩ => ⟨S16384x4096, .f32⟩
  | .hbm, ⟨16, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c3_i32 : BitVec 32 := 3#32
  let v3 : BitVec 1 := Scalar.cmpi .slt arg2 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c3_i32_2 : BitVec 32 := 3#32
  let v6 : BitVec 1 := Scalar.cmpi .eq arg2 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8x2048x4096 : Shape := ⟨3, ![8, 2048, 4096]⟩
abbrev S8x2048x11008 : Shape := ⟨3, ![8, 2048, 11008]⟩
abbrev S1x11008x4096 : Shape := ⟨3, ![1, 11008, 4096]⟩
abbrev S11008x4096 : Shape := ⟨2, ![11008, 4096]⟩
abbrev S_ : Shape := ⟨0, ![]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x2048x11008, .f32⟩
  | .hbm, ⟨2, _⟩ => ⟨S1x11008x4096, .f32⟩
  | .hbm, ⟨3, _⟩ => ⟨S11008x4096, .f32⟩
  | .hbm, ⟨4, _⟩ => ⟨S8x2048x4096, .f32⟩
  | .hbm, ⟨5, _⟩ => ⟨S_, .f32⟩
  | .hbm, ⟨6, _⟩ => ⟨S8x2048x4096, .f32⟩
  | .hbm, ⟨7, _⟩ => ⟨S8x2048x4096, .f32⟩
  | .hbm, ⟨8, _⟩ => ⟨S8x2048x4096, .f32⟩
  | .hbm, ⟨9, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S8x2048x4096 : Shape := ⟨3, ![8, 2048, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x2048x4096 : Shape := ⟨3, ![8, 2048, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S8x2048x4096, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | .hbm, ⟨18, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S8x2048x4096 : Shape := ⟨3, ![8, 2048, 4096]⟩
abbrev S1x4096 : Shape := ⟨2, ![1, 4096]⟩
abbrev S1x4096x12288 : Shape := ⟨3, ![1, 4096, 12288]⟩
abbrev S16384x4096 : Shape := ⟨2, ![16384, 4096]⟩
abbrev S16384x32x128 : Shape := ⟨3, ![16384, 32, 128]⟩
abbrev S_ : Shape := ⟨0, ![]⟩
abbrev S16384x128 : Shape := ⟨2, ![16384, 128]⟩
abbrev S1x4096x1 : Shape := ⟨3, ![1, 4096, 1]⟩
abbrev S16384x12288 : Shape := ⟨2, ![16384, 12288]⟩
abbrev S1024x4096 : Shape := ⟨2, ![1024, 4096]⟩
abbrev S1024x128 : Shape := ⟨2, ![1024, 128]⟩
abbrev S1x4096x1024 : Shape := ⟨3, ![1, 4096, 1024]⟩
abbrev S1024x1024 : Shape := ⟨2, ![1024, 1024]⟩
abbrev S1024 : Shape := ⟨1, ![1024]⟩
abbrev S1024x1 : Shape := ⟨2, ![1024, 1]⟩
abbrev S4096x1024 : Shape := ⟨2, ![4096, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x12288, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S16384x32x128, .f32⟩
  | .hbm, ⟨7, _⟩ => ⟨S_, .f32⟩
  | .hbm, ⟨8, _⟩ => ⟨S16384x128, .f32⟩
  | .hbm, ⟨9, _⟩ => ⟨S1x4096x1, .f32⟩
  | .hbm, ⟨10, _⟩ => ⟨S1x4096x12288, .f32⟩
  | .hbm, ⟨11, _⟩ => ⟨S1x4096x12288, .f32⟩
  | .hbm, ⟨12, _⟩ => ⟨S1x4096x12288, .bf16⟩
  | .hbm, ⟨13, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1024x1024, .bf16⟩
  | .local _ .vmem, ⟨7, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x2048x4096 : Shape := ⟨3, ![8, 2048, 4096]⟩
abbrev S1x4096 : Shape := ⟨2, ![1, 4096]⟩
abbrev S1x4096x12288 : Shape := ⟨3, ![1, 4096, 12288]⟩
abbrev S_ : Shape := ⟨0, ![]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩
abbrev S4096x12288 : Shape := ⟨2, ![4096, 12288]⟩
abbrev S8x2048x12288 : Shape := ⟨3, ![8, 2048, 12288]⟩
abbrev S16384x12288 : Shape := ⟨2, ![16384, 12288]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x12288, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S4096x12288, .f32⟩
  | .hbm, ⟨21, _⟩ => ⟨S8x2048x12288, .f32⟩
  | .hbm, ⟨22, _⟩ => ⟨S8x2048x12288, .f32⟩
  | .hbm, ⟨23, _⟩ => ⟨S8x2048x12288, .f32⟩
  | .hbm, ⟨24, _⟩ => ⟨S_, .f32⟩
  | .hbm, ⟨25, _⟩ => ⟨S8x2048x12288, .f32⟩
  | .hbm, ⟨26, _⟩ => ⟨S8x2048x12288, .f32⟩
  | .hbm, ⟨27, _⟩ => ⟨S_, .f32⟩
  | .hbm, ⟨28, _⟩ => ⟨S8x2048x12288, .f32⟩
  | .hbm, ⟨29, _⟩ => ⟨S8x2048x12288, .f32⟩
  | .hbm, ⟨30, _⟩ => ⟨S8x2048x12288, .bf16⟩
  | .hbm, ⟨31, _⟩ => ⟨S16384x12288, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel6.lean ====
abbrev S8x2048x1536 : Shape := ⟨3, ![8, 2048, 1536]⟩
abbrev S8x2048x1024 : Shape := ⟨3, ![8, 2048, 1024]⟩
abbrev S8x2048x12288 : Shape := ⟨3, ![8, 2048, 12288]⟩
abbrev S1x4096x4096 : Shape := ⟨3, ![1, 4096, 4096]⟩
abbrev S16384x1536 : Shape := ⟨2, ![16384, 1536]⟩
abbrev S16384x1024 : Shape := ⟨2, ![16384, 1024]⟩
abbrev S16384x12288 : Shape := ⟨2, ![16384, 12288]⟩
abbrev S16384x4096 : Shape := ⟨2, ![16384, 4096]⟩
abbrev S1024x1536 : Shape := ⟨2, ![1024, 1536]⟩
abbrev S1024x1024 : Shape := ⟨2, ![1024, 1024]⟩
abbrev S1x512x1024 : Shape := ⟨3, ![1, 512, 1024]⟩
abbrev S512x1024 : Shape := ⟨2, ![512, 1024]⟩
abbrev S1536x1024 : Shape := ⟨2, ![1536, 1024]⟩

abbrev nBuf : Space → Nat
  | .hbm => 15
  | .vmem => 30
  | .smem => 0
  | _ => 0

abbrev bufTy : (tb : Table) → Fin (tcTables nBuf tb) → BufTy
  | .hbm, ⟨0, _⟩ => ⟨S8x2048x1536, .f32⟩
  | .hbm, ⟨1, _⟩ => ⟨S8x2048x1024, .f32⟩
  | .hbm, ⟨2, _⟩ => ⟨S8x2048x1536, .f32⟩
  | .hbm, ⟨3, _⟩ => ⟨S8x2048x12288, .f32⟩
  | .hbm, ⟨4, _⟩ => ⟨S1x4096x4096, .f32⟩
  | .hbm, ⟨5, _⟩ => ⟨S16384x1536, .f32⟩
  | .hbm, ⟨6, _⟩ => ⟨S16384x1536, .bf16⟩
  | .hbm, ⟨7, _⟩ => ⟨S16384x1024, .f32⟩
  | .hbm, ⟨8, _⟩ => ⟨S16384x1024, .bf16⟩
  | .hbm, ⟨9, _⟩ => ⟨S16384x1536, .f32⟩
  | .hbm, ⟨10, _⟩ => ⟨S16384x1536, .bf16⟩
  | .hbm, ⟨11, _⟩ => ⟨S1x4096x4096, .bf16⟩
  | .hbm, ⟨12, _⟩ => ⟨S16384x12288, .f32⟩
  | .hbm, ⟨13, _⟩ => ⟨S16384x12288, .bf16⟩
  | .hbm, ⟨14, _⟩ => ⟨S16384x4096, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S8x2048x1536 : Shape := ⟨3, ![8, 2048, 1536]⟩
abbrev S8x2048x1024 : Shape := ⟨3, ![8, 2048, 1024]⟩
abbrev S8x2048x12288 : Shape := ⟨3, ![8, 2048, 12288]⟩
abbrev S1x4096x4096 : Shape := ⟨3, ![1, 4096, 4096]⟩
abbrev S8x2048x4096 : Shape := ⟨3, ![8, 2048, 4096]⟩
abbrev S4096x4096 : Shape := ⟨2, ![4096, 4096]⟩
abbrev S1536x4096 : Shape := ⟨2, ![1536, 4096]⟩
abbrev S1024x4096 : Shape := ⟨2, ![1024, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S8x2048x1024, .f32⟩
  | .hbm, ⟨2, _⟩ => ⟨S8x2048x1536, .f32⟩
  | .hbm, ⟨3, _⟩ => ⟨S8x2048x12288, .f32⟩
  | .hbm, ⟨4, _⟩ => ⟨S1x4096x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S4096x4096, .f32⟩
  | .hbm, ⟨9, _⟩ => ⟨S1536x4096, .f32⟩
  | .hbm, ⟨10, _⟩ => ⟨S1024x4096, .f32⟩
  | .hbm, ⟨11, _⟩ => ⟨S1536x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S8x2048x4096, .f32⟩
  | .hbm, ⟨20, _⟩ => ⟨S8x2048x4096, .bf16⟩
  | .hbm, ⟨21, _⟩ => ⟨S16384x4096, .bf16⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel7.lean ====
abbrev S8x2048x4096 : Shape := ⟨3, ![8, 2048, 4096]⟩
abbrev S1x4096x4096 : Shape := ⟨3, ![1, 4096, 4096]⟩
abbrev S16384x4096 : Shape := ⟨2, ![16384, 4096]⟩
abbrev S16384x128 : Shape := ⟨2, ![16384, 128]⟩
abbrev S1024x4096 : Shape := ⟨2, ![1024, 4096]⟩
abbrev S1x4096x512 : Shape := ⟨3, ![1, 4096, 512]⟩
abbrev S1024x512 : Shape := ⟨2, ![1024, 512]⟩
abbrev S1024x128 : Shape := ⟨2, ![1024, 128]⟩
abbrev S4096x512 : Shape := ⟨2, ![4096, 512]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x4096, .f32⟩
  | .hbm, ⟨1, _⟩ => ⟨S8x2048x4096, .f32⟩
  | .hbm, ⟨2, _⟩ => ⟨S1x4096x4096, .f32⟩
  | .hbm, ⟨3, _⟩ => ⟨S16384x4096, .f32⟩
  | .hbm, ⟨4, _⟩ => ⟨S16384x4096, .bf16⟩
  | .hbm, ⟨5, _⟩ => ⟨S1x4096x4096, .bf16⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def k0_cond3 (i : grid0.Coords) : BitVec 1 :=
  let arg1 : BitVec 32 := BitVec.ofNat 32 (i 1).val
  let c0_i32_15 : BitVec 32 := 0#32
  let v27 : BitVec 1 := Scalar.cmpi .eq arg1 c0_i32_15
  let v28 : BitVec 32 := Scalar.extui v27
  let c0_i32_16 : BitVec 32 := 0#32
  let v29 : BitVec 1 := Scalar.cmpi .ne v28 c0_i32_16
  v29

def k0_cond4 (i : grid0.Coords) : BitVec 1 :=
  let arg1 : BitVec 32 := BitVec.ofNat 32 (i 1).val
  let c0_i32_17 : BitVec 32 := 0#32
  let v30 : BitVec 1 := Scalar.cmpi .sgt arg1 c0_i32_17
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference7Ideal.lean ====
abbrev S8x2048x4096 : Shape := ⟨3, ![8, 2048, 4096]⟩
abbrev S1x4096x4096 : Shape := ⟨3, ![1, 4096, 4096]⟩
abbrev S4096x4096 : Shape := ⟨2, ![4096, 4096]⟩
abbrev S16384x4096 : Shape := ⟨2, ![16384, 4096]⟩
abbrev S16384x32x128 : Shape := ⟨3, ![16384, 32, 128]⟩
abbrev S_ : Shape := ⟨0, ![]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x2048x4096, .f32⟩
  | .hbm, ⟨2, _⟩ => ⟨S1x4096x4096, .f32⟩
  | .hbm, ⟨3, _⟩ => ⟨S4096x4096, .f32⟩
  | .hbm, ⟨4, _⟩ => ⟨S8x2048x4096, .f32⟩
  | .hbm, ⟨5, _⟩ => ⟨S8x2048x4096, .f32⟩
  | .hbm, ⟨6, _⟩ => ⟨S16384x4096, .f32⟩
  | .hbm, ⟨7, _⟩ => ⟨S16384x4096, .f32⟩
  | .hbm, ⟨8, _⟩ => ⟨S16384x32x128, .f32⟩
  | .hbm, ⟨9, _⟩ => ⟨S16384x4096, .bf16⟩
  | .hbm, ⟨10, _⟩ => ⟨S_, .f32⟩
  | .hbm, ⟨11, _⟩ => ⟨S16384x128, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S8x2048x4096 : Shape := ⟨3, ![8, 2048, 4096]⟩
abbrev S1x4096 : Shape := ⟨2, ![1, 4096]⟩
abbrev S1x4096x11296 : Shape := ⟨3, ![1, 4096, 11296]⟩
abbrev S16384x4096 : Shape := ⟨2, ![16384, 4096]⟩
abbrev S1x4096x1 : Shape := ⟨3, ![1, 4096, 1]⟩
abbrev S1x4096x192 : Shape := ⟨3, ![1, 4096, 192]⟩
abbrev S_ : Shape := ⟨0, ![]⟩
abbrev S1x4096x64 : Shape := ⟨3, ![1, 4096, 64]⟩
abbrev S1x4096x1024 : Shape := ⟨3, ![1, 4096, 1024]⟩
abbrev S1x4096x1536 : Shape := ⟨3, ![1, 4096, 1536]⟩
abbrev S1x4096x32 : Shape := ⟨3, ![1, 4096, 32]⟩
abbrev S1x4096x480 : Shape := ⟨3, ![1, 4096, 480]⟩
abbrev S1x4096x2048 : Shape := ⟨3, ![1, 4096, 2048]⟩
abbrev S1x4096x10240 : Shape := ⟨3, ![1, 4096, 10240]⟩
abbrev S1x4096x12288 : Shape := ⟨3, ![1, 4096, 12288]⟩
abbrev S1x12288x4096 : Shape := ⟨3, ![1, 12288, 4096]⟩
abbrev S16384x32x128 : Shape := ⟨3, ![16384, 32, 128]⟩
abbrev S16384x128 : Shape := ⟨2, ![16384, 128]⟩
abbrev S16384x12288 : Shape := ⟨2, ![16384, 12288]⟩
abbrev S1024x4096 : Shape := ⟨2, ![1024, 4096]⟩
abbrev S1024x128 : Shape := ⟨2, ![1024, 128]⟩
abbrev S1x1024x4096 : Shape := ⟨3, ![1, 1024, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 52
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x11296, .f32⟩
  | .hbm, ⟨3, _⟩ => ⟨S16384x4096, .f32⟩
  | .hbm, ⟨4, _⟩ => ⟨S1x4096x1, .f32⟩
  | .hbm, ⟨5, _⟩ => ⟨S1x4096x11296, .f32⟩
  | .hbm, ⟨6, _⟩ => ⟨S1x4096x11296, .f32⟩
  | .hbm, ⟨7, _⟩ => ⟨S1x4096x11296, .bf16⟩
  | .hbm, ⟨8, _⟩ => ⟨S1x4096x192, .bf16⟩
  | .hbm, ⟨9, _⟩ => ⟨S_, .bf16⟩
  | .hbm, ⟨10, _⟩ => ⟨S1x4096x64, .bf16⟩
  | .hbm, ⟨11, _⟩ => ⟨S1x4096x192, .bf16⟩
  | .hbm, ⟨12, _⟩ => ⟨S_, .bf16⟩
  | .hbm, ⟨13, _⟩ => ⟨S1x4096x64, .bf16⟩
  | .hbm, ⟨14, _⟩ => ⟨S1x4096x192, .bf16⟩
  | .hbm, ⟨15, _⟩ => ⟨S_, .bf16⟩
  | .hbm, ⟨16, _⟩ => ⟨S1x4096x64, .bf16⟩
  | .hbm, ⟨17, _⟩ => ⟨S1x4096x192, .bf16⟩
  | .hbm, ⟨18, _⟩ => ⟨S_, .bf16⟩
  | .hbm, ⟨19, _⟩ => ⟨S1x4096x64, .bf16⟩
  | .hbm, ⟨20, _⟩ => ⟨S1x4096x192, .bf16⟩
  | .hbm, ⟨21, _⟩ => ⟨S_, .bf16⟩
  | .hbm, ⟨22, _⟩ => ⟨S1x4096x64, .bf16⟩
  | .hbm, ⟨23, _⟩ => ⟨S1x4096x192, .bf16⟩
  | .hbm, ⟨24, _⟩ => ⟨S_, .bf16⟩
  | .hbm, ⟨25, _⟩ => ⟨S1x4096x64, .bf16⟩
  | .hbm, ⟨26, _⟩ => ⟨S1x4096x192, .bf16⟩
  | .hbm, ⟨27, _⟩ => ⟨S_, .bf16⟩
  | .hbm, ⟨28, _⟩ => ⟨S1x4096x64, .bf16⟩
  | .hbm, ⟨29, _⟩ => ⟨S1x4096x192, .bf16⟩
  | .hbm, ⟨30, _⟩ => ⟨S_, .bf16⟩
  | .hbm, ⟨31, _⟩ => ⟨S1x4096x64, .bf16⟩
  | .hbm, ⟨32, _⟩ => ⟨S1x4096x1024, .bf16⟩
  | .hbm, ⟨33, _⟩ => ⟨S1x4096x1536, .bf16⟩
  | .hbm, ⟨34, _⟩ => ⟨S1x4096x1536, .bf16⟩
  | .hbm, ⟨35, _⟩ => ⟨S1x4096x1536, .bf16⟩
  | .hbm, ⟨36, _⟩ => ⟨S1x4096x1536, .bf16⟩
  | .hbm, ⟨37, _⟩ => ⟨S1x4096x1536, .bf16⟩
  | .hbm, ⟨38, _⟩ => ⟨S1x4096x32, .bf16⟩
  | .hbm, ⟨39, _⟩ => ⟨S_, .bf16⟩
  | .hbm, ⟨40, _⟩ => ⟨S1x4096x480, .bf16⟩
  | .hbm, ⟨41, _⟩ => ⟨S1x4096x1024, .bf16⟩
  | .hbm, ⟨42, _⟩ => ⟨S1x4096x2048, .bf16⟩
  | .hbm, ⟨43, _⟩ => ⟨S1x4096x10240, .bf16⟩
  | .hbm, ⟨44, _⟩ => ⟨S1x4096x12288, .bf16⟩
  | .hbm, ⟨45, _⟩ => ⟨S1x12288x4096, .bf16⟩
  | .hbm, ⟨46, _⟩ => ⟨S16384x4096, .bf16⟩
  | .hbm, ⟨47, _⟩ => ⟨S16384x4096, .f32⟩
  | .hbm, ⟨48, _⟩ => ⟨S16384x32x128, .f32⟩
  | .hbm, ⟨49, _⟩ => ⟨S_, .f32⟩
  | .hbm, ⟨50, _⟩ => ⟨S16384x128, .f32⟩
  | .hbm, ⟨51, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x1024x4096, .bf16⟩
  | .local _ .vmem, ⟨5, _⟩ => ⟨S1x1024x4096, .bf16⟩
  | .local _ .vmem, ⟨6, _⟩ => ⟨S1024x1024, .bf16⟩
  | .local _ .vmem, ⟨7, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x2048x4096 : Shape := ⟨3, ![8, 2048, 4096]⟩
abbrev S1x4096 : Shape := ⟨2, ![1, 4096]⟩
abbrev S1x4096x11296 : Shape := ⟨3, ![1, 4096, 11296]⟩
abbrev S_ : Shape := ⟨0, ![]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩
abbrev S4096x11296 : Shape := ⟨2, ![4096, 11296]⟩
abbrev S8x2048x11296 : Shape := ⟨3, ![8, 2048, 11296]⟩
abbrev S8x2048x768 : Shape := ⟨3, ![8, 2048, 768]⟩
abbrev S8x2048x1536 : Shape := ⟨3, ![8, 2048, 1536]⟩
abbrev S8x2048x16 : Shape := ⟨3, ![8, 2048, 16]⟩
abbrev S8x2048x1024 : Shape := ⟨3, ![8, 2048, 1024]⟩
abbrev S8x2048x32 : Shape := ⟨3, ![8, 2048, 32]⟩
abbrev S8x2048x512 : Shape := ⟨3, ![8, 2048, 512]⟩
abbrev S8x2048x192 : Shape := ⟨3, ![8, 2048, 192]⟩
abbrev S8x2048x256 : Shape := ⟨3, ![8, 2048, 256]⟩
abbrev S8x2048x12288 : Shape := ⟨3, ![8, 2048, 12288]⟩
abbrev S16384x12288 : Shape := ⟨2, ![16384, 12288]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x11296, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S4096x11296, .f32⟩
  | .hbm, ⟨21, _⟩ => ⟨S8x2048x11296, .f32⟩
  | .hbm, ⟨22, _⟩ => ⟨S8x2048x768, .f32⟩
  | .hbm, ⟨23, _⟩ => ⟨S8x2048x768, .f32⟩
  | .hbm, ⟨24, _⟩ => ⟨S8x2048x1536, .f32⟩
  | .hbm, ⟨25, _⟩ => ⟨S8x2048x1536, .f32⟩
  | .hbm, ⟨26, _⟩ => ⟨S8x2048x16, .f32⟩
  | .hbm, ⟨27, _⟩ => ⟨S8x2048x16, .f32⟩
  | .hbm, ⟨28, _⟩ => ⟨S8x2048x1024, .f32⟩
  | .hbm, ⟨29, _⟩ => ⟨S8x2048x1024, .f32⟩
  | .hbm, ⟨30, _⟩ => ⟨S8x2048x1536, .f32⟩
  | .hbm, ⟨31, _⟩ => ⟨S8x2048x1536, .f32⟩
  | .hbm, ⟨32, _⟩ => ⟨S8x2048x1536, .f32⟩
  | .hbm, ⟨33, _⟩ => ⟨S8x2048x32, .f32⟩
  | .hbm, ⟨34, _⟩ => ⟨S_, .i32⟩
  | .hbm, ⟨35, _⟩ => ⟨S_, .f32⟩
  | .hbm, ⟨36, _⟩ => ⟨S8x2048x512, .f32⟩
  | .hbm, ⟨37, _⟩ => ⟨S8x2048x192, .f32⟩
  | .hbm, ⟨38, _⟩ => ⟨S8x2048x192, .f32⟩
  | .hbm, ⟨39, _⟩ => ⟨S8x2048x192, .f32⟩
  | .hbm, ⟨40, _⟩ => ⟨S8x2048x192, .f32⟩
  | .hbm, ⟨41, _⟩ => ⟨S_, .i32⟩
  | .hbm, ⟨42, _⟩ => ⟨S_, .f32⟩
  | .hbm, ⟨43, _⟩ => ⟨S8x2048x256, .f32⟩
  | .hbm, ⟨44, _⟩ => ⟨S_, .i32⟩
  | .hbm, ⟨45, _⟩ => ⟨S_, .f32⟩
  | .hbm, ⟨46, _⟩ => ⟨S8x2048x256, .f32⟩
  | .hbm, ⟨47, _⟩ => ⟨S_, .i32⟩
  | .hbm, ⟨48, _⟩ => ⟨S_, .f32⟩
  | .hbm, ⟨49, _⟩ => ⟨S8x2048x256, .f32⟩
  | .hbm, ⟨50, _⟩ => ⟨S_, .i32⟩
  | .hbm, ⟨51, _⟩ => ⟨S_, .f32⟩
  | .hbm, ⟨52, _⟩ => ⟨S8x2048x256, .f32⟩
  | .hbm, ⟨53, _⟩ => ⟨S8x2048x1024, .f32⟩
  | .hbm, ⟨54, _⟩ => ⟨S8x2048x192, .f32⟩
  | .hbm, ⟨55, _⟩ => ⟨S8x2048x192, .f32⟩
  | .hbm, ⟨56, _⟩ => ⟨S8x2048x192, .f32⟩
  | .hbm, ⟨57, _⟩ => ⟨S8x2048x192, .f32⟩
  | .hbm, ⟨58, _⟩ => ⟨S_, .i32⟩
  | .hbm, ⟨59, _⟩ => ⟨S_, .f32⟩
  | .hbm, ⟨60, _⟩ => ⟨S8x2048x256, .f32⟩
  | .hbm, ⟨61, _⟩ => ⟨S_, .i32⟩
  | .hbm, ⟨62, _⟩ => ⟨S_, .f32⟩
  | .hbm, ⟨63, _⟩ => ⟨S8x2048x256, .f32⟩
  | .hbm, ⟨64, _⟩ => ⟨S_, .i32⟩
  | .hbm, ⟨65, _⟩ => ⟨S_, .f32⟩
  | .hbm, ⟨66, _⟩ => ⟨S8x2048x256, .f32⟩
  | .hbm, ⟨67, _⟩ => ⟨S_, .i32⟩
  | .hbm, ⟨68, _⟩ => ⟨S_, .f32⟩
  | .hbm, ⟨69, _⟩ => ⟨S8x2048x256, .f32⟩
  | .hbm, ⟨70, _⟩ => ⟨S8x2048x1024, .f32⟩
  | .hbm, ⟨71, _⟩ => ⟨S8x2048x12288, .f32⟩
  | .hbm, ⟨72, _⟩ => ⟨S16384x12288, .f32⟩
  | .hbm, ⟨73, _⟩ => ⟨S16384x12288, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_call1_v0 : Ref sig .tc := ⟨.hbm, 42, rfl⟩
abbrev main_v33 : Ref sig .tc := ⟨.hbm, 43, rfl⟩
abbrev main_c_3 : Ref sig .tc := ⟨.hbm, 44, rfl⟩
abbrev main_call2_v0 : Ref sig .tc := ⟨.hbm, 45, rfl⟩
abbrev main_v34 : Ref sig .tc := ⟨.hbm, 46, rfl⟩
abbrev main_c_4 : Ref sig .tc := ⟨.hbm, 47, rfl⟩
abbrev main_call3_v0 : Ref sig .tc := ⟨.hbm, 48, rfl⟩
abbrev main_v35 : Ref sig .tc := ⟨.hbm, 49, rfl⟩
abbrev main_c_5 : Ref sig .tc := ⟨.hbm, 50, rfl⟩
abbrev main_call4_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_call5_v0 : Ref sig .tc := ⟨.hbm, 59, rfl⟩
abbrev main_v42 : Ref sig .tc := ⟨.hbm, 60, rfl⟩
abbrev main_c_7 : Ref sig .tc := ⟨.hbm, 61, rfl⟩
abbrev main_call6_v0 : Ref sig .tc := ⟨.hbm, 62, rfl⟩
abbrev main_v43 : Ref sig .tc := ⟨.hbm, 63, rfl⟩
abbrev main_c_8 : Ref sig .tc := ⟨.hbm, 64, rfl⟩
abbrev main_call7_v0 : Ref sig .tc := ⟨.hbm, 65, rfl⟩
abbrev main_v44 : Ref sig .tc := ⟨.hbm, 66, rfl⟩
abbrev main_c_9 : Ref sig .tc := ⟨.hbm, 67, rfl⟩
abbrev main_call8_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.Ffn.Host.lean ====
/- What the arrays that the host prepares for the feed-forward network's first kernel hold: the stream, the sums of
squares of its lanes and the scaled weights. -/
module

public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Gen.Kernel2Ideal.Value

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Idealize.ShloMosaic.Pipeline

variable (m : (ℓ : Loc nD τ sig) → Buf (Elt Ideal) ℓ) (c : Dev nD)

/-- The layer's input. -/
abbrev xarg : Vec Ideal S8x2048x4096 .f32 := m ((c : Thread nD τ).loc main_arg0)
/-- The norm's gains. -/
abbrev garg : Vec Ideal S1x4096 .f32 := m ((c : Thread nD τ).loc main_arg1)
/-- The weights. -/
abbrev warg : Vec Ideal S1x4096x22016 .f32 := m ((c : Thread nD τ).loc main_arg2)

/-- Entry `k` of row `r`, where the rows of all images follow one another. -/
def row (X : Vec Ideal S8x2048x4096 .f32) (r : Fin 16384) (k : Fin 4096) : EReal :=
  X (ix3 (⟨r / 2048, by omega⟩ : Fin 8) (⟨r % 2048, by omega⟩ : Fin 2048) k)

theorem stream_at (r : Fin 16384) (k : Fin 4096) :
    (V m c main_v1 : Vec Ideal S16384x4096 .bf16) (ix2 r k) = row (xarg m c) r k := by
  generalize hR : row (xarg m c) r k = R
  unfold V
  after_reads_at
  subst hR
  rfl

theorem squares_at (r : Fin 16384) (l : Fin 128) :
    (V m c main_v4 : Vec Ideal S16384x128 .f32) (ix2 r l) =
      ∑ g : Fin 32, row (xarg m c) r ⟨g * 128 + l, by omega⟩ * row (xarg m c) r ⟨g * 128 + l, by omega⟩ := by
  generalize hR : (∑ g : Fin 32, row (xarg m c) r ⟨g * 128 + l, by omega⟩ * row (xarg m c) r ⟨g * 128 + l, by omega⟩) = R
  unfold V
  after_reads_at
  subst hR
  rfl

theorem weights_at (k : Fin 4096) (j : Fin 22016) :
    (V m c main_v8 : Vec Ideal S1x4096x22016 .bf16) (ix3 (0 : Fin 1) k j) =
      warg m c (ix3 (0 : Fin 1) k j) * garg m c (ix2 (0 : Fin 1) k) := by
  generalize hR : warg m c (ix3 (0 : Fin 1) k j) * garg m c (ix2 (0 : Fin 1) k) = R
  unfold V
  after_reads_at
  subst hR
  rfl

end Cert.Kernel2Ideal.Ffn

end
-- ==== Proof.Ffn.Math.lean ====
/- The numbers behind the feed-forward network: the norm's factor is a real number, so it goes in and out of sums; the kernel's gate is the logistic function. -/
module

public import Idealize.ShloMosaic.PureOps.Ideal
public import Mathlib.Data.EReal.Operations
public import Mathlib.Data.EReal.Inv
public import Mathlib.Algebra.BigOperators.Fin

@[expose] public section

noncomputable section

namespace Cert.Ffn

open Idealize.ShloMosaic

/-- A nonnegative real factor goes inside a sum. -/
theorem mul_sum_real {ι : Type} (s : Finset ι) (a : ι → EReal) (c : ℝ) (hc : 0 ≤ c) :
    (c : EReal) * (∑ t ∈ s, a t) = ∑ t ∈ s, (c : EReal) * a t := by
  classical
  induction s using Finset.induction_on with
  | empty => simp
  | insert i s hi ih =>
    rw [Finset.sum_insert hi, Finset.sum_insert hi, ← ih]
    exact EReal.left_distrib_of_nonneg_of_ne_top (by exact_mod_cast hc) (EReal.coe_ne_top c) _ _

theorem half_eq : Ideal.ofBits FTy.f32 0x3F000000#32 = (((1 / 2 : ℝ)) : EReal) := by
  simp [Ideal.ofBits, Ideal.ieee]
  rw [← EReal.coe_mul]; norm_num

theorem one_eq : Ideal.ofBits FTy.f32 0x3F800000#32 = (1 : EReal) := by
  simp [Ideal.ofBits, Ideal.ieee]
  rw [← EReal.coe_mul]; norm_num

theorem width_eq : Ideal.ofBits FTy.f32 0x45800000#32 = ((4096 : ℝ) : EReal) := by
  simp [Ideal.ofBits, Ideal.ieee]
  rw [← EReal.coe_mul]; norm_num

theorem width_inv_eq : Ideal.ofBits FTy.f32 0x39800000#32 = ((1 / 4096 : ℝ) : EReal) := by
  simp [Ideal.ofBits, Ideal.ieee]
  rw [← EReal.coe_mul]; norm_num

theorem eps_eq : ∃ e : ℝ, 0 < e ∧ Ideal.ofBits FTy.f32 0x358637BD#32 = (e : EReal) := by
  refine ⟨8796093 * 2 ^ (-43 : ℤ), by positivity, ?_⟩
  simp [Ideal.ofBits, Ideal.ieee]

theorem real_gate (a : ℝ) : (1 / 2) * Real.tanh ((1 / 2) * a) + 1 / 2 = (1 + Real.exp (-a))⁻¹ := by
  have hu : 0 < Real.exp (1 / 2 * a) := Real.exp_pos _
  have e1 : Real.exp (-(1 / 2 * a)) = (Real.exp (1 / 2 * a))⁻¹ := Real.exp_neg _
  have e2 : Real.exp (-a) = (Real.exp (1 / 2 * a))⁻¹ * (Real.exp (1 / 2 * a))⁻¹ := by
    rw [← e1, ← Real.exp_add]; congr 1; ring
  rw [Real.tanh_eq_sinh_div_cosh, Real.sinh_eq, Real.cosh_eq, e1, e2]
  generalize Real.exp (1 / 2 * a) = u at hu
  field_simp
  ring

/-- The kernel's gate is the logistic function, at the infinities too. -/
theorem gate_eq (a : EReal) :
    Ideal.ofBits FTy.f32 0x3F000000#32 * Ideal.tanh (Ideal.ofBits FTy.f32 0x3F000000#32 * a) + Ideal.ofBits FTy.f32 0x3F000000#32
      = Ideal.logistic a := by
  rw [half_eq]
  induction a with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, ← EReal.coe_mul, ← EReal.coe_add, Ideal.logistic_coe, real_gate]

/-- The norm's factor from the sum of squares. -/
def rstd (s : EReal) : EReal := Ideal.rsqrt (s * Ideal.ofBits FTy.f32 0x39800000#32 + Ideal.ofBits FTy.f32 0x358637BD#32)

theorem sq_nonneg (x : EReal) : 0 ≤ x * x := by
  induction x with
  | bot => simp
  | top => simp
  | coe r => rw [← EReal.coe_mul]; exact_mod_cast mul_self_nonneg r

theorem rstd_real (s : EReal) (hs : 0 ≤ s) : ∃ r : ℝ, 0 ≤ r ∧ rstd s = (r : EReal) := by
  obtain ⟨e, he, h⟩ := eps_eq
  unfold rstd
  rw [h, width_inv_eq]
  induction s with
  | bot => simp at hs
  | top => exact ⟨0, le_refl _, by rw [EReal.top_mul_coe_of_pos (by norm_num), EReal.top_add_coe, Ideal.rsqrt_top]; rfl⟩
  | coe r =>
    have hr : 0 ≤ r := by exact_mod_cast hs
    have hp : 0 < r * (1 / 4096) + e := by positivity
    refine ⟨(Real.sqrt (r * (1 / 4096) + e))⁻¹, by positivity, ?_⟩
    rw [← EReal.coe_mul, ← EReal.coe_add, Ideal.rsqrt_coe, if_neg (not_lt.2 hp.le), if_neg hp.ne']

/-- The mean of the squares, divided or multiplied. -/
theorem mean_eq (s : EReal) :
    Ideal.rsqrt (Ideal.div s (Ideal.ofBits FTy.f32 0x45800000#32) + Ideal.ofBits FTy.f32 0x358637BD#32) = rstd s := by
  unfold rstd
  rw [width_eq, width_inv_eq, Ideal.div_coe (by norm_num)]

/-- A product of the normed row with a weight column: the factor and the gains moved. -/
theorem normed_dot (x g w : Fin 4096 → EReal) :
    rstd (∑ k, x k * x k) * ∑ k, x k * (w k * g k) = ∑ k, x k * rstd (∑ k, x k * x k) * g k * w k := by
  obtain ⟨r, hr, h⟩ := rstd_real (∑ k, x k * x k) (Finset.sum_nonneg fun k _ => sq_nonneg (x k))
  rw [h, mul_sum_real _ _ r hr]
  refine Finset.sum_congr rfl fun k _ => ?_
  ac_rfl

/-- The sum of a row over its 32 groups of 128 lanes. -/
theorem sum_lanes (f : Fin 4096 → EReal) :
    ∑ l : Fin 128, ∑ g : Fin 32, f ⟨g * 128 + l, by omega⟩ = ∑ k, f k := by
  rw [Finset.sum_comm]
  have h := (finProdFinEquiv (m := 32) (n := 128)).sum_comp f
  rw [← h, Fintype.sum_prod_type]
  refine Finset.sum_congr rfl fun g _ => Finset.sum_congr rfl fun l _ => congrArg f (Fin.ext ?_)
  show g.val * 128 + l.val = l.val + 128 * g.val
  omega

end Cert.Ffn

end
-- ==== Proof.Ffn.KerVal.lean ====
/- What one grid point of the feed-forward network's first kernel computes, entry by entry. -/
module

public import proofs.«01_k».proof.Proof.Gen.Kernel2Ideal.Skeleton
public import proofs.«01_k».proof.Proof.Ffn.Math
public import Idealize.ShloMosaic.Lib.Pointwise

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Ffn

/-- An entry of the hidden layer, from a row's sums of squares and its products with two weight columns. -/
def gated (s a b : EReal) : EReal :=
  (rstd s * a) * (Ideal.ofBits FTy.f32 0x3F000000#32 * Ideal.tanh (Ideal.ofBits FTy.f32 0x3F000000#32 * (rstd s * a)) + Ideal.ofBits FTy.f32 0x3F000000#32)
    * (rstd s * b)

variable (x : Vec Ideal S1024x4096 .bf16) (ss : Vec Ideal S1024x128 .f32)

/-- The left half of a block of columns. -/
theorem left_at (wa : Vec Ideal S1x4096x512 .bf16) (wb : Vec Ideal S1x4096x256 .bf16) (r : Fin 1024) (j : Fin 256) :
    k0_pay7 x ss wa wb (ix2 r j) =
      gated (∑ l : Fin 128, ss (ix2 r l)) (∑ k : Fin 4096, x (ix2 r k) * wa (ix3 (0 : Fin 1) k (⟨j, by omega⟩ : Fin 512)))
        (∑ k : Fin 4096, x (ix2 r k) * wb (ix3 (0 : Fin 1) k j)) := by
  unfold gated rstd
  pointwise [k0_pay7, k0_pay6, k0_pay5, k0_pay4]

/-- The right half of a block of columns. -/
theorem right_at (wa : Vec Ideal S1x4096x512 .bf16) (wb : Vec Ideal S1x4096x256 .bf16) (r : Fin 1024) (j : Fin 256) :
    k0_pay1 (k0_pay4 x) (k0_pay5 ss) (k0_pay6 x ss wa) (k0_pay8 wb) (constant S1024x256 .f32 0x00000000#32) (ix2 r j) =
      gated (∑ l : Fin 128, ss (ix2 r l)) (∑ k : Fin 4096, x (ix2 r k) * wa (ix3 (0 : Fin 1) k (⟨256 + j, by omega⟩ : Fin 512)))
        (∑ k : Fin 4096, x (ix2 r k) * wb (ix3 (0 : Fin 1) k j)) := by
  unfold gated rstd
  pointwise [k0_pay1, k0_pay8, k0_pay6, k0_pay5, k0_pay4]

/-- The left half of the last block of columns. -/
theorem last_at (wa wb : Vec Ideal S1x4096x256 .bf16) (r : Fin 1024) (j : Fin 256) :
    k0_pay2 x ss wa wb (ix2 r j) =
      gated (∑ l : Fin 128, ss (ix2 r l)) (∑ k : Fin 4096, x (ix2 r k) * wa (ix3 (0 : Fin 1) k j))
        (∑ k : Fin 4096, x (ix2 r k) * wb (ix3 (0 : Fin 1) k j)) := by
  unfold gated rstd
  pointwise [k0_pay2]

end Cert.Kernel2Ideal.Ffn

end
-- ==== Proof.Ffn.KerOut.lean ====
/- What one grid point of the feed-forward network's first kernel writes, entry by entry. -/
module

public import proofs.«01_k».proof.Proof.Gen.Kernel2Ideal.Value
public import proofs.«01_k».proof.Proof.Ffn.KerVal
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Ffn Idealize.ShloMosaic.Pipeline

/-- Column `j` of the second factor's weights, which come in two blocks of 256 columns. -/
def pairCol (x3 x4 : Vec Ideal S1x4096x256 .bf16) (j : Fin 512) (k : Fin 4096) : EReal :=
  if h : j.val < 256 then x3 (ix3 (0 : Fin 1) k ⟨j, h⟩) else x4 (ix3 (0 : Fin 1) k (⟨j - 256, by omega⟩ : Fin 256))

theorem outA_at (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S1x4096x512 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1024x512 .bf16) (harg7 : arg7.IsWhole) (hc0 : cond0_0 i) (hc1 : ¬cond0_1 i)
    (x0 : Vec Ideal S1024x4096 .bf16) (x1 : Vec Ideal S1024x128 .f32) (x2 : Vec Ideal S1x4096x512 .bf16) (x3 x4 : Vec Ideal S1x4096x256 .bf16) (y : S1024x512.Idx) :
    out0_A_5 c i arg2 harg2 arg3 harg3 arg4 harg4 arg5 harg5 arg6 harg6 arg7 harg7 hc0 hc1 x0 x1 x2 x3 x4 y =
      gated (∑ l : Fin 128, x1 (ix2 (y 0 : Fin 1024) l)) (∑ k : Fin 4096, x0 (ix2 (y 0 : Fin 1024) k) * x2 (ix3 (0 : Fin 1) k (y 1 : Fin 512)))
        (∑ k : Fin 4096, x0 (ix2 (y 0 : Fin 1024) k) * pairCol x3 x4 (y 1 : Fin 512) k) := by
  frame_out
  canon_tiles x h
  · have e0 : (y 0 : Fin 1024) = x 0 := Fin.ext h0
    have e1 : (y 1 : Fin 512) = ⟨256 + (x 1).val, by omega⟩ := Fin.ext h1
    have ex : x = ix2 (x 0 : Fin 1024) (x 1 : Fin 256) := by funext a; fin_cases a <;> rfl
    refine (congrArg (k0_pay1 (k0_pay4 x0) (k0_pay5 x1) (k0_pay6 x0 x1 x2) (k0_pay8 x4) (constant S1024x256 .f32 0x00000000#32)) ex).trans ((right_at x0 x1 x2 x4 (x 0) (x 1)).trans ?_)
    rw [e0, e1]
    refine congrArg (gated _ _) (Finset.sum_congr rfl fun k _ => congrArg _ ?_)
    unfold pairCol
    rw [dif_neg (by dsimp only; omega)]
    exact congrArg (fun j => x4 (ix3 (0 : Fin 1) k j)) (Fin.ext (by dsimp only; omega))
  · have e0 : (y 0 : Fin 1024) = x 0 := Fin.ext h0
    have e1 : (y 1 : Fin 512) = ⟨(x 1).val, by omega⟩ := Fin.ext h1
    have ex : x = ix2 (x 0 : Fin 1024) (x 1 : Fin 256) := by funext a; fin_cases a <;> rfl
    refine (congrArg (k0_pay7 x0 x1 x2 x3) ex).trans ((left_at x0 x1 x2 x3 (x 0) (x 1)).trans ?_)
    rw [e0, e1]
    refine congrArg (gated _ _) (Finset.sum_congr rfl fun k _ => congrArg _ ?_)
    unfold pairCol
    rw [dif_pos (by dsimp only; omega)]
    rfl

theorem outB_at (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S1x4096x512 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1024x512 .bf16) (harg7 : arg7.IsWhole) (hc0 : ¬cond0_0 i) (hc1 : cond0_1 i)
    (x0 : Vec Ideal S1024x4096 .bf16) (x1 : Vec Ideal S1024x128 .f32) (x2 : Vec Ideal S1x4096x512 .bf16) (x3 x4 : Vec Ideal S1x4096x256 .bf16) (y : S1024x512.Idx) :
    out0_B_5 c i arg2 harg2 arg3 harg3 arg4 harg4 arg5 harg5 arg6 harg6 arg7 harg7 hc0 hc1 x0 x1 x2 x3 x4 y =
      if (y 1).val < 256 then
        gated (∑ l : Fin 128, x1 (ix2 (y 0 : Fin 1024) l)) (∑ k : Fin 4096, x0 (ix2 (y 0 : Fin 1024) k) * x2 (ix3 (0 : Fin 1) k (y 1 : Fin 512)))
          (∑ k : Fin 4096, x0 (ix2 (y 0 : Fin 1024) k) * pairCol x3 x4 (y 1 : Fin 512) k)
      else (0 : EReal) := by
  frame_out
  canon_tiles x h
  · rw [if_neg (by omega)]
    have ex : x = ix2 (x 0 : Fin 1024) (x 1 : Fin 256) := by funext a; fin_cases a <;> rfl
    rw [ex]
    pointwise [k0_pay3]
  · have e0 : (y 0 : Fin 1024) = x 0 := Fin.ext h0
    have e1 : (y 1 : Fin 512) = ⟨(x 1).val, by omega⟩ := Fin.ext h1
    have ex : x = ix2 (x 0 : Fin 1024) (x 1 : Fin 256) := by funext a; fin_cases a <;> rfl
    rw [if_pos (by omega), e0, e1]
    refine (congrArg (k0_pay2 x0 x1 _ x3) ex).trans ((last_at x0 x1 _ x3 (x 0) (x 1)).trans ?_)
    refine congrArg₂ (gated _) (Finset.sum_congr rfl fun k _ => congrArg _ ?_) (Finset.sum_congr rfl fun k _ => congrArg _ ?_)
    · refine congrArg x2 (funext fun a => Fin.ext ?_)
      fin_cases a
      · rfl
      · show 0 + 1 * (k : ℕ) = k
        omega
      · show 0 + 1 * (x 1 : ℕ) = x 1
        omega
    · unfold pairCol
      rw [dif_pos (by dsimp only; omega)]
      rfl

end Cert.Kernel2Ideal.Ffn

end
-- ==== Proof.Ffn.Blocks.lean ====
/- The blocks that a grid point of the feed-forward network's first kernel reads, and what it writes. -/
module

public import proofs.«01_k».proof.Proof.Ffn.Host
public import proofs.«01_k».proof.Proof.Ffn.KerOut

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Ffn Idealize.ShloMosaic.Pipeline

variable (m : (ℓ : Loc nD τ sig) → Buf (Elt Ideal) ℓ) (c : Dev nD)

/-- The grid runs over sixteen blocks of rows and, innermost, twenty-two blocks of columns. -/
theorem idx : ∀ t : Fin cfg0.N, t.val < 352 ∧ win0_0.index t = ![t.val / 22, 0] ∧ win0_1.index t = ![t.val / 22, 0] ∧
    win0_2.index t = ![0, 0, t.val % 22] ∧ win0_3.index t = ![0, 0, min (43 + 2 * (t.val % 22)) 85] ∧
    win0_4.index t = ![0, 0, min (44 + 2 * (t.val % 22)) 85] ∧ win0_5.index t = ![t.val / 22, t.val % 22] :=
  (by decide +kernel : ∀ t : Fin grid0.N, _)

theorem lt_N (t : Fin cfg0.N) : t.val < 352 := (idx t).1

/-- Row `r` of point `t`'s block. -/
def prow (t : Fin cfg0.N) (r : Fin 1024) : Fin 16384 := ⟨t / 22 * 1024 + r, by have := lt_N t; omega⟩

theorem xblk_at (t : Fin cfg0.N) (r : Fin 1024) (k : Fin 4096) :
    (iblk m c 0 t : Vec Ideal S1024x4096 .bf16) (ix2 r k) = row (xarg m c) (prow t r) k := by
  have ht := lt_N t
  have h := idx t
  have e0 : win0_0.index t 0 = t.val / 22 := by rw [h.2.1]; rfl
  have e1 : win0_0.index t 1 = 0 := by rw [h.2.1]; rfl
  refine Eq.trans ?_ (stream_at m c (prow t r) k)
  refine congrArg (V m c main_v1) (funext fun a => Fin.ext ?_)
  fin_cases a
  · show win0_0.index t 0 * 1024 + 1 * r.val = t / 22 * 1024 + r
    omega
  · show win0_0.index t 1 * 4096 + 1 * k.val = k
    omega

theorem lane_at (t : Fin cfg0.N) (r : Fin 1024) (l : Fin 128) :
    (iblk m c 1 t : Vec Ideal S1024x128 .f32) (ix2 r l) =
      ∑ g : Fin 32, row (xarg m c) (prow t r) ⟨g * 128 + l, by omega⟩ * row (xarg m c) (prow t r) ⟨g * 128 + l, by omega⟩ := by
  have ht := lt_N t
  have h := idx t
  have e0 : win0_1.index t 0 = t.val / 22 := by rw [h.2.2.1]; rfl
  have e1 : win0_1.index t 1 = 0 := by rw [h.2.2.1]; rfl
  refine Eq.trans ?_ (squares_at m c (prow t r) l)
  refine congrArg (V m c main_v4) (funext fun a => Fin.ext ?_)
  fin_cases a
  · show win0_1.index t 0 * 1024 + 1 * r.val = t / 22 * 1024 + r
    omega
  · show win0_1.index t 1 * 128 + 1 * l.val = l
    omega

theorem sblk_at (t : Fin cfg0.N) (r : Fin 1024) (S : Vec Ideal S1024x128 .f32)
    (hS : ∀ l : Fin 128, S (ix2 r l) =
      ∑ g : Fin 32, row (xarg m c) (prow t r) ⟨g * 128 + l, by omega⟩ * row (xarg m c) (prow t r) ⟨g * 128 + l, by omega⟩) :
    (∑ l : Fin 128, S (ix2 r l) : EReal) = ∑ k : Fin 4096, row (xarg m c) (prow t r) k * row (xarg m c) (prow t r) k :=
  (Finset.sum_congr rfl fun l _ => hS l).trans
    (sum_lanes fun k => row (xarg m c) (prow t r) k * row (xarg m c) (prow t r) k)

theorem gated_congr {s s' a a' b b' : EReal} (hs : s = s') (ha : a = a') (hb : b = b') : gated s a b = gated s' a' b' := by
  rw [hs, ha, hb]

/-- A scaled weight. -/
def scaled (k : Fin 4096) (j : Fin 22016) : EReal := warg m c (ix3 (0 : Fin 1) k j) * garg m c (ix2 (0 : Fin 1) k)

theorem ablk_at (t : Fin cfg0.N) (k : Fin 4096) (j : Fin 512) :
    (iblk m c 2 t : Vec Ideal S1x4096x512 .bf16) (ix3 (0 : Fin 1) k j) =
      scaled m c k (⟨t % 22 * 512 + j, by omega⟩ : Fin 22016) := by
  have ht := lt_N t
  have h := idx t
  have e0 : win0_2.index t 0 = 0 := by rw [h.2.2.2.1]; rfl
  have e1 : win0_2.index t 1 = 0 := by rw [h.2.2.2.1]; rfl
  have e2 : win0_2.index t 2 = t.val % 22 := by rw [h.2.2.2.1]; rfl
  refine Eq.trans ?_ (weights_at m c k (⟨t % 22 * 512 + j, by omega⟩ : Fin 22016))
  refine congrArg (V m c main_v8) (funext fun a => Fin.ext ?_)
  fin_cases a
  · show win0_2.index t 0 * 1 + 1 * 0 = 0
    omega
  · show win0_2.index t 1 * 4096 + 1 * k.val = k
    omega
  · show win0_2.index t 2 * 512 + 1 * j.val = t % 22 * 512 + j
    omega

theorem bblk_at (t : Fin cfg0.N) (k : Fin 4096) (j : Fin 256) :
    (iblk m c 3 t : Vec Ideal S1x4096x256 .bf16) (ix3 (0 : Fin 1) k j) =
      scaled m c k (⟨11008 + (t % 22 * 512 + j), by omega⟩ : Fin 22016) := by
  have ht := lt_N t
  have h := idx t
  have e0 : win0_3.index t 0 = 0 := by rw [h.2.2.2.2.1]; rfl
  have e1 : win0_3.index t 1 = 0 := by rw [h.2.2.2.2.1]; rfl
  have e2 : win0_3.index t 2 = min (43 + 2 * (t.val % 22)) 85 := by rw [h.2.2.2.2.1]; rfl
  refine Eq.trans ?_ (weights_at m c k (⟨11008 + (t % 22 * 512 + j), by omega⟩ : Fin 22016))
  refine congrArg (V m c main_v8) (funext fun a => Fin.ext ?_)
  fin_cases a
  · show win0_3.index t 0 * 1 + 1 * 0 = 0
    omega
  · show win0_3.index t 1 * 4096 + 1 * k.val = k
    omega
  · show win0_3.index t 2 * 256 + 1 * j.val = 11008 + (t % 22 * 512 + j)
    omega

theorem cblk_at (t : Fin cfg0.N) (hq : t.val % 22 ≤ 20) (k : Fin 4096) (j : Fin 256) :
    (iblk m c 4 t : Vec Ideal S1x4096x256 .bf16) (ix3 (0 : Fin 1) k j) =
      scaled m c k (⟨11264 + (t % 22 * 512 + j), by omega⟩ : Fin 22016) := by
  have ht := lt_N t
  have h := idx t
  have e0 : win0_4.index t 0 = 0 := by rw [h.2.2.2.2.2.1]; rfl
  have e1 : win0_4.index t 1 = 0 := by rw [h.2.2.2.2.2.1]; rfl
  have e2 : win0_4.index t 2 = min (44 + 2 * (t.val % 22)) 85 := by rw [h.2.2.2.2.2.1]; rfl
  refine Eq.trans ?_ (weights_at m c k (⟨11264 + (t % 22 * 512 + j), by omega⟩ : Fin 22016))
  refine congrArg (V m c main_v8) (funext fun a => Fin.ext ?_)
  fin_cases a
  · show win0_4.index t 0 * 1 + 1 * 0 = 0
    omega
  · show win0_4.index t 1 * 4096 + 1 * k.val = k
    omega
  · show win0_4.index t 2 * 256 + 1 * j.val = 11264 + (t % 22 * 512 + j)
    omega

/-- The second factor's weights: column `j` of the point's two blocks. -/
theorem pair_at (t : Fin cfg0.N) (j : Fin 512) (hj : t.val % 22 * 512 + j < 11008) (k : Fin 4096) :
    pairCol (iblk m c 3 t) (iblk m c 4 t) j k = scaled m c k (⟨11008 + (t % 22 * 512 + j), by omega⟩ : Fin 22016) := by
  unfold pairCol
  by_cases h : j.val < 256
  · rw [dif_pos h]
    exact bblk_at m c t k ⟨j, h⟩
  · rw [dif_neg h]
    refine (cblk_at m c t (by omega) k ⟨j - 256, by omega⟩).trans ?_
    exact congrArg (scaled m c k) (Fin.ext (by dsimp only; omega))

/-- The kernel's entry of the padded hidden layer. -/
def kentry (r : Fin 16384) (j : ℕ) : EReal :=
  if h : j < 11008 then
    gated (∑ k : Fin 4096, row (xarg m c) r k * row (xarg m c) r k)
      (∑ k : Fin 4096, row (xarg m c) r k * scaled m c k (⟨j, by omega⟩ : Fin 22016))
      (∑ k : Fin 4096, row (xarg m c) r k * scaled m c k (⟨11008 + j, by omega⟩ : Fin 22016))
  else 0

/-- What point `t` writes. -/
theorem out_at (t : Fin cfg0.N) (y : S1024x512.Idx) :
    (outsAt0 m c t.val t.isLt : Vec Ideal S1024x512 .bf16) y = kentry m c (prow t (y 0 : Fin 1024)) (t.val % 22 * 512 + (y 1).val) := by
  have ht := lt_N t
  have hy : (y 1).val < 512 := (y 1).isLt
  by_cases h0 : t.val % 22 ≤ 20
  · have h1 : ¬ t.val % 22 = 21 := by omega
    refine (congrFun (Gen.outsAt0_A m c t h0 h1) y).trans ?_
    refine (outA_at c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t) y).trans ?_
    unfold kentry
    rw [dif_pos (by omega)]
    exact gated_congr (sblk_at m c t (y 0) (iblk m c 1 t) (fun l => lane_at m c t (y 0) l))
      (Finset.sum_congr rfl fun k _ => congrArg₂ (fun a b : EReal => a * b) (xblk_at m c t (y 0) k) (ablk_at m c t k (y 1)))
      (Finset.sum_congr rfl fun k _ => congrArg₂ (fun a b : EReal => a * b) (xblk_at m c t (y 0) k) (pair_at m c t (y 1) (by omega) k))
  · have h1 : t.val % 22 = 21 := by omega
    refine (congrFun (Gen.outsAt0_B m c t h0 h1) y).trans ?_
    refine (outB_at c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t) y).trans ?_
    unfold kentry
    by_cases h2 : (y 1).val < 256
    · rw [if_pos h2, dif_pos (by omega)]
      exact gated_congr (sblk_at m c t (y 0) (iblk m c 1 t) (fun l => lane_at m c t (y 0) l))
        (Finset.sum_congr rfl fun k _ => congrArg₂ (fun a b : EReal => a * b) (xblk_at m c t (y 0) k) (ablk_at m c t k (y 1)))
        (Finset.sum_congr rfl fun k _ => congrArg₂ (fun a b : EReal => a * b) (xblk_at m c t (y 0) k) (pair_at m c t (y 1) (by omega) k))
    · rw [if_neg h2, dif_neg (by omega)]

end Cert.Kernel2Ideal.Ffn

end
-- ==== Proof.Ffn.RefVal.lean ====
/- The reference of the feed-forward network's first half, entry by entry. -/
module

public import Idealize.ShloMosaic.Lib.Pointwise
public import proofs.«01_k».proof.Proof.Gen.Reference2Ideal.Run

@[expose] public section

set_option maxRecDepth 16384

noncomputable section

namespace Cert.Reference2Ideal.Ffn

open Idealize.ShloMosaic Idealize.ShloMosaic.TcCoe Idealize.SL.Sem
open Cert.Reference2Ideal Cert.Reference2Ideal.Gen

variable (X : FVec Ideal S8x2048x4096 .f32) (G : FVec Ideal S1x4096 .f32) (W : FVec Ideal S1x4096x22016 .f32)

/-- The reciprocal root mean squares of the rows. -/
def roots : FVec Ideal S8x2048x1 .f32 :=
  Host.rsqrt (addf (Host.divf (broadcastInDim S8x2048x1 ![0, 1] bcast_S8x2048_S8x2048x1_0_1 (Host.reduceAdd (mulf X X) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))

/-- The normalised rows. -/
def norms : FVec Ideal S8x2048x4096 .f32 :=
  mulf (mulf X (broadcastInDim S8x2048x4096 ![0, 1, 2] bcast_S8x2048x1_S8x2048x4096_0_1_2 (roots X))) (broadcastInDim S8x2048x4096 ![0, 1, 2] bcast_S1x1x4096_S8x2048x4096_0_1_2 (broadcastInDim S1x1x4096 ![2] bcast_S4096_S1x1x4096_2 (shapeCast S4096 G shapeCasts_S1x4096_S4096)))

/-- Both factors of the hidden layer, side by side. -/
def factors : FVec Ideal S8x2048x22016 .f32 :=
  Host.dotGeneral dot_S8x2048x4096_S4096x22016_S8x2048x22016_2_0_01_1_n_n none (norms X G) (shapeCast S4096x22016 W shapeCasts_S1x4096x22016_S4096x22016)

/-- The hidden layer from its factors, padded. -/
def hidden (D : FVec Ideal S8x2048x22016 .f32) : FVec Ideal S16384x11264 .bf16 :=
  pad S16384x11264 ![0, 0] ![0, 256] ![0, 0] (shapeCast S16384x11008 (truncf .bf16 (mulf (mulf (extractStridedSlice S8x2048x11008 ![0, 0, 0] D slices_S8x2048x22016_S8x2048x11008_0_0_0) (Host.divf (broadcastInDim S8x2048x11008 ![] bcast_S_S8x2048x11008 (constant S_ .f32 0x3F800000#32)) (addf (broadcastInDim S8x2048x11008 ![] bcast_S_S8x2048x11008 (constant S_ .f32 0x3F800000#32)) (Host.exp (Host.negf (extractStridedSlice S8x2048x11008 ![0, 0, 0] D slices_S8x2048x22016_S8x2048x11008_0_0_0)))))) (extractStridedSlice S8x2048x11008 ![0, 0, 11008] D slices_S8x2048x22016_S8x2048x11008_0_0_11008)) bitsLt_bf16_f32) shapeCasts_S8x2048x11008_S16384x11008) (sitofp (F := Ideal) .bf16 (constantI S_ 32 0#32)) pads_S16384x11008_S16384x11264_000_02560 h_S_

theorem roots_at (b : Fin 8) (s : Fin 2048) :
    roots X (ix3 b s (0 : Fin 1)) =
      Ideal.rsqrt (Ideal.div (∑ k : Fin 4096, X (ix3 b s k) * X (ix3 b s k)) (Ideal.ofBits FTy.f32 0x45800000#32) + Ideal.ofBits FTy.f32 0x358637BD#32) := by
  pointwise [roots]

theorem norms_at (b : Fin 8) (s : Fin 2048) (k : Fin 4096) :
    norms X G (ix3 b s k) = X (ix3 b s k) * roots X (ix3 b s (0 : Fin 1)) * G (ix2 (0 : Fin 1) k) := by
  pointwise [norms]

theorem factors_at (b : Fin 8) (s : Fin 2048) (j : Fin 22016) :
    factors X G W (ix3 b s j) = ∑ k : Fin 4096, norms X G (ix3 b s k) * W (ix3 (0 : Fin 1) k j) := by
  pointwise [factors]

theorem zero_word : (FloatOps.sitofp FTy.bf16 0#32 : Ideal .bf16) = (0 : EReal) := by
  show (((0#32 : BitVec 32).toInt : ℝ) : EReal) = 0
  simp

theorem hidden_at (D : FVec Ideal S8x2048x22016 .f32) (r : Fin 16384) (j : Fin 11264) :
    hidden D (ix2 r j) =
      if h : j.val < 11008 then
        D (ix3 (⟨r / 2048, by omega⟩ : Fin 8) (⟨r % 2048, by omega⟩ : Fin 2048) (⟨j, by omega⟩ : Fin 22016))
            * Ideal.div (Ideal.ofBits FTy.f32 0x3F800000#32) (Ideal.ofBits FTy.f32 0x3F800000#32 + Ideal.exp (-D (ix3 (⟨r / 2048, by omega⟩ : Fin 8) (⟨r % 2048, by omega⟩ : Fin 2048) (⟨j, by omega⟩ : Fin 22016))))
          * D (ix3 (⟨r / 2048, by omega⟩ : Fin 8) (⟨r % 2048, by omega⟩ : Fin 2048) (⟨11008 + j, by omega⟩ : Fin 22016))
      else (0 : EReal) := by
  rw [← zero_word]
  pointwise [hidden]

end Cert.Reference2Ideal.Ffn

end
-- ==== Proof.Ffn.Equation.lean ====
/- The array that the feed-forward network's first kernel leaves is the reference's. -/
module

public import proofs.«01_k».proof.Proof.Ffn.Blocks
public import proofs.«01_k».proof.Proof.Ffn.RefVal
public import Idealize.ShloMosaic.Lib.Pipeline.Value

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Ffn Idealize.ShloMosaic.Pipeline
open Cert.Reference2Ideal.Ffn

variable (m : (ℓ : Loc nD τ sig) → Buf (Elt Ideal) ℓ) (c : Dev nD)

/-- A factor of the hidden layer, in the kernel's form and in the reference's. -/
theorem factor_eq (r : Fin 16384) (j : Fin 22016) :
    rstd (∑ k : Fin 4096, row (xarg m c) r k * row (xarg m c) r k) * ∑ k : Fin 4096, row (xarg m c) r k * scaled m c k j =
      factors (xarg m c) (garg m c) (warg m c) (ix3 (⟨r / 2048, by omega⟩ : Fin 8) (⟨r % 2048, by omega⟩ : Fin 2048) j) := by
  rw [factors_at]
  refine (normed_dot (row (xarg m c) r) (fun k => garg m c (ix2 (0 : Fin 1) k)) (fun k => warg m c (ix3 (0 : Fin 1) k j))).trans ?_
  refine Finset.sum_congr rfl fun k _ => ?_
  rw [norms_at, roots_at, mean_eq]
  rfl

/-- An entry of the hidden layer, in the kernel's form and in the reference's. -/
theorem entry_eq (r : Fin 16384) (j : Fin 11264) :
    kentry m c r j = hidden (factors (xarg m c) (garg m c) (warg m c)) (ix2 r j) := by
  rw [hidden_at]
  unfold kentry
  by_cases h : j.val < 11008
  · rw [dif_pos h, dif_pos h]
    unfold gated
    rw [factor_eq, factor_eq, gate_eq, one_eq]
    rfl
  · rw [dif_neg h, dif_neg h]

theorem array_eq : (dats m 0 c).arrAt 5 cfg0.N = hidden (factors (xarg m c) (garg m c) (warg m c)) := by
  refine (dats m 0 c).arrAt_eq_of_covers 5 _ (by decide +kernel) fun t hf y => ?_
  show (dats m 0 c).after 5 t ((cfg0.win 5).xinj (cfg0.grid.coords t) y) = _
  rw [after0_5]
  have ht := lt_N t
  have h := idx t
  have e0 : win0_5.index t 0 = t.val / 22 := by rw [h.2.2.2.2.2.2]; rfl
  have e1 : win0_5.index t 1 = t.val % 22 := by rw [h.2.2.2.2.2.2]; rfl
  have hy0 : (y 0).val < 1024 := (y 0).isLt
  have hy1 : (y 1).val < 512 := (y 1).isLt
  refine (out_at m c t y).trans ?_
  refine (entry_eq m c (prow t ⟨y 0, hy0⟩) ⟨t % 22 * 512 + (y 1).val, by omega⟩).trans ?_
  refine congrArg (hidden (factors (xarg m c) (garg m c) (warg m c))) (funext fun a => Fin.ext ?_)
  fin_cases a
  · show t.val / 22 * 1024 + (y 0).val = win0_5.index t 0 * 1024 + 1 * (y 0).val
    omega
  · show t.val % 22 * 512 + (y 1).val = win0_5.index t 1 * 512 + 1 * (y 1).val
    omega

end Cert.Kernel2Ideal.Ffn

end
-- ==== Proof.Ffn.OutHost.lean ====
/- What the arrays that the host prepares for the feed-forward network's second kernel hold: the padded hidden layer, the
halved weights and the stream. -/
module

public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Gen.Kernel3Ideal.Value

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Idealize.ShloMosaic.Pipeline

variable (m : (ℓ : Loc nD τ sig) → Buf (Elt Ideal) ℓ) (c : Dev nD)

/-- The layer's input. -/
abbrev xarg : Vec Ideal S8x2048x4096 .f32 := m ((c : Thread nD τ).loc main_arg0)
/-- The hidden layer. -/
abbrev harg : Vec Ideal S8x2048x11008 .f32 := m ((c : Thread nD τ).loc main_arg1)
/-- The weights. -/
abbrev warg : Vec Ideal S1x11008x4096 .f32 := m ((c : Thread nD τ).loc main_arg2)

/-- Entry `j` of the stream's row `r`, where the rows of all images follow one another. -/
def xrow (r : Fin 16384) (j : Fin 4096) : EReal :=
  xarg m c (ix3 (⟨r / 2048, by omega⟩ : Fin 8) (⟨r % 2048, by omega⟩ : Fin 2048) j)

/-- Entry `k` of the hidden layer's row `r`. -/
def hrow (r : Fin 16384) (k : Fin 11008) : EReal :=
  harg m c (ix3 (⟨r / 2048, by omega⟩ : Fin 8) (⟨r % 2048, by omega⟩ : Fin 2048) k)

/-- A halved weight. -/
def halved (k : Fin 11008) (j : Fin 4096) : EReal := warg m c (ix3 (0 : Fin 1) k j) * Ideal.ofBits FTy.f32 0x3F000000#32

theorem stream_at (r : Fin 16384) (j : Fin 4096) :
    (V m c main_v7 : Vec Ideal S16384x4096 .f32) (ix2 r j) = xrow m c r j := by
  generalize hR : xrow m c r j = R
  unfold V
  after_reads_at
  subst hR
  rfl

theorem hidden_at (r : Fin 16384) (k : Fin 11008) :
    (V m c main_v2 : Vec Ideal S16384x11264 .bf16) (ix2 r (⟨k, by omega⟩ : Fin 11264)) = hrow m c r k := by
  generalize hR : hrow m c r k = R
  unfold V
  after_reads_at
  subst hR
  rfl

theorem weights_at (k : Fin 11008) (j : Fin 4096) :
    (V m c main_v6 : Vec Ideal S1x11264x4096 .bf16) (ix3 (0 : Fin 1) (⟨k, by omega⟩ : Fin 11264) j) = halved m c k j := by
  generalize hR : halved m c k j = R
  unfold V
  after_reads_at
  subst hR
  rfl

end Cert.Kernel3Ideal.Ffn

end
-- ==== Proof.Ffn.OutPoint.lean ====
/- What one grid point of the feed-forward network's second kernel writes, entry by entry. -/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Idealize.ShloMosaic.Pipeline

theorem whole_at (v : Vec Ideal S1024x1024 .f32) (a : Vec Ideal S1024x2816 .bf16) (w : Vec Ideal S1x2816x1024 .bf16) (r j : Fin 1024) :
    k0_pay2 v a w (ix2 r j) = v (ix2 r j) + ∑ k : Fin 2816, a (ix2 r k) * w (ix3 (0 : Fin 1) k j) := by
  pointwise [k0_pay2]

theorem part_at (v : Vec Ideal S1024x1024 .f32) (a : Vec Ideal S1024x2560 .bf16) (w : Vec Ideal S1x2560x1024 .bf16) (r j : Fin 1024) :
    k0_pay3 v a w (ix2 r j) = v (ix2 r j) + ∑ k : Fin 2560, a (ix2 r k) * w (ix3 (0 : Fin 1) k j) := by
  pointwise [k0_pay3]

theorem first_at (v : Vec Ideal S1024x1024 .f32) (r j : Fin 1024) : k0_pay1 v (ix2 r j) = v (ix2 r j) := by
  pointwise [k0_pay1]

variable (c : Dev nD) (i : grid0.Coords) (arg3 : Memref sig .tc .vmem S1024x2816 .bf16) (harg3 : arg3.IsWhole) (arg4 : Memref sig .tc .vmem S1x2816x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x2816 .bf16) (x1 : Vec Ideal S1x2816x1024 .bf16) (x2 : Vec Ideal S1024x1024 .f32)

/-- The first block of the depth. -/
theorem outA_at (hc0 : cond0_0 i) (hc1 : cond0_1 i) (hc2 : ¬cond0_2 i) (r j : Fin 1024) :
    out0_A_3 c i arg3 harg3 arg4 harg4 arg5 harg5 arg6 harg6 hc0 hc1 hc2 x0 x1 x2 (ix2 r j) =
      x2 (ix2 r j) + ∑ k : Fin 2816, x0 (ix2 r k) * x1 (ix3 (0 : Fin 1) k j) := by
  frame_out
  rw [whole_at, first_at]

/-- A later block of the depth. -/
theorem outB_at (hc0 : ¬cond0_0 i) (hc1 : cond0_1 i) (hc2 : ¬cond0_2 i) (xo : Vec Ideal S1024x1024 .f32) (r j : Fin 1024) :
    out0_B_3 c i arg3 harg3 arg4 harg4 arg5 harg5 arg6 harg6 hc0 hc1 hc2 x0 x1 x2 xo (ix2 r j) =
      xo (ix2 r j) + ∑ k : Fin 2816, x0 (ix2 r k) * x1 (ix3 (0 : Fin 1) k j) := by
  frame_out
  rw [whole_at]

/-- The last block of the depth, of which the first 2560 entries count. -/
theorem outC_at (hc0 : ¬cond0_0 i) (hc1 : ¬cond0_1 i) (hc2 : cond0_2 i) (xo : Vec Ideal S1024x1024 .f32) (r j : Fin 1024) :
    out0_C_3 c i arg3 harg3 arg4 harg4 arg5 harg5 arg6 harg6 hc0 hc1 hc2 x0 x1 x2 xo (ix2 r j) =
      xo (ix2 r j) + ∑ k : Fin 2560, x0 (ix2 r (⟨k, by omega⟩ : Fin 2816)) * x1 (ix3 (0 : Fin 1) (⟨k, by omega⟩ : Fin 2816) j) := by
  frame_out
  rw [part_at]
  refine congrArg (fun z : EReal => xo (ix2 r j) + z) (Finset.sum_congr rfl fun k _ => congrArg₂ (fun a b : EReal => a * b) ?_ ?_)
  · refine congrArg x0 (funext fun a => Fin.ext ?_)
    fin_cases a
    · show 0 + 1 * (r : ℕ) = r
      omega
    · show 0 + 1 * (k : ℕ) = k
      omega
  · refine congrArg x1 (funext fun a => Fin.ext ?_)
    fin_cases a
    · rfl
    · show 0 + 1 * (k : ℕ) = k
      omega
    · show 0 + 1 * (j : ℕ) = j
      omega

end Cert.Kernel3Ideal.Ffn

end
-- ==== Proof.Ffn.OutRef.lean ====
/- The reference of the feed-forward network's second half, entry by entry. -/
module

public import Idealize.ShloMosaic.Lib.Pointwise
public import proofs.«01_k».proof.Proof.Gen.Reference3Ideal.Run

@[expose] public section

set_option maxRecDepth 16384

noncomputable section

namespace Cert.Reference3Ideal.Ffn

open Idealize.ShloMosaic Idealize.ShloMosaic.TcCoe Idealize.SL.Sem
open Cert.Reference3Ideal Cert.Reference3Ideal.Gen

variable (X : FVec Ideal S8x2048x4096 .f32) (A : FVec Ideal S8x2048x11008 .f32) (W : FVec Ideal S1x11008x4096 .f32)

/-- The product of the hidden layer with the weights. -/
def product : FVec Ideal S8x2048x4096 .f32 :=
  Host.dotGeneral dot_S8x2048x11008_S11008x4096_S8x2048x4096_2_0_01_1_n_n none A (shapeCast S11008x4096 W shapeCasts_S1x11008x4096_S11008x4096)

/-- The stream after the network. -/
def stream : FVec Ideal S16384x4096 .f32 :=
  shapeCast S16384x4096 (addf X (mulf (broadcastInDim S8x2048x4096 ![] bcast_S_S8x2048x4096 (constant S_ .f32 0x3F000000#32)) (product A W))) shapeCasts_S8x2048x4096_S16384x4096

theorem product_at (b : Fin 8) (s : Fin 2048) (j : Fin 4096) :
    product A W (ix3 b s j) = ∑ k : Fin 11008, A (ix3 b s k) * W (ix3 (0 : Fin 1) k j) := by
  pointwise [product]

theorem stream_at (r : Fin 16384) (j : Fin 4096) :
    stream X A W (ix2 r j) =
      X (ix3 (⟨r / 2048, by omega⟩ : Fin 8) (⟨r % 2048, by omega⟩ : Fin 2048) j)
        + Ideal.ofBits FTy.f32 0x3F000000#32 * product A W (ix3 (⟨r / 2048, by omega⟩ : Fin 8) (⟨r % 2048, by omega⟩ : Fin 2048) j) := by
  pointwise [stream]

end Cert.Reference3Ideal.Ffn

end
-- ==== Proof.Ffn.OutEquation.lean ====
/- The sum that the feed-forward network's second kernel builds over a row of grid points, and the array that it leaves. -/
module

public import proofs.«01_k».proof.Proof.Ffn.Math
public import proofs.«01_k».proof.Proof.Ffn.OutHost
public import proofs.«01_k».proof.Proof.Ffn.OutPoint
public import proofs.«01_k».proof.Proof.Ffn.OutRef
public import Idealize.ShloMosaic.Lib.Pipeline.Value

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Cert.Ffn Idealize.ShloMosaic.Pipeline
open Cert.Reference3Ideal.Ffn (stream product product_at)

variable (m : (ℓ : Loc nD τ sig) → Buf (Elt Ideal) ℓ) (c : Dev nD)

/-- The grid runs over sixteen blocks of rows, four of columns and, innermost, four of the depth. -/
theorem idx : ∀ t : Fin cfg0.N, t.val < 256 ∧ win0_0.index t = ![t.val / 16, t.val % 4] ∧
    win0_1.index t = ![0, t.val % 4, t.val / 4 % 4] ∧ win0_2.index t = ![t.val / 16, t.val / 4 % 4] ∧
    win0_3.index t = ![t.val / 16, t.val / 4 % 4] :=
  (by decide +kernel : ∀ t : Fin grid0.N, _)

theorem lt_N (t : Fin cfg0.N) : t.val < 256 := (idx t).1

/-- Row `r` of the block of point `n`. -/
def prow (n : ℕ) (hn : n < 256) (r : Fin 1024) : Fin 16384 := ⟨n / 16 * 1024 + r, by omega⟩
/-- Column `j` of the block of point `n`. -/
def pcol (n : ℕ) (j : Fin 1024) : Fin 4096 := ⟨n / 4 % 4 * 1024 + j, by omega⟩

/-- One product of a row with a column; past the depth there is none. -/
def term (r : Fin 16384) (j : Fin 4096) (k : ℕ) : EReal :=
  if h : k < 11008 then hrow m c r ⟨k, h⟩ * halved m c ⟨k, h⟩ j else 0

theorem xblk_at (t : Fin cfg0.N) (r j : Fin 1024) :
    (iblk m c 2 t : Vec Ideal S1024x1024 .f32) (ix2 r j) = xrow m c (prow t (lt_N t) r) (pcol t j) := by
  have h := idx t
  have e0 : win0_2.index t 0 = t.val / 16 := by rw [h.2.2.2.1]; rfl
  have e1 : win0_2.index t 1 = t.val / 4 % 4 := by rw [h.2.2.2.1]; rfl
  refine Eq.trans ?_ (stream_at m c (prow t (lt_N t) r) (pcol t j))
  refine congrArg (V m c main_v7) (funext fun a => Fin.ext ?_)
  fin_cases a
  · show win0_2.index t 0 * 1024 + 1 * r.val = t / 16 * 1024 + r
    omega
  · show win0_2.index t 1 * 1024 + 1 * j.val = t / 4 % 4 * 1024 + j
    omega

theorem hblk_at (t : Fin cfg0.N) (r : Fin 1024) (k : Fin 2816) (hk : t.val % 4 * 2816 + k < 11008) :
    (iblk m c 0 t : Vec Ideal S1024x2816 .bf16) (ix2 r k) = hrow m c (prow t (lt_N t) r) ⟨t % 4 * 2816 + k, hk⟩ := by
  have h := idx t
  have e0 : win0_0.index t 0 = t.val / 16 := by rw [h.2.1]; rfl
  have e1 : win0_0.index t 1 = t.val % 4 := by rw [h.2.1]; rfl
  refine Eq.trans ?_ (hidden_at m c (prow t (lt_N t) r) ⟨t % 4 * 2816 + k, hk⟩)
  refine congrArg (V m c main_v2) (funext fun a => Fin.ext ?_)
  fin_cases a
  · show win0_0.index t 0 * 1024 + 1 * r.val = t / 16 * 1024 + r
    omega
  · show win0_0.index t 1 * 2816 + 1 * k.val = t % 4 * 2816 + k
    omega

theorem wblk_at (t : Fin cfg0.N) (k : Fin 2816) (hk : t.val % 4 * 2816 + k < 11008) (j : Fin 1024) :
    (iblk m c 1 t : Vec Ideal S1x2816x1024 .bf16) (ix3 (0 : Fin 1) k j) = halved m c ⟨t % 4 * 2816 + k, hk⟩ (pcol t j) := by
  have h := idx t
  have e0 : win0_1.index t 0 = 0 := by rw [h.2.2.1]; rfl
  have e1 : win0_1.index t 1 = t.val % 4 := by rw [h.2.2.1]; rfl
  have e2 : win0_1.index t 2 = t.val / 4 % 4 := by rw [h.2.2.1]; rfl
  refine Eq.trans ?_ (weights_at m c ⟨t % 4 * 2816 + k, hk⟩ (pcol t j))
  refine congrArg (V m c main_v6) (funext fun a => Fin.ext ?_)
  fin_cases a
  · show win0_1.index t 0 * 1 + 1 * 0 = 0
    omega
  · show win0_1.index t 1 * 2816 + 1 * k.val = t % 4 * 2816 + k
    omega
  · show win0_1.index t 2 * 1024 + 1 * j.val = t / 4 % 4 * 1024 + j
    omega

theorem mul_at (t : Fin cfg0.N) (r j : Fin 1024) (k : Fin 2816) (hk : t.val % 4 * 2816 + k < 11008)
    (A : Vec Ideal S1024x2816 .bf16) (W : Vec Ideal S1x2816x1024 .bf16) (hA : A = iblk m c 0 t) (hW : W = iblk m c 1 t) :
    A (ix2 r k) * W (ix3 (0 : Fin 1) k j) = term m c (prow t (lt_N t) r) (pcol t j) (t % 4 * 2816 + k) := by
  subst hA hW
  unfold term
  rw [dif_pos hk]
  exact congrArg₂ (fun a b : EReal => a * b) (hblk_at m c t r k hk) (wblk_at m c t k hk j)

/-- A whole block of the depth. -/
theorem whole_sum (t : Fin cfg0.N) (ht : t.val % 4 ≤ 2) (r j : Fin 1024)
    (A : Vec Ideal S1024x2816 .bf16) (W : Vec Ideal S1x2816x1024 .bf16) (hA : A = iblk m c 0 t) (hW : W = iblk m c 1 t) :
    (∑ k : Fin 2816, A (ix2 r k) * W (ix3 (0 : Fin 1) k j) : EReal) =
      ∑ k ∈ Finset.range 2816, term m c (prow t (lt_N t) r) (pcol t j) (t % 4 * 2816 + k) := by
  rw [Finset.sum_range]
  exact Finset.sum_congr rfl fun k _ => mul_at m c t r j k (by omega) A W hA hW

/-- The last block of the depth. -/
theorem part_sum (t : Fin cfg0.N) (ht : t.val % 4 = 3) (r j : Fin 1024)
    (A : Vec Ideal S1024x2816 .bf16) (W : Vec Ideal S1x2816x1024 .bf16) (hA : A = iblk m c 0 t) (hW : W = iblk m c 1 t) :
    (∑ k : Fin 2560, A (ix2 r (⟨k, by omega⟩ : Fin 2816)) * W (ix3 (0 : Fin 1) (⟨k, by omega⟩ : Fin 2816) j) : EReal) =
      ∑ k ∈ Finset.range 2560, term m c (prow t (lt_N t) r) (pcol t j) (t % 4 * 2816 + k) := by
  rw [Finset.sum_range]
  exact Finset.sum_congr rfl fun k _ => mul_at m c t r j ⟨k, by omega⟩ (by dsimp only; omega) A W hA hW

/-- How much of the depth is summed after point `n`. -/
def depth (n : ℕ) : ℕ := min ((n % 4 + 1) * 2816) 11008

/-- The stream's entry and the first `d` products. -/
def partialSum (r : Fin 16384) (j : Fin 4096) (d : ℕ) : EReal :=
  xrow m c r j + ∑ k ∈ Finset.range d, term m c r j k

theorem partialSum_add (r : Fin 16384) (j : Fin 4096) (d e : ℕ) :
    partialSum m c r j d + ∑ k ∈ Finset.range e, term m c r j (d + k) = partialSum m c r j (d + e) := by
  unfold partialSum
  rw [add_assoc, Finset.sum_range_add]

/-- What the output block holds after point `n`. -/
theorem held (n : ℕ) : ∀ (hn : n < cfg0.N) (r j : Fin 1024),
    (outsAt0 m c n hn : Vec Ideal S1024x1024 .f32) (ix2 r j) =
      partialSum m c (prow n (lt_N ⟨n, hn⟩) r) (pcol n j) (depth n) := by
  induction n with
  | zero =>
    intro hn r j
    exact first 0 hn rfl r j
  | succ n ih =>
    intro hn r j
    by_cases h0 : (n + 1) % 4 = 0
    · exact first (n + 1) hn h0 r j
    · have hn' : n < cfg0.N := Nat.lt_of_succ_lt hn
      have hl := lt_N ⟨n + 1, hn⟩
      have hl' : n + 1 < 256 := hl
      have hr : prow n (lt_N ⟨n, hn'⟩) r = prow (n + 1) hl r := Fin.ext (by show n / 16 * 1024 + r.val = (n + 1) / 16 * 1024 + r.val; omega)
      have hj : pcol n j = pcol (n + 1) j := Fin.ext (by show n / 4 % 4 * 1024 + j.val = (n + 1) / 4 % 4 * 1024 + j.val; omega)
      have hp := ih hn' r j
      rw [hr, hj] at hp
      have hd : depth n = (n + 1) % 4 * 2816 := by unfold depth; omega
      by_cases h1 : (n + 1) % 4 ≤ 2
      · have h2 : ¬ (n + 1) % 4 = 3 := by omega
        refine (congrFun (Gen.outsAt0_B m c ⟨n + 1, hn⟩ h0 h1 h2) (ix2 r j)).trans ?_
        refine (outB_at c _ _ _ _ _ _ _ _ _ (iblk m c 0 ⟨n + 1, hn⟩) (iblk m c 1 ⟨n + 1, hn⟩) (iblk m c 2 ⟨n + 1, hn⟩) _ _ _ (outsAt0 m c n hn') r j).trans ?_
        have hd' : depth (n + 1) = depth n + 2816 := by unfold depth; omega
        rw [hd', ← partialSum_add, hd]
        rw [hd] at hp
        exact congrArg₂ (fun a b : EReal => a + b) hp (whole_sum m c ⟨n + 1, hn⟩ h1 r j _ _ rfl rfl)
      · have h2 : (n + 1) % 4 = 3 := by omega
        refine (congrFun (Gen.outsAt0_C m c ⟨n + 1, hn⟩ h0 h1 h2) (ix2 r j)).trans ?_
        refine (outC_at c _ _ _ _ _ _ _ _ _ (iblk m c 0 ⟨n + 1, hn⟩) (iblk m c 1 ⟨n + 1, hn⟩) (iblk m c 2 ⟨n + 1, hn⟩) _ _ _ (outsAt0 m c n hn') r j).trans ?_
        have hd' : depth (n + 1) = depth n + 2560 := by unfold depth; omega
        rw [hd', ← partialSum_add, hd]
        rw [hd] at hp
        exact congrArg₂ (fun a b : EReal => a + b) hp (part_sum m c ⟨n + 1, hn⟩ h2 r j _ _ rfl rfl)
where
  first (n : ℕ) (hn : n < cfg0.N) (h0 : n % 4 = 0) (r j : Fin 1024) :
      (outsAt0 m c n hn : Vec Ideal S1024x1024 .f32) (ix2 r j) =
        partialSum m c (prow n (lt_N ⟨n, hn⟩) r) (pcol n j) (depth n) := by
    have h1 : n % 4 ≤ 2 := by omega
    have h2 : ¬ n % 4 = 3 := by omega
    refine (congrFun (Gen.outsAt0_A m c ⟨n, hn⟩ h0 h1 h2) (ix2 r j)).trans ?_
    refine (outA_at c _ _ _ _ _ _ _ _ _ (iblk m c 0 ⟨n, hn⟩) (iblk m c 1 ⟨n, hn⟩) (iblk m c 2 ⟨n, hn⟩) _ _ _ r j).trans ?_
    have hd : depth n = 2816 := by unfold depth; omega
    unfold partialSum
    rw [hd]
    refine congrArg₂ (fun a b : EReal => a + b) (xblk_at m c ⟨n, hn⟩ r j) ((whole_sum m c ⟨n, hn⟩ h1 r j _ _ rfl rfl).trans ?_)
    refine Finset.sum_congr rfl fun k _ => congrArg (term m c _ _) ?_
    show n % 4 * 2816 + k = k
    omega

/-- The whole sum is the reference's entry. -/
theorem full_sum (r : Fin 16384) (j : Fin 4096) :
    partialSum m c r j 11008 = stream (xarg m c) (harg m c) (warg m c) (ix2 r j) := by
  rw [Cert.Reference3Ideal.Ffn.stream_at, product_at]
  unfold partialSum
  refine congrArg (fun z : EReal => xrow m c r j + z) ?_
  rw [half_eq, mul_sum_real _ _ _ (by norm_num), Finset.sum_range]
  refine Finset.sum_congr rfl fun k _ => ?_
  unfold term
  rw [dif_pos k.2]
  unfold hrow halved
  rw [half_eq]
  generalize harg m c _ = a
  generalize warg m c _ = w
  show a * (w * ((1 / 2 : ℝ) : EReal)) = ((1 / 2 : ℝ) : EReal) * (a * w)
  rw [mul_comm w, ← mul_assoc, mul_comm a, mul_assoc]

theorem array_eq : (dats m 0 c).arrAt 3 cfg0.N = stream (xarg m c) (harg m c) (warg m c) := by
  refine (dats m 0 c).arrAt_eq_of_covers 3 _ (by decide +kernel) fun t hf y => ?_
  show (dats m 0 c).after 3 t ((cfg0.win 3).xinj (cfg0.grid.coords t) y) = _
  rw [after0_3]
  have ht := lt_N t
  have h3 : t.val % 4 = 3 := (flush0_3 t).mp hf
  have h := idx t
  have e0 : win0_3.index t 0 = t.val / 16 := by rw [h.2.2.2.2]; rfl
  have e1 : win0_3.index t 1 = t.val / 4 % 4 := by rw [h.2.2.2.2]; rfl
  have hy0 : (y 0).val < 1024 := (y 0).isLt
  have hy1 : (y 1).val < 1024 := (y 1).isLt
  have hd : depth t.val = 11008 := by unfold depth; omega
  have ey : (cfg0.win 3).xinj (cfg0.grid.coords t) y = ix2 (⟨y 0, hy0⟩ : Fin 1024) (⟨y 1, hy1⟩ : Fin 1024) := by
    funext a; fin_cases a <;> rfl
  refine (congrArg (outsAt0 m c t.val t.isLt) ey).trans ((held m c t.val t.isLt ⟨y 0, hy0⟩ ⟨y 1, hy1⟩).trans ?_)
  rw [hd]
  refine (full_sum m c _ _).trans ?_
  refine congrArg (stream (xarg m c) (harg m c) (warg m c)) (funext fun a => Fin.ext ?_)
  fin_cases a
  · show t.val / 16 * 1024 + (y 0).val = win0_3.index t 0 * 1024 + 1 * (y 0).val
    omega
  · show t.val / 4 % 4 * 1024 + (y 1).val = win0_3.index t 1 * 1024 + 1 * (y 1).val
    omega

end Cert.Kernel3Ideal.Ffn

end
-- ==== Proof.Norm.Equation.lean ====
/- The last norm: the array that the kernel leaves is the reference's. -/
module

public import proofs.«01_k».proof.Proof.Gen.Kernel4Ideal.Value
public import proofs.«01_k».proof.Proof.Gen.Reference4Ideal.Run
public import Idealize.ShloMosaic.Lib.Pointwise
public import Idealize.ShloMosaic.Lib.Claim
public import Idealize.ShloMosaic.Lib.StableHlo.ReadAt
public import Idealize.ShloMosaic.Lib.Pipeline.Value
public import Idealize.ShloMosaic.Lib.Pipeline.ValueKit

@[expose] public section

set_option maxRecDepth 16384

noncomputable section

namespace Cert.Reference4Ideal.Norm

open Idealize.ShloMosaic Idealize.ShloMosaic.TcCoe Idealize.SL.Sem
open Cert.Reference4Ideal Cert.Reference4Ideal.Gen

/-- A row's entry over the root mean square of its row, times its gain. -/
def scaled (s x g : EReal) : EReal :=
  x * Ideal.rsqrt (Ideal.div s (Ideal.ofBits FTy.f32 0x45800000#32) + Ideal.ofBits FTy.f32 0x358637BD#32) * g

variable (X : FVec Ideal S8x2048x4096 .f32) (G : FVec Ideal S4096 .f32)

/-- The normalised stream. -/
def normed : FVec Ideal S16384x4096 .f32 :=
  shapeCast S16384x4096 (mulf (mulf X (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf X X) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 G))) shapeCasts_S8x2048x4096_S16384x4096

/-- Entry `k` of row `r`, where the rows of all images follow one another. -/
def row (r : Fin 16384) (k : Fin 4096) : EReal :=
  X (ix3 (⟨r / 2048, by omega⟩ : Fin 8) (⟨r % 2048, by omega⟩ : Fin 2048) k)

theorem normed_at (r : Fin 16384) (j : Fin 4096) :
    normed X G (ix2 r j) = scaled (∑ k : Fin 4096, row X r k * row X r k) (row X r j) (G (ix1 j)) := by
  unfold row scaled
  pointwise [normed]

end Cert.Reference4Ideal.Norm

namespace Cert.Kernel4Ideal.Norm

open Idealize.ShloMosaic Idealize.ShloMosaic.TcCoe Idealize.SL.Sem
open Cert.Kernel4Ideal Cert.Kernel4Ideal.Gen Idealize.ShloMosaic.Pipeline
open Cert.Reference4Ideal.Norm (scaled normed row normed_at)

variable (m : (ℓ : Loc nD τ sig) → Buf (Elt Ideal) ℓ) (c : Dev nD)

/-- The stream. -/
abbrev xarg : Vec Ideal S8x2048x4096 .f32 := m ((c : Thread nD τ).loc main_arg0)
/-- The gains. -/
abbrev garg : Vec Ideal S4096 .f32 := m ((c : Thread nD τ).loc main_arg1)

theorem pay_at (x : Vec Ideal S512x4096 .f32) (g : Vec Ideal S1x4096 .f32) (r : Fin 512) (j : Fin 4096) :
    k0_pay1 x g (ix2 r j) = scaled (∑ k : Fin 4096, x (ix2 r k) * x (ix2 r k)) (x (ix2 r j)) (g (ix2 (0 : Fin 1) j)) := by
  unfold scaled
  pointwise [k0_pay1]

theorem out_at (x : Vec Ideal S512x4096 .f32) (g : Vec Ideal S1x4096 .f32) (y : S512x4096.Idx) :
    out0_2 x g y = scaled (∑ k : Fin 4096, x (ix2 (y 0 : Fin 512) k) * x (ix2 (y 0 : Fin 512) k)) (x (ix2 (y 0 : Fin 512) (y 1 : Fin 4096)))
      (g (ix2 (0 : Fin 1) (y 1 : Fin 4096))) := by
  frame_out
  have ey : y = ix2 (y 0 : Fin 512) (y 1 : Fin 4096) := by funext a; fin_cases a <;> rfl
  exact (congrArg (k0_pay1 x g) ey).trans (pay_at x g (y 0) (y 1))

theorem stream_at (r : Fin 16384) (k : Fin 4096) :
    (V m c main_v0 : Vec Ideal S16384x4096 .f32) (ix2 r k) = row (xarg m c) r k := by
  generalize hR : row (xarg m c) r k = R
  unfold V
  after_reads_at
  subst hR
  rfl

theorem gains_at (k : Fin 4096) : (V m c main_v1 : Vec Ideal S1x4096 .f32) (ix2 (0 : Fin 1) k) = garg m c (ix1 k) := by
  generalize hR : garg m c (ix1 k) = R
  unfold V
  after_reads_at
  subst hR
  rfl

/-- The grid runs over thirty-two blocks of rows. -/
theorem idx : ∀ t : Fin cfg0.N, t.val < 32 ∧ win0_0.index t = ![t.val, 0] ∧ win0_1.index t = ![0, 0] ∧ win0_2.index t = ![t.val, 0] :=
  (by decide +kernel : ∀ t : Fin grid0.N, _)

theorem lt_N (t : Fin cfg0.N) : t.val < 32 := (idx t).1

/-- Row `r` of point `t`'s block. -/
def prow (t : Fin cfg0.N) (r : Fin 512) : Fin 16384 := ⟨t * 512 + r, by have := lt_N t; omega⟩

theorem xblk_at (t : Fin cfg0.N) (r : Fin 512) (k : Fin 4096) :
    (iblk m c 0 t : Vec Ideal S512x4096 .f32) (ix2 r k) = row (xarg m c) (prow t r) k := by
  have ht := lt_N t
  have h := idx t
  have e0 : win0_0.index t 0 = t.val := by rw [h.2.1]; rfl
  have e1 : win0_0.index t 1 = 0 := by rw [h.2.1]; rfl
  refine Eq.trans ?_ (stream_at m c (prow t r) k)
  refine congrArg (V m c main_v0) (funext fun a => Fin.ext ?_)
  fin_cases a
  · show win0_0.index t 0 * 512 + 1 * r.val = t * 512 + r
    omega
  · show win0_0.index t 1 * 4096 + 1 * k.val = k
    omega

theorem gblk_at (t : Fin cfg0.N) (k : Fin 4096) :
    (iblk m c 1 t : Vec Ideal S1x4096 .f32) (ix2 (0 : Fin 1) k) = garg m c (ix1 k) := by
  have h := idx t
  have e0 : win0_1.index t 0 = 0 := by rw [h.2.2.1]; rfl
  have e1 : win0_1.index t 1 = 0 := by rw [h.2.2.1]; rfl
  refine Eq.trans ?_ (gains_at m c k)
  refine congrArg (V m c main_v1) (funext fun a => Fin.ext ?_)
  fin_cases a
  · show win0_1.index t 0 * 1 + 1 * 0 = 0
    omega
  · show win0_1.index t 1 * 4096 + 1 * k.val = k
    omega

/-- A normalised entry depends on the row, the entry and the gain. -/
theorem scaled_congr {x : Fin 4096 → EReal} {f : Fin 4096 → EReal} (hx : ∀ k, x k = f k) {g g' : EReal} (hg : g = g') (j : Fin 4096) :
    scaled (∑ k, x k * x k) (x j) g = scaled (∑ k, f k * f k) (f j) g' := by
  rw [funext hx, hg]

theorem array_eq : (dats m 0 c).arrAt 2 cfg0.N = normed (xarg m c) (garg m c) := by
  refine (dats m 0 c).arrAt_eq_of_covers 2 _ (by decide +kernel) fun t hf y => ?_
  show (dats m 0 c).after 2 t ((cfg0.win 2).xinj (cfg0.grid.coords t) y) = _
  rw [after0_2]
  have ht := lt_N t
  have h := idx t
  have e0 : win0_2.index t 0 = t.val := by rw [h.2.2.2]; rfl
  have e1 : win0_2.index t 1 = 0 := by rw [h.2.2.2]; rfl
  have hy0 : (y 0).val < 512 := (y 0).isLt
  have hy1 : (y 1).val < 4096 := (y 1).isLt
  refine (out_at (iblk m c 0 t) (iblk m c 1 t) _).trans ?_
  refine (scaled_congr (fun k => xblk_at m c t ⟨y 0, hy0⟩ k) (gblk_at m c t ⟨y 1, hy1⟩) ⟨y 1, hy1⟩).trans ?_
  refine (normed_at (xarg m c) (garg m c) (prow t ⟨y 0, hy0⟩) ⟨y 1, hy1⟩).symm.trans ?_
  refine congrArg (normed (xarg m c) (garg m c)) (funext fun a => Fin.ext ?_)
  fin_cases a
  · show t.val * 512 + (y 0).val = win0_2.index t 0 * 512 + 1 * (y 0).val
    omega
  · show (y 1).val = win0_2.index t 1 * 4096 + 1 * (y 1).val
    omega

end Cert.Kernel4Ideal.Norm

end
-- ==== Proof.Gates.Blocks.lean ====
/- What a grid point of the gates' kernel reads and writes, entry by entry. -/
module

public import proofs.«01_k».proof.Proof.Gen.Kernel5Ideal.Value
public import proofs.«01_k».proof.Proof.Ffn.Math
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.Kernel5Ideal.Gates

open Idealize.ShloMosaic Idealize.ShloMosaic.TcCoe Idealize.SL.Sem
open Cert.Kernel5Ideal Cert.Kernel5Ideal.Gen Cert.Ffn Idealize.ShloMosaic.Pipeline

variable (m : (ℓ : Loc nD τ sig) → Buf (Elt Ideal) ℓ) (c : Dev nD)

/-- The layer's input. -/
abbrev xarg : Vec Ideal S8x2048x4096 .f32 := m ((c : Thread nD τ).loc main_arg0)
/-- The norm's gains. -/
abbrev garg : Vec Ideal S1x4096 .f32 := m ((c : Thread nD τ).loc main_arg1)
/-- The weights. -/
abbrev warg : Vec Ideal S1x4096x12288 .f32 := m ((c : Thread nD τ).loc main_arg2)

/-- A gate, from a row's sum of squares and its product with a weight column. -/
def gate (s a : EReal) : EReal :=
  Ideal.ofBits FTy.f32 0x3F000000#32 * Ideal.tanh (Ideal.ofBits FTy.f32 0x3F000000#32 * (rstd s * a)) + Ideal.ofBits FTy.f32 0x3F000000#32

theorem gate_congr {s s' a a' : EReal} (hs : s = s') (ha : a = a') : gate s a = gate s' a' := by rw [hs, ha]

theorem pay_at (ss : Vec Ideal S1024x128 .f32) (x : Vec Ideal S1024x4096 .bf16) (w : Vec Ideal S1x4096x1024 .bf16) (r j : Fin 1024) :
    k0_pay1 ss x w (ix2 r j) = gate (∑ l : Fin 128, ss (ix2 r l)) (∑ k : Fin 4096, x (ix2 r k) * w (ix3 (0 : Fin 1) k j)) := by
  unfold gate rstd
  pointwise [k0_pay1]

theorem point_at (x : Vec Ideal S1024x4096 .bf16) (ss : Vec Ideal S1024x128 .f32) (w : Vec Ideal S1x4096x1024 .bf16) (y : S1024x1024.Idx) :
    out0_3 x ss w y = gate (∑ l : Fin 128, ss (ix2 (y 0 : Fin 1024) l))
      (∑ k : Fin 4096, x (ix2 (y 0 : Fin 1024) k) * w (ix3 (0 : Fin 1) k (y 1 : Fin 1024))) := by
  frame_out
  have ey : y = ix2 (y 0 : Fin 1024) (y 1 : Fin 1024) := by funext a; fin_cases a <;> rfl
  exact (congrArg (k0_pay1 ss x w) ey).trans (pay_at ss x w (y 0) (y 1))

/-- Entry `k` of row `r`, where the rows of all images follow one another. -/
def row (X : Vec Ideal S8x2048x4096 .f32) (r : Fin 16384) (k : Fin 4096) : EReal :=
  X (ix3 (⟨r / 2048, by omega⟩ : Fin 8) (⟨r % 2048, by omega⟩ : Fin 2048) k)

theorem stream_at (r : Fin 16384) (k : Fin 4096) :
    (V m c main_v1 : Vec Ideal S16384x4096 .bf16) (ix2 r k) = row (xarg m c) r k := by
  generalize hR : row (xarg m c) r k = R
  unfold V
  after_reads_at
  subst hR
  rfl

theorem squares_at (r : Fin 16384) (l : Fin 128) :
    (V m c main_v4 : Vec Ideal S16384x128 .f32) (ix2 r l) =
      ∑ g : Fin 32, row (xarg m c) r ⟨g * 128 + l, by omega⟩ * row (xarg m c) r ⟨g * 128 + l, by omega⟩ := by
  generalize hR : (∑ g : Fin 32, row (xarg m c) r ⟨g * 128 + l, by omega⟩ * row (xarg m c) r ⟨g * 128 + l, by omega⟩) = R
  unfold V
  after_reads_at
  subst hR
  rfl

/-- A scaled weight. -/
def scaled (k : Fin 4096) (j : Fin 12288) : EReal := warg m c (ix3 (0 : Fin 1) k j) * garg m c (ix2 (0 : Fin 1) k)

theorem weights_at (k : Fin 4096) (j : Fin 12288) :
    (V m c main_v8 : Vec Ideal S1x4096x12288 .bf16) (ix3 (0 : Fin 1) k j) = scaled m c k j := by
  generalize hR : scaled m c k j = R
  unfold V
  after_reads_at
  subst hR
  rfl

/-- The grid runs over sixteen blocks of rows and, innermost, twelve blocks of columns. -/
theorem idx : ∀ t : Fin cfg0.N, t.val < 192 ∧ win0_0.index t = ![t.val / 12, 0] ∧ win0_1.index t = ![t.val / 12, 0] ∧
    win0_2.index t = ![0, 0, t.val % 12] ∧ win0_3.index t = ![t.val / 12, t.val % 12] :=
  (by decide +kernel : ∀ t : Fin grid0.N, _)

theorem lt_N (t : Fin cfg0.N) : t.val < 192 := (idx t).1

/-- Row `r` of point `t`'s block. -/
def prow (t : Fin cfg0.N) (r : Fin 1024) : Fin 16384 := ⟨t / 12 * 1024 + r, by have := lt_N t; omega⟩

/-- Column `j` of point `t`'s block. -/
def pcol (t : Fin cfg0.N) (j : Fin 1024) : Fin 12288 := ⟨t % 12 * 1024 + j, by omega⟩

theorem xblk_at (t : Fin cfg0.N) (r : Fin 1024) (k : Fin 4096) :
    (iblk m c 0 t : Vec Ideal S1024x4096 .bf16) (ix2 r k) = row (xarg m c) (prow t r) k := by
  have ht := lt_N t
  have h := idx t
  have e0 : win0_0.index t 0 = t.val / 12 := by rw [h.2.1]; rfl
  have e1 : win0_0.index t 1 = 0 := by rw [h.2.1]; rfl
  refine Eq.trans ?_ (stream_at m c (prow t r) k)
  refine congrArg (V m c main_v1) (funext fun a => Fin.ext ?_)
  fin_cases a
  · show win0_0.index t 0 * 1024 + 1 * r.val = t / 12 * 1024 + r
    omega
  · show win0_0.index t 1 * 4096 + 1 * k.val = k
    omega

theorem lane_at (t : Fin cfg0.N) (r : Fin 1024) (l : Fin 128) :
    (iblk m c 1 t : Vec Ideal S1024x128 .f32) (ix2 r l) =
      ∑ g : Fin 32, row (xarg m c) (prow t r) ⟨g * 128 + l, by omega⟩ * row (xarg m c) (prow t r) ⟨g * 128 + l, by omega⟩ := by
  have ht := lt_N t
  have h := idx t
  have e0 : win0_1.index t 0 = t.val / 12 := by rw [h.2.2.1]; rfl
  have e1 : win0_1.index t 1 = 0 := by rw [h.2.2.1]; rfl
  refine Eq.trans ?_ (squares_at m c (prow t r) l)
  refine congrArg (V m c main_v4) (funext fun a => Fin.ext ?_)
  fin_cases a
  · show win0_1.index t 0 * 1024 + 1 * r.val = t / 12 * 1024 + r
    omega
  · show win0_1.index t 1 * 128 + 1 * l.val = l
    omega

theorem sblk_at (t : Fin cfg0.N) (r : Fin 1024) (S : Vec Ideal S1024x128 .f32)
    (hS : ∀ l : Fin 128, S (ix2 r l) =
      ∑ g : Fin 32, row (xarg m c) (prow t r) ⟨g * 128 + l, by omega⟩ * row (xarg m c) (prow t r) ⟨g * 128 + l, by omega⟩) :
    (∑ l : Fin 128, S (ix2 r l) : EReal) = ∑ k : Fin 4096, row (xarg m c) (prow t r) k * row (xarg m c) (prow t r) k :=
  (Finset.sum_congr rfl fun l _ => hS l).trans
    (sum_lanes fun k => row (xarg m c) (prow t r) k * row (xarg m c) (prow t r) k)

theorem wblk_at (t : Fin cfg0.N) (k : Fin 4096) (j : Fin 1024) :
    (iblk m c 2 t : Vec Ideal S1x4096x1024 .bf16) (ix3 (0 : Fin 1) k j) = scaled m c k (pcol t j) := by
  have ht := lt_N t
  have h := idx t
  have e0 : win0_2.index t 0 = 0 := by rw [h.2.2.2.1]; rfl
  have e1 : win0_2.index t 1 = 0 := by rw [h.2.2.2.1]; rfl
  have e2 : win0_2.index t 2 = t.val % 12 := by rw [h.2.2.2.1]; rfl
  refine Eq.trans ?_ (weights_at m c k (pcol t j))
  refine congrArg (V m c main_v8) (funext fun a => Fin.ext ?_)
  fin_cases a
  · show win0_2.index t 0 * 1 + 1 * 0 = 0
    omega
  · show win0_2.index t 1 * 4096 + 1 * k.val = k
    omega
  · show win0_2.index t 2 * 1024 + 1 * j.val = t % 12 * 1024 + j
    omega

/-- The kernel's gate. -/
def kentry (r : Fin 16384) (j : Fin 12288) : EReal :=
  gate (∑ k : Fin 4096, row (xarg m c) r k * row (xarg m c) r k) (∑ k : Fin 4096, row (xarg m c) r k * scaled m c k j)

/-- What point `t` writes. -/
theorem out_at (t : Fin cfg0.N) (y : S1024x1024.Idx) :
    (out0_3 (iblk m c 0 t) (iblk m c 1 t) (iblk m c 2 t) : Vec Ideal S1024x1024 .bf16) y =
      kentry m c (prow t (y 0 : Fin 1024)) (pcol t (y 1 : Fin 1024)) := by
  refine (point_at (iblk m c 0 t) (iblk m c 1 t) (iblk m c 2 t) y).trans ?_
  exact gate_congr (sblk_at m c t (y 0) (iblk m c 1 t) (fun l => lane_at m c t (y 0) l))
    (Finset.sum_congr rfl fun k _ => congrArg₂ (fun a b : EReal => a * b) (xblk_at m c t (y 0) k) (wblk_at m c t k (y 1)))

end Cert.Kernel5Ideal.Gates

end
-- ==== Proof.Gates.Reference.lean ====
/- The reference of the mixers' gates, entry by entry. -/
module

public import Idealize.ShloMosaic.Lib.Pointwise
public import proofs.«01_k».proof.Proof.Gen.Reference5Ideal.Run

@[expose] public section

set_option maxRecDepth 16384

noncomputable section

namespace Cert.Reference5Ideal.Gates

open Idealize.ShloMosaic Idealize.ShloMosaic.TcCoe Idealize.SL.Sem
open Cert.Reference5Ideal Cert.Reference5Ideal.Gen

variable (X : FVec Ideal S8x2048x4096 .f32) (G : FVec Ideal S1x4096 .f32) (W : FVec Ideal S1x4096x12288 .f32)

/-- The reciprocal root mean squares of the rows. -/
def roots : FVec Ideal S8x2048x1 .f32 :=
  Host.rsqrt (addf (Host.divf (broadcastInDim S8x2048x1 ![0, 1] bcast_S8x2048_S8x2048x1_0_1 (Host.reduceAdd (mulf X X) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))

/-- The normalised rows. -/
def norms : FVec Ideal S8x2048x4096 .f32 :=
  mulf (mulf X (broadcastInDim S8x2048x4096 ![0, 1, 2] bcast_S8x2048x1_S8x2048x4096_0_1_2 (roots X))) (broadcastInDim S8x2048x4096 ![0, 1, 2] bcast_S1x1x4096_S8x2048x4096_0_1_2 (broadcastInDim S1x1x4096 ![2] bcast_S4096_S1x1x4096_2 (shapeCast S4096 G shapeCasts_S1x4096_S4096)))

/-- The products of the normalised rows with the weights. -/
def products : FVec Ideal S8x2048x12288 .f32 :=
  Host.dotGeneral dot_S8x2048x4096_S4096x12288_S8x2048x12288_2_0_01_1_n_n none (norms X G) (shapeCast S4096x12288 W shapeCasts_S1x4096x12288_S4096x12288)

/-- The gates from the products. -/
def gates (D : FVec Ideal S8x2048x12288 .f32) : FVec Ideal S16384x12288 .bf16 :=
  shapeCast S16384x12288 (truncf .bf16 (Host.divf (broadcastInDim S8x2048x12288 ![] bcast_S_S8x2048x12288 (constant S_ .f32 0x3F800000#32)) (addf (broadcastInDim S8x2048x12288 ![] bcast_S_S8x2048x12288 (constant S_ .f32 0x3F800000#32)) (Host.exp (Host.negf D)))) bitsLt_bf16_f32) shapeCasts_S8x2048x12288_S16384x12288

theorem roots_at (b : Fin 8) (s : Fin 2048) :
    roots X (ix3 b s (0 : Fin 1)) =
      Ideal.rsqrt (Ideal.div (∑ k : Fin 4096, X (ix3 b s k) * X (ix3 b s k)) (Ideal.ofBits FTy.f32 0x45800000#32) + Ideal.ofBits FTy.f32 0x358637BD#32) := by
  pointwise [roots]

theorem norms_at (b : Fin 8) (s : Fin 2048) (k : Fin 4096) :
    norms X G (ix3 b s k) = X (ix3 b s k) * roots X (ix3 b s (0 : Fin 1)) * G (ix2 (0 : Fin 1) k) := by
  pointwise [norms]

theorem products_at (b : Fin 8) (s : Fin 2048) (j : Fin 12288) :
    products X G W (ix3 b s j) = ∑ k : Fin 4096, norms X G (ix3 b s k) * W (ix3 (0 : Fin 1) k j) := by
  pointwise [products]

theorem gates_at (D : FVec Ideal S8x2048x12288 .f32) (r : Fin 16384) (j : Fin 12288) :
    gates D (ix2 r j) =
      Ideal.div (Ideal.ofBits FTy.f32 0x3F800000#32) (Ideal.ofBits FTy.f32 0x3F800000#32
        + Ideal.exp (-D (ix3 (⟨r / 2048, by omega⟩ : Fin 8) (⟨r % 2048, by omega⟩ : Fin 2048) j))) := by
  pointwise [gates]

end Cert.Reference5Ideal.Gates

end
-- ==== Proof.Gates.Equation.lean ====
/- The gates: the array that the kernel leaves is the reference's. -/
module

public import proofs.«01_k».proof.Proof.Gates.Blocks
public import proofs.«01_k».proof.Proof.Gates.Reference
public import Idealize.ShloMosaic.Lib.Pipeline.Value

@[expose] public section

set_option maxRecDepth 16384

noncomputable section

namespace Cert.Kernel5Ideal.Gates

open Idealize.ShloMosaic Idealize.ShloMosaic.TcCoe Idealize.SL.Sem
open Cert.Kernel5Ideal Cert.Kernel5Ideal.Gen Cert.Ffn Idealize.ShloMosaic.Pipeline
open Cert.Reference5Ideal.Gates

variable (m : (ℓ : Loc nD τ sig) → Buf (Elt Ideal) ℓ) (c : Dev nD)

/-- A product of a normalised row, in the kernel's form and in the reference's. -/
theorem product_eq (r : Fin 16384) (j : Fin 12288) :
    rstd (∑ k : Fin 4096, row (xarg m c) r k * row (xarg m c) r k) * ∑ k : Fin 4096, row (xarg m c) r k * scaled m c k j =
      products (xarg m c) (garg m c) (warg m c) (ix3 (⟨r / 2048, by omega⟩ : Fin 8) (⟨r % 2048, by omega⟩ : Fin 2048) j) := by
  rw [products_at]
  refine (normed_dot (row (xarg m c) r) (fun k => garg m c (ix2 (0 : Fin 1) k)) (fun k => warg m c (ix3 (0 : Fin 1) k j))).trans ?_
  refine Finset.sum_congr rfl fun k _ => ?_
  rw [norms_at, roots_at, mean_eq]
  rfl

theorem entry_eq (r : Fin 16384) (j : Fin 12288) :
    kentry m c r j = gates (products (xarg m c) (garg m c) (warg m c)) (ix2 r j) := by
  rw [gates_at]
  unfold kentry gate
  rw [product_eq, gate_eq, one_eq]
  rfl

theorem array_eq : (dats m 0 c).arrAt 3 cfg0.N = gates (products (xarg m c) (garg m c) (warg m c)) := by
  refine (dats m 0 c).arrAt_eq_of_covers 3 _ (by decide +kernel) fun t hf y => ?_
  show (dats m 0 c).after 3 t ((cfg0.win 3).xinj (cfg0.grid.coords t) y) = _
  rw [after0_3]
  have ht := lt_N t
  have h := idx t
  have e0 : win0_3.index t 0 = t.val / 12 := by rw [h.2.2.2.2]; rfl
  have e1 : win0_3.index t 1 = t.val % 12 := by rw [h.2.2.2.2]; rfl
  have hy0 : (y 0).val < 1024 := (y 0).isLt
  have hy1 : (y 1).val < 1024 := (y 1).isLt
  refine (out_at m c t _).trans ?_
  refine (entry_eq m c (prow t ⟨y 0, hy0⟩) (pcol t ⟨y 1, hy1⟩)).trans ?_
  refine congrArg (gates (products (xarg m c) (garg m c) (warg m c))) (funext fun a => Fin.ext ?_)
  fin_cases a
  · show t.val / 12 * 1024 + (y 0).val = win0_3.index t 0 * 1024 + 1 * (y 0).val
    omega
  · show t.val % 12 * 1024 + (y 1).val = win0_3.index t 1 * 1024 + 1 * (y 1).val
    omega

end Cert.Kernel5Ideal.Gates

end
-- ==== Proof.Merge.Point.lean ====
/- What one grid point of the merge computes, entry by entry. -/
module

public import proofs.«01_k».proof.Proof.Gen.Kernel6Ideal.Value
public import Idealize.ShloMosaic.Lib.Pointwise
public import Idealize.ShloMosaic.Lib.Pointwise.Select
public import Idealize.ShloMosaic.Lib.Pipeline.ValueKit

@[expose] public section

set_option maxRecDepth 16384

noncomputable section

namespace Cert.Kernel6Ideal.Merge

open Idealize.ShloMosaic Idealize.ShloMosaic.TcCoe Idealize.SL.Sem
open Cert.Kernel6Ideal Cert.Kernel6Ideal.Gen Idealize.ShloMosaic.Pipeline

/-- Two blocks of 512 weight rows, one below the other. -/
def two (a b : Vec Ideal S1x512x1024 .bf16) (k : ℕ) (hk : k < 1024) (j : Fin 1024) : EReal :=
  if h : k < 512 then a (ix3 (0 : Fin 1) (⟨k, h⟩ : Fin 512) j) else b (ix3 (0 : Fin 1) (⟨k - 512, by omega⟩ : Fin 512) j)

/-- Three blocks of 512 weight rows, one below the other. -/
def three (a b d : Vec Ideal S1x512x1024 .bf16) (k : ℕ) (hk : k < 1536) (j : Fin 1024) : EReal :=
  if h : k < 512 then a (ix3 (0 : Fin 1) (⟨k, h⟩ : Fin 512) j) else two b d (k - 512) (by omega) j

theorem first_at (w0 w1 w2 : Vec Ideal S1x512x1024 .bf16) (g : Vec Ideal S1024x1024 .bf16) (x : Vec Ideal S1024x1536 .bf16)
    (w3 w4 : Vec Ideal S1x512x1024 .bf16) (g' : Vec Ideal S1024x1024 .bf16) (x' : Vec Ideal S1024x1024 .bf16) (r j : Fin 1024) :
    k0_pay2 w0 w1 w2 g x w3 w4 g' x' (ix2 r j) =
      g (ix2 r j) * (∑ k : Fin 1536, x (ix2 r k) * three w0 w1 w2 k k.2 j)
        + g' (ix2 r j) * (∑ k : Fin 1024, x' (ix2 r k) * two w3 w4 k k.2 j) := by
  unfold three two
  pointwise [k0_pay2]

theorem last_at (s : FVec Ideal S1024x1024 .f32) (w5 w6 w7 : Vec Ideal S1x512x1024 .bf16) (g : Vec Ideal S1024x1024 .bf16) (x : Vec Ideal S1024x1536 .bf16)
    (r j : Fin 1024) :
    k0_pay1 s (k0_pay3 w5) w6 w7 g x (ix2 r j) =
      s (ix2 r j) + g (ix2 r j) * (∑ k : Fin 1536, x (ix2 r k) * three w5 w6 w7 k k.2 j) := by
  unfold three two
  pointwise [k0_pay1, k0_pay3]

theorem point_at (x0 : Vec Ideal S1024x1536 .bf16) (x1 : Vec Ideal S1024x1024 .bf16) (x2 : Vec Ideal S1024x1536 .bf16)
    (x3 x4 x5 x6 x7 x8 x9 x10 : Vec Ideal S1x512x1024 .bf16) (x11 x12 x13 : Vec Ideal S1024x1024 .bf16) (y : S1024x1024.Idx) :
    out0_14 x0 x1 x2 x3 x4 x5 x6 x7 x8 x9 x10 x11 x12 x13 y =
      x11 (ix2 (y 0 : Fin 1024) (y 1 : Fin 1024)) * (∑ k : Fin 1536, x0 (ix2 (y 0 : Fin 1024) k) * three x3 x4 x5 k k.2 (y 1 : Fin 1024))
        + x12 (ix2 (y 0 : Fin 1024) (y 1 : Fin 1024)) * (∑ k : Fin 1024, x1 (ix2 (y 0 : Fin 1024) k) * two x6 x7 k k.2 (y 1 : Fin 1024))
        + x13 (ix2 (y 0 : Fin 1024) (y 1 : Fin 1024)) * (∑ k : Fin 1536, x2 (ix2 (y 0 : Fin 1024) k) * three x8 x9 x10 k k.2 (y 1 : Fin 1024)) := by
  frame_out
  have ey : y = ix2 (y 0 : Fin 1024) (y 1 : Fin 1024) := by funext a; fin_cases a <;> rfl
  refine (congrArg (k0_pay1 (k0_pay2 x3 x4 x5 x11 x0 x6 x7 x12 x1) (k0_pay3 x8) x9 x10 x13 x2) ey).trans ((last_at _ x8 x9 x10 x13 x2 (y 0) (y 1)).trans ?_)
  exact congrArg (fun z : EReal => z + _) (first_at x3 x4 x5 x11 x0 x6 x7 x12 x1 (y 0) (y 1))

end Cert.Kernel6Ideal.Merge

end
-- ==== Proof.Merge.Blocks.lean ====
/- The blocks that a grid point of the merge reads, and what it writes. -/
module

public import proofs.«01_k».proof.Proof.Merge.Point
public import Idealize.ShloMosaic.Lib.Claim
public import Idealize.ShloMosaic.Lib.StableHlo.ReadAt

@[expose] public section

set_option maxRecDepth 16384

noncomputable section

namespace Cert.Kernel6Ideal.Merge

open Idealize.ShloMosaic Idealize.ShloMosaic.TcCoe Idealize.SL.Sem
open Cert.Kernel6Ideal Cert.Kernel6Ideal.Gen Idealize.ShloMosaic.Pipeline

variable (m : (ℓ : Loc nD τ sig) → Buf (Elt Ideal) ℓ) (c : Dev nD)

/-- The linear attention's result. -/
abbrev aarg : Vec Ideal S8x2048x1536 .f32 := m ((c : Thread nD τ).loc main_arg0)
/-- The gated network's result. -/
abbrev barg : Vec Ideal S8x2048x1024 .f32 := m ((c : Thread nD τ).loc main_arg1)
/-- The neighbourhood attention's result. -/
abbrev carg : Vec Ideal S8x2048x1536 .f32 := m ((c : Thread nD τ).loc main_arg2)
/-- The gates. -/
abbrev garg : Vec Ideal S8x2048x12288 .f32 := m ((c : Thread nD τ).loc main_arg3)
/-- The weights. -/
abbrev warg : Vec Ideal S1x4096x4096 .f32 := m ((c : Thread nD τ).loc main_arg4)

/-- Entry `k` of row `r` of the first branch, where the rows of all images follow one another. -/
def arow (r : Fin 16384) (k : Fin 1536) : EReal := aarg m c (ix3 (⟨r / 2048, by omega⟩ : Fin 8) (⟨r % 2048, by omega⟩ : Fin 2048) k)
/-- Entry `k` of row `r` of the second branch. -/
def brow (r : Fin 16384) (k : Fin 1024) : EReal := barg m c (ix3 (⟨r / 2048, by omega⟩ : Fin 8) (⟨r % 2048, by omega⟩ : Fin 2048) k)
/-- Entry `k` of row `r` of the third branch. -/
def crow (r : Fin 16384) (k : Fin 1536) : EReal := carg m c (ix3 (⟨r / 2048, by omega⟩ : Fin 8) (⟨r % 2048, by omega⟩ : Fin 2048) k)
/-- Gate `j` of row `r`. -/
def grow (r : Fin 16384) (j : Fin 12288) : EReal := garg m c (ix3 (⟨r / 2048, by omega⟩ : Fin 8) (⟨r % 2048, by omega⟩ : Fin 2048) j)

theorem a_at (r : Fin 16384) (k : Fin 1536) :
    (V m c main_v1 : Vec Ideal S16384x1536 .bf16) (ix2 r k) = arow m c r k := by
  generalize hR : arow m c r k = R
  unfold V
  after_reads_at
  subst hR
  rfl

theorem b_at (r : Fin 16384) (k : Fin 1024) :
    (V m c main_v3 : Vec Ideal S16384x1024 .bf16) (ix2 r k) = brow m c r k := by
  generalize hR : brow m c r k = R
  unfold V
  after_reads_at
  subst hR
  rfl

theorem c_at (r : Fin 16384) (k : Fin 1536) :
    (V m c main_v5 : Vec Ideal S16384x1536 .bf16) (ix2 r k) = crow m c r k := by
  generalize hR : crow m c r k = R
  unfold V
  after_reads_at
  subst hR
  rfl

theorem w_at (k : Fin 4096) (j : Fin 4096) :
    (V m c main_v6 : Vec Ideal S1x4096x4096 .bf16) (ix3 (0 : Fin 1) k j) = warg m c (ix3 (0 : Fin 1) k j) := by
  generalize hR : warg m c (ix3 (0 : Fin 1) k j) = R
  unfold V
  after_reads_at
  subst hR
  rfl

theorem g_at (r : Fin 16384) (j : Fin 12288) :
    (V m c main_v8 : Vec Ideal S16384x12288 .bf16) (ix2 r j) = grow m c r j := by
  generalize hR : grow m c r j = R
  unfold V
  after_reads_at
  subst hR
  rfl

theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![0, 0, t.val % 4] := (by decide +kernel : ∀ t : Fin grid0.N, _)
theorem idx4 : ∀ t : Fin cfg0.N, win0_4.index t = ![0, 1, t.val % 4] := (by decide +kernel : ∀ t : Fin grid0.N, _)
theorem idx5 : ∀ t : Fin cfg0.N, win0_5.index t = ![0, 2, t.val % 4] := (by decide +kernel : ∀ t : Fin grid0.N, _)
theorem idx6 : ∀ t : Fin cfg0.N, win0_6.index t = ![0, 3, t.val % 4] := (by decide +kernel : ∀ t : Fin grid0.N, _)
theorem idx7 : ∀ t : Fin cfg0.N, win0_7.index t = ![0, 4, t.val % 4] := (by decide +kernel : ∀ t : Fin grid0.N, _)
theorem idx8 : ∀ t : Fin cfg0.N, win0_8.index t = ![0, 5, t.val % 4] := (by decide +kernel : ∀ t : Fin grid0.N, _)
theorem idx9 : ∀ t : Fin cfg0.N, win0_9.index t = ![0, 6, t.val % 4] := (by decide +kernel : ∀ t : Fin grid0.N, _)
theorem idx10 : ∀ t : Fin cfg0.N, win0_10.index t = ![0, 7, t.val % 4] := (by decide +kernel : ∀ t : Fin grid0.N, _)
theorem idx11 : ∀ t : Fin cfg0.N, win0_11.index t = ![t.val / 4, t.val % 4] := (by decide +kernel : ∀ t : Fin grid0.N, _)
theorem idx12 : ∀ t : Fin cfg0.N, win0_12.index t = ![t.val / 4, t.val % 4 + 4] := (by decide +kernel : ∀ t : Fin grid0.N, _)
theorem idx13 : ∀ t : Fin cfg0.N, win0_13.index t = ![t.val / 4, t.val % 4 + 8] := (by decide +kernel : ∀ t : Fin grid0.N, _)
theorem idx14 : ∀ t : Fin cfg0.N, win0_14.index t = ![t.val / 4, t.val % 4] := (by decide +kernel : ∀ t : Fin grid0.N, _)
theorem lt_N : ∀ t : Fin cfg0.N, t.val < 64 := (by decide +kernel : ∀ t : Fin grid0.N, _)

/-- Row `r` of point `t`'s block: the grid runs over sixteen blocks of rows and, innermost, four blocks of columns. -/
def prow (t : Fin cfg0.N) (r : Fin 1024) : Fin 16384 := ⟨t / 4 * 1024 + r, by have := lt_N t; omega⟩

/-- Column `j` of point `t`'s block. -/
def pcol (t : Fin cfg0.N) (j : Fin 1024) : Fin 4096 := ⟨t % 4 * 1024 + j, by omega⟩

theorem ablk_at (t : Fin cfg0.N) (r : Fin 1024) (k : Fin 1536) :
    (iblk m c 0 t : Vec Ideal S1024x1536 .bf16) (ix2 r k) = arow m c (prow t r) k := by
  have e0 : win0_0.index t 0 = t.val / 4 := by rw [idx0 t]; rfl
  have e1 : win0_0.index t 1 = 0 := by rw [idx0 t]; rfl
  refine Eq.trans ?_ (a_at m c (prow t r) k)
  refine congrArg (V m c main_v1) (funext fun a => Fin.ext ?_)
  fin_cases a
  · show win0_0.index t 0 * 1024 + 1 * r.val = t / 4 * 1024 + r
    omega
  · show win0_0.index t 1 * 1536 + 1 * k.val = k
    omega

theorem bblk_at (t : Fin cfg0.N) (r : Fin 1024) (k : Fin 1024) :
    (iblk m c 1 t : Vec Ideal S1024x1024 .bf16) (ix2 r k) = brow m c (prow t r) k := by
  have e0 : win0_1.index t 0 = t.val / 4 := by rw [idx1 t]; rfl
  have e1 : win0_1.index t 1 = 0 := by rw [idx1 t]; rfl
  refine Eq.trans ?_ (b_at m c (prow t r) k)
  refine congrArg (V m c main_v3) (funext fun a => Fin.ext ?_)
  fin_cases a
  · show win0_1.index t 0 * 1024 + 1 * r.val = t / 4 * 1024 + r
    omega
  · show win0_1.index t 1 * 1024 + 1 * k.val = k
    omega

theorem cblk_at (t : Fin cfg0.N) (r : Fin 1024) (k : Fin 1536) :
    (iblk m c 2 t : Vec Ideal S1024x1536 .bf16) (ix2 r k) = crow m c (prow t r) k := by
  have e0 : win0_2.index t 0 = t.val / 4 := by rw [idx2 t]; rfl
  have e1 : win0_2.index t 1 = 0 := by rw [idx2 t]; rfl
  refine Eq.trans ?_ (c_at m c (prow t r) k)
  refine congrArg (V m c main_v5) (funext fun a => Fin.ext ?_)
  fin_cases a
  · show win0_2.index t 0 * 1024 + 1 * r.val = t / 4 * 1024 + r
    omega
  · show win0_2.index t 1 * 1536 + 1 * k.val = k
    omega

theorem wblk0_at (t : Fin cfg0.N) (k : Fin 512) (j : Fin 1024) :
    (iblk m c 3 t : Vec Ideal S1x512x1024 .bf16) (ix3 (0 : Fin 1) k j) = warg m c (ix3 (0 : Fin 1) (⟨0 + k, by omega⟩ : Fin 4096) (pcol t j)) := by
  have e0 : win0_3.index t 0 = 0 := by rw [idx3 t]; rfl
  have e1 : win0_3.index t 1 = 0 := by rw [idx3 t]; rfl
  have e2 : win0_3.index t 2 = t.val % 4 := by rw [idx3 t]; rfl
  refine Eq.trans ?_ (w_at m c (⟨0 + k, by omega⟩ : Fin 4096) (pcol t j))
  refine congrArg (V m c main_v6) (funext fun a => Fin.ext ?_)
  fin_cases a
  · show win0_3.index t 0 * 1 + 1 * 0 = 0
    omega
  · show win0_3.index t 1 * 512 + 1 * k.val = 0 + k
    omega
  · show win0_3.index t 2 * 1024 + 1 * j.val = t % 4 * 1024 + j
    omega

theorem wblk1_at (t : Fin cfg0.N) (k : Fin 512) (j : Fin 1024) :
    (iblk m c 4 t : Vec Ideal S1x512x1024 .bf16) (ix3 (0 : Fin 1) k j) = warg m c (ix3 (0 : Fin 1) (⟨512 + k, by omega⟩ : Fin 4096) (pcol t j)) := by
  have e0 : win0_4.index t 0 = 0 := by rw [idx4 t]; rfl
  have e1 : win0_4.index t 1 = 1 := by rw [idx4 t]; rfl
  have e2 : win0_4.index t 2 = t.val % 4 := by rw [idx4 t]; rfl
  refine Eq.trans ?_ (w_at m c (⟨512 + k, by omega⟩ : Fin 4096) (pcol t j))
  refine congrArg (V m c main_v6) (funext fun a => Fin.ext ?_)
  fin_cases a
  · show win0_4.index t 0 * 1 + 1 * 0 = 0
    omega
  · show win0_4.index t 1 * 512 + 1 * k.val = 512 + k
    omega
  · show win0_4.index t 2 * 1024 + 1 * j.val = t % 4 * 1024 + j
    omega

theorem wblk2_at (t : Fin cfg0.N) (k : Fin 512) (j : Fin 1024) :
    (iblk m c 5 t : Vec Ideal S1x512x1024 .bf16) (ix3 (0 : Fin 1) k j) = warg m c (ix3 (0 : Fin 1) (⟨1024 + k, by omega⟩ : Fin 4096) (pcol t j)) := by
  have e0 : win0_5.index t 0 = 0 := by rw [idx5 t]; rfl
  have e1 : win0_5.index t 1 = 2 := by rw [idx5 t]; rfl
  have e2 : win0_5.index t 2 = t.val % 4 := by rw [idx5 t]; rfl
  refine Eq.trans ?_ (w_at m c (⟨1024 + k, by omega⟩ : Fin 4096) (pcol t j))
  refine congrArg (V m c main_v6) (funext fun a => Fin.ext ?_)
  fin_cases a
  · show win0_5.index t 0 * 1 + 1 * 0 = 0
    omega
  · show win0_5.index t 1 * 512 + 1 * k.val = 1024 + k
    omega
  · show win0_5.index t 2 * 1024 + 1 * j.val = t % 4 * 1024 + j
    omega

theorem wblk3_at (t : Fin cfg0.N) (k : Fin 512) (j : Fin 1024) :
    (iblk m c 6 t : Vec Ideal S1x512x1024 .bf16) (ix3 (0 : Fin 1) k j) = warg m c (ix3 (0 : Fin 1) (⟨1536 + k, by omega⟩ : Fin 4096) (pcol t j)) := by
  have e0 : win0_6.index t 0 = 0 := by rw [idx6 t]; rfl
  have e1 : win0_6.index t 1 = 3 := by rw [idx6 t]; rfl
  have e2 : win0_6.index t 2 = t.val % 4 := by rw [idx6 t]; rfl
  refine Eq.trans ?_ (w_at m c (⟨1536 + k, by omega⟩ : Fin 4096) (pcol t j))
  refine congrArg (V m c main_v6) (funext fun a => Fin.ext ?_)
  fin_cases a
  · show win0_6.index t 0 * 1 + 1 * 0 = 0
    omega
  · show win0_6.index t 1 * 512 + 1 * k.val = 1536 + k
    omega
  · show win0_6.index t 2 * 1024 + 1 * j.val = t % 4 * 1024 + j
    omega

theorem wblk4_at (t : Fin cfg0.N) (k : Fin 512) (j : Fin 1024) :
    (iblk m c 7 t : Vec Ideal S1x512x1024 .bf16) (ix3 (0 : Fin 1) k j) = warg m c (ix3 (0 : Fin 1) (⟨2048 + k, by omega⟩ : Fin 4096) (pcol t j)) := by
  have e0 : win0_7.index t 0 = 0 := by rw [idx7 t]; rfl
  have e1 : win0_7.index t 1 = 4 := by rw [idx7 t]; rfl
  have e2 : win0_7.index t 2 = t.val % 4 := by rw [idx7 t]; rfl
  refine Eq.trans ?_ (w_at m c (⟨2048 + k, by omega⟩ : Fin 4096) (pcol t j))
  refine congrArg (V m c main_v6) (funext fun a => Fin.ext ?_)
  fin_cases a
  · show win0_7.index t 0 * 1 + 1 * 0 = 0
    omega
  · show win0_7.index t 1 * 512 + 1 * k.val = 2048 + k
    omega
  · show win0_7.index t 2 * 1024 + 1 * j.val = t % 4 * 1024 + j
    omega

theorem wblk5_at (t : Fin cfg0.N) (k : Fin 512) (j : Fin 1024) :
    (iblk m c 8 t : Vec Ideal S1x512x1024 .bf16) (ix3 (0 : Fin 1) k j) = warg m c (ix3 (0 : Fin 1) (⟨2560 + k, by omega⟩ : Fin 4096) (pcol t j)) := by
  have e0 : win0_8.index t 0 = 0 := by rw [idx8 t]; rfl
  have e1 : win0_8.index t 1 = 5 := by rw [idx8 t]; rfl
  have e2 : win0_8.index t 2 = t.val % 4 := by rw [idx8 t]; rfl
  refine Eq.trans ?_ (w_at m c (⟨2560 + k, by omega⟩ : Fin 4096) (pcol t j))
  refine congrArg (V m c main_v6) (funext fun a => Fin.ext ?_)
  fin_cases a
  · show win0_8.index t 0 * 1 + 1 * 0 = 0
    omega
  · show win0_8.index t 1 * 512 + 1 * k.val = 2560 + k
    omega
  · show win0_8.index t 2 * 1024 + 1 * j.val = t % 4 * 1024 + j
    omega

theorem wblk6_at (t : Fin cfg0.N) (k : Fin 512) (j : Fin 1024) :
    (iblk m c 9 t : Vec Ideal S1x512x1024 .bf16) (ix3 (0 : Fin 1) k j) = warg m c (ix3 (0 : Fin 1) (⟨3072 + k, by omega⟩ : Fin 4096) (pcol t j)) := by
  have e0 : win0_9.index t 0 = 0 := by rw [idx9 t]; rfl
  have e1 : win0_9.index t 1 = 6 := by rw [idx9 t]; rfl
  have e2 : win0_9.index t 2 = t.val % 4 := by rw [idx9 t]; rfl
  refine Eq.trans ?_ (w_at m c (⟨3072 + k, by omega⟩ : Fin 4096) (pcol t j))
  refine congrArg (V m c main_v6) (funext fun a => Fin.ext ?_)
  fin_cases a
  · show win0_9.index t 0 * 1 + 1 * 0 = 0
    omega
  · show win0_9.index t 1 * 512 + 1 * k.val = 3072 + k
    omega
  · show win0_9.index t 2 * 1024 + 1 * j.val = t % 4 * 1024 + j
    omega

theorem wblk7_at (t : Fin cfg0.N) (k : Fin 512) (j : Fin 1024) :
    (iblk m c 10 t : Vec Ideal S1x512x1024 .bf16) (ix3 (0 : Fin 1) k j) = warg m c (ix3 (0 : Fin 1) (⟨3584 + k, by omega⟩ : Fin 4096) (pcol t j)) := by
  have e0 : win0_10.index t 0 = 0 := by rw [idx10 t]; rfl
  have e1 : win0_10.index t 1 = 7 := by rw [idx10 t]; rfl
  have e2 : win0_10.index t 2 = t.val % 4 := by rw [idx10 t]; rfl
  refine Eq.trans ?_ (w_at m c (⟨3584 + k, by omega⟩ : Fin 4096) (pcol t j))
  refine congrArg (V m c main_v6) (funext fun a => Fin.ext ?_)
  fin_cases a
  · show win0_10.index t 0 * 1 + 1 * 0 = 0
    omega
  · show win0_10.index t 1 * 512 + 1 * k.val = 3584 + k
    omega
  · show win0_10.index t 2 * 1024 + 1 * j.val = t % 4 * 1024 + j
    omega

theorem gblk0_at (t : Fin cfg0.N) (r j : Fin 1024) :
    (iblk m c 11 t : Vec Ideal S1024x1024 .bf16) (ix2 r j) = grow m c (prow t r) (⟨0 + (pcol t j).val, by omega⟩ : Fin 12288) := by
  have e0 : win0_11.index t 0 = t.val / 4 := by rw [idx11 t]; rfl
  have e1 : win0_11.index t 1 = t.val % 4 + 0 := by rw [idx11 t]; rfl
  refine Eq.trans ?_ (g_at m c (prow t r) (⟨0 + (pcol t j).val, by omega⟩ : Fin 12288))
  refine congrArg (V m c main_v8) (funext fun a => Fin.ext ?_)
  fin_cases a
  · show win0_11.index t 0 * 1024 + 1 * r.val = t / 4 * 1024 + r
    omega
  · show win0_11.index t 1 * 1024 + 1 * j.val = 0 + (t % 4 * 1024 + j)
    omega

theorem gblk1_at (t : Fin cfg0.N) (r j : Fin 1024) :
    (iblk m c 12 t : Vec Ideal S1024x1024 .bf16) (ix2 r j) = grow m c (prow t r) (⟨4096 + (pcol t j).val, by omega⟩ : Fin 12288) := by
  have e0 : win0_12.index t 0 = t.val / 4 := by rw [idx12 t]; rfl
  have e1 : win0_12.index t 1 = t.val % 4 + 4 := by rw [idx12 t]; rfl
  refine Eq.trans ?_ (g_at m c (prow t r) (⟨4096 + (pcol t j).val, by omega⟩ : Fin 12288))
  refine congrArg (V m c main_v8) (funext fun a => Fin.ext ?_)
  fin_cases a
  · show win0_12.index t 0 * 1024 + 1 * r.val = t / 4 * 1024 + r
    omega
  · show win0_12.index t 1 * 1024 + 1 * j.val = 4096 + (t % 4 * 1024 + j)
    omega

theorem gblk2_at (t : Fin cfg0.N) (r j : Fin 1024) :
    (iblk m c 13 t : Vec Ideal S1024x1024 .bf16) (ix2 r j) = grow m c (prow t r) (⟨8192 + (pcol t j).val, by omega⟩ : Fin 12288) := by
  have e0 : win0_13.index t 0 = t.val / 4 := by rw [idx13 t]; rfl
  have e1 : win0_13.index t 1 = t.val % 4 + 8 := by rw [idx13 t]; rfl
  refine Eq.trans ?_ (g_at m c (prow t r) (⟨8192 + (pcol t j).val, by omega⟩ : Fin 12288))
  refine congrArg (V m c main_v8) (funext fun a => Fin.ext ?_)
  fin_cases a
  · show win0_13.index t 0 * 1024 + 1 * r.val = t / 4 * 1024 + r
    omega
  · show win0_13.index t 1 * 1024 + 1 * j.val = 8192 + (t % 4 * 1024 + j)
    omega

/-- Two blocks one below the other are rows of the weights that follow one another. -/
theorem two_eq (a b : Vec Ideal S1x512x1024 .bf16) (s : ℕ) (hs : s + 1024 ≤ 4096) (j : Fin 1024) (q : Fin 4096)
    (ha : ∀ k : Fin 512, a (ix3 (0 : Fin 1) k j) = warg m c (ix3 (0 : Fin 1) (⟨s + k, by omega⟩ : Fin 4096) q))
    (hb : ∀ k : Fin 512, b (ix3 (0 : Fin 1) k j) = warg m c (ix3 (0 : Fin 1) (⟨s + 512 + k, by omega⟩ : Fin 4096) q)) (k : ℕ) (hk : k < 1024) :
    two a b k hk j = warg m c (ix3 (0 : Fin 1) (⟨s + k, by omega⟩ : Fin 4096) q) := by
  unfold two
  by_cases h : k < 512
  · rw [dif_pos h]
    exact ha ⟨k, h⟩
  · rw [dif_neg h]
    refine (hb ⟨k - 512, by omega⟩).trans (congrArg (fun z => warg m c (ix3 (0 : Fin 1) z q)) (Fin.ext ?_))
    show s + 512 + (k - 512) = s + k
    omega

/-- Three blocks one below the other are rows of the weights that follow one another. -/
theorem three_eq (a b d : Vec Ideal S1x512x1024 .bf16) (s : ℕ) (hs : s + 1536 ≤ 4096) (j : Fin 1024) (q : Fin 4096)
    (ha : ∀ k : Fin 512, a (ix3 (0 : Fin 1) k j) = warg m c (ix3 (0 : Fin 1) (⟨s + k, by omega⟩ : Fin 4096) q))
    (hb : ∀ k : Fin 512, b (ix3 (0 : Fin 1) k j) = warg m c (ix3 (0 : Fin 1) (⟨s + 512 + k, by omega⟩ : Fin 4096) q))
    (hd : ∀ k : Fin 512, d (ix3 (0 : Fin 1) k j) = warg m c (ix3 (0 : Fin 1) (⟨s + 512 + 512 + k, by omega⟩ : Fin 4096) q)) (k : ℕ) (hk : k < 1536) :
    three a b d k hk j = warg m c (ix3 (0 : Fin 1) (⟨s + k, by omega⟩ : Fin 4096) q) := by
  unfold three
  by_cases h : k < 512
  · rw [dif_pos h]
    exact ha ⟨k, h⟩
  · rw [dif_neg h]
    refine (two_eq m c b d (s + 512) (by omega) j q hb hd (k - 512) (by omega)).trans (congrArg (fun z => warg m c (ix3 (0 : Fin 1) z q)) (Fin.ext ?_))
    show s + 512 + (k - 512) = s + k
    omega

/-- The kernel's entry of the merged branches. -/
def kentry (r : Fin 16384) (j : Fin 4096) : EReal :=
  grow m c r (⟨0 + j.val, by omega⟩ : Fin 12288) * (∑ k : Fin 1536, arow m c r k * warg m c (ix3 (0 : Fin 1) (⟨0 + k, by omega⟩ : Fin 4096) j))
    + grow m c r (⟨4096 + j.val, by omega⟩ : Fin 12288) * (∑ k : Fin 1024, brow m c r k * warg m c (ix3 (0 : Fin 1) (⟨1536 + k, by omega⟩ : Fin 4096) j))
    + grow m c r (⟨8192 + j.val, by omega⟩ : Fin 12288) * (∑ k : Fin 1536, crow m c r k * warg m c (ix3 (0 : Fin 1) (⟨2560 + k, by omega⟩ : Fin 4096) j))

theorem terms_congr {g1 g1' s1 s1' g2 g2' s2 s2' g3 g3' s3 s3' : EReal} (h1 : g1 = g1') (e1 : s1 = s1') (h2 : g2 = g2') (e2 : s2 = s2')
    (h3 : g3 = g3') (e3 : s3 = s3') : g1 * s1 + g2 * s2 + g3 * s3 = g1' * s1' + g2' * s2' + g3' * s3' := by
  rw [h1, e1, h2, e2, h3, e3]

/-- What point `t` writes. -/
theorem out_at (t : Fin cfg0.N) (y : S1024x1024.Idx) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S1024x1024 .bf16) y =
      kentry m c (prow t (y 0 : Fin 1024)) (pcol t (y 1 : Fin 1024)) := by
  refine (point_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y).trans ?_
  refine terms_congr (gblk0_at m c t (y 0) (y 1)) (Finset.sum_congr rfl fun k _ => congrArg₂ (fun a b : EReal => a * b) (ablk_at m c t (y 0) k) ?_)
    (gblk1_at m c t (y 0) (y 1)) (Finset.sum_congr rfl fun k _ => congrArg₂ (fun a b : EReal => a * b) (bblk_at m c t (y 0) k) ?_)
    (gblk2_at m c t (y 0) (y 1)) (Finset.sum_congr rfl fun k _ => congrArg₂ (fun a b : EReal => a * b) (cblk_at m c t (y 0) k) ?_)
  · exact three_eq m c _ _ _ 0 (by omega) (y 1) (pcol t (y 1)) (fun k => wblk0_at m c t k (y 1)) (fun k => wblk1_at m c t k (y 1)) (fun k => wblk2_at m c t k (y 1)) k k.2
  · exact two_eq m c _ _ 1536 (by omega) (y 1) (pcol t (y 1)) (fun k => wblk3_at m c t k (y 1)) (fun k => wblk4_at m c t k (y 1)) k k.2
  · exact three_eq m c _ _ _ 2560 (by omega) (y 1) (pcol t (y 1)) (fun k => wblk5_at m c t k (y 1)) (fun k => wblk6_at m c t k (y 1)) (fun k => wblk7_at m c t k (y 1)) k k.2

end Cert.Kernel6Ideal.Merge

end
-- ==== Proof.Merge.Reference.lean ====
/- The reference of the merge of the mixers, entry by entry. -/
module

public import Idealize.ShloMosaic.Lib.Pointwise
public import proofs.«01_k».proof.Proof.Gen.Reference6Ideal.Run

@[expose] public section

set_option maxRecDepth 16384

noncomputable section

namespace Cert.Reference6Ideal.Merge

open Idealize.ShloMosaic Idealize.ShloMosaic.TcCoe Idealize.SL.Sem
open Cert.Reference6Ideal Cert.Reference6Ideal.Gen

variable (A : FVec Ideal S8x2048x1536 .f32) (B : FVec Ideal S8x2048x1024 .f32) (C : FVec Ideal S8x2048x1536 .f32)
  (G : FVec Ideal S8x2048x12288 .f32) (W : FVec Ideal S1x4096x4096 .f32)

/-- The three branches' products with their rows of the weights, gated and added. -/
def merged : FVec Ideal S16384x4096 .bf16 :=
  shapeCast S16384x4096 (truncf .bf16 (addf (addf (mulf (extractStridedSlice S8x2048x4096 ![0, 0, 0] G slices_S8x2048x12288_S8x2048x4096_0_0_0) (Host.dotGeneral dot_S8x2048x1536_S1536x4096_S8x2048x4096_2_0_01_1_n_n none A (extractStridedSlice S1536x4096 ![0, 0] (shapeCast S4096x4096 W shapeCasts_S1x4096x4096_S4096x4096) slices_S4096x4096_S1536x4096_0_0))) (mulf (extractStridedSlice S8x2048x4096 ![0, 0, 4096] G slices_S8x2048x12288_S8x2048x4096_0_0_4096) (Host.dotGeneral dot_S8x2048x1024_S1024x4096_S8x2048x4096_2_0_01_1_n_n none B (extractStridedSlice S1024x4096 ![1536, 0] (shapeCast S4096x4096 W shapeCasts_S1x4096x4096_S4096x4096) slices_S4096x4096_S1024x4096_1536_0)))) (mulf (extractStridedSlice S8x2048x4096 ![0, 0, 8192] G slices_S8x2048x12288_S8x2048x4096_0_0_8192) (Host.dotGeneral dot_S8x2048x1536_S1536x4096_S8x2048x4096_2_0_01_1_n_n none C (extractStridedSlice S1536x4096 ![2560, 0] (shapeCast S4096x4096 W shapeCasts_S1x4096x4096_S4096x4096) slices_S4096x4096_S1536x4096_2560_0)))) bitsLt_bf16_f32) shapeCasts_S8x2048x4096_S16384x4096

theorem merged_at (r : Fin 16384) (j : Fin 4096) :
    merged A B C G W (ix2 r j) =
      G (ix3 (⟨r / 2048, by omega⟩ : Fin 8) (⟨r % 2048, by omega⟩ : Fin 2048) (⟨j, by omega⟩ : Fin 12288))
          * (∑ k : Fin 1536, A (ix3 (⟨r / 2048, by omega⟩ : Fin 8) (⟨r % 2048, by omega⟩ : Fin 2048) k) * W (ix3 (0 : Fin 1) (⟨k, by omega⟩ : Fin 4096) j))
        + G (ix3 (⟨r / 2048, by omega⟩ : Fin 8) (⟨r % 2048, by omega⟩ : Fin 2048) (⟨4096 + j, by omega⟩ : Fin 12288))
          * (∑ k : Fin 1024, B (ix3 (⟨r / 2048, by omega⟩ : Fin 8) (⟨r % 2048, by omega⟩ : Fin 2048) k) * W (ix3 (0 : Fin 1) (⟨1536 + k, by omega⟩ : Fin 4096) j))
        + G (ix3 (⟨r / 2048, by omega⟩ : Fin 8) (⟨r % 2048, by omega⟩ : Fin 2048) (⟨8192 + j, by omega⟩ : Fin 12288))
          * (∑ k : Fin 1536, C (ix3 (⟨r / 2048, by omega⟩ : Fin 8) (⟨r % 2048, by omega⟩ : Fin 2048) k) * W (ix3 (0 : Fin 1) (⟨2560 + k, by omega⟩ : Fin 4096) j)) := by
  pointwise [merged]

end Cert.Reference6Ideal.Merge

end
-- ==== Proof.Merge.Equation.lean ====
/- The merge: the array that the kernel leaves is the reference's. -/
module

public import proofs.«01_k».proof.Proof.Merge.Blocks
public import proofs.«01_k».proof.Proof.Merge.Reference
public import Idealize.ShloMosaic.Lib.Pipeline.Value

@[expose] public section

set_option maxRecDepth 16384

noncomputable section

namespace Cert.Kernel6Ideal.Merge

open Idealize.ShloMosaic Idealize.ShloMosaic.TcCoe Idealize.SL.Sem
open Cert.Kernel6Ideal Cert.Kernel6Ideal.Gen Idealize.ShloMosaic.Pipeline
open Cert.Reference6Ideal.Merge

variable (m : (ℓ : Loc nD τ sig) → Buf (Elt Ideal) ℓ) (c : Dev nD)

theorem entry_eq (r : Fin 16384) (j : Fin 4096) :
    kentry m c r j = merged (aarg m c) (barg m c) (carg m c) (garg m c) (warg m c) (ix2 r j) := by
  rw [merged_at]
  unfold kentry
  refine terms_congr (congrArg (grow m c r) (Fin.ext (Nat.zero_add _))) (Finset.sum_congr rfl fun k _ => ?_) rfl rfl rfl rfl
  exact congrArg (fun z => arow m c r k * warg m c (ix3 (0 : Fin 1) z j)) (Fin.ext (Nat.zero_add _))

theorem array_eq : (dats m 0 c).arrAt 14 cfg0.N = merged (aarg m c) (barg m c) (carg m c) (garg m c) (warg m c) := by
  refine (dats m 0 c).arrAt_eq_of_covers 14 _ (by decide +kernel) fun t hf y => ?_
  show (dats m 0 c).after 14 t ((cfg0.win 14).xinj (cfg0.grid.coords t) y) = _
  rw [after0_14]
  have ht := lt_N t
  have e0 : win0_14.index t 0 = t.val / 4 := by rw [idx14 t]; rfl
  have e1 : win0_14.index t 1 = t.val % 4 := by rw [idx14 t]; rfl
  have hy0 : (y 0).val < 1024 := (y 0).isLt
  have hy1 : (y 1).val < 1024 := (y 1).isLt
  refine (out_at m c t _).trans ?_
  refine (entry_eq m c (prow t ⟨y 0, hy0⟩) (pcol t ⟨y 1, hy1⟩)).trans ?_
  refine congrArg (merged (aarg m c) (barg m c) (carg m c) (garg m c) (warg m c)) (funext fun a => Fin.ext ?_)
  fin_cases a
  · show t.val / 4 * 1024 + (y 0).val = win0_14.index t 0 * 1024 + 1 * (y 0).val
    omega
  · show t.val % 4 * 1024 + (y 1).val = win0_14.index t 1 * 1024 + 1 * (y 1).val
    omega

end Cert.Kernel6Ideal.Merge

end
-- ==== Proof.MixOut.Point.lean ====
/- What one grid point of the mixers' output projection computes, entry by entry. -/
module

public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.Kernel7Ideal.MixOut

open Idealize.ShloMosaic Idealize.ShloMosaic.TcCoe Idealize.SL.Sem
open Cert.Kernel7Ideal Cert.Kernel7Ideal.Gen Idealize.ShloMosaic.Pipeline

/-- An entry of the block's product added to the stream. -/
def blockEntry (x0 : Vec Ideal S1024x4096 .bf16) (x1 : Vec Ideal S1x4096x512 .bf16) (x2 : Vec Ideal S1024x512 .f32) (r : Fin 1024) (j : Fin 512) : EReal :=
  x2 (ix2 r j) + ∑ k : Fin 4096, x0 (ix2 r k) * x1 (ix3 (0 : Fin 1) k j)

theorem copy_at (v : Vec Ideal S1024x512 .f32) (r : Fin 1024) (j : Fin 512) : k0_pay1 v (ix2 r j) = v (ix2 r j) := by
  pointwise [k0_pay1]

theorem add_at (v : Vec Ideal S1024x512 .f32) (a : Vec Ideal S1024x4096 .bf16) (w : Vec Ideal S1x4096x512 .bf16) (r : Fin 1024) (j : Fin 512) :
    k0_pay2 v a w (ix2 r j) = v (ix2 r j) + ∑ k : Fin 4096, a (ix2 r k) * w (ix3 (0 : Fin 1) k j) := by
  pointwise [k0_pay2]

theorem narrow_at (v : Vec Ideal S1024x512 .f32) (r : Fin 1024) (j : Fin 512) : k0_pay4 v (ix2 r j) = v (ix2 r j) := by
  pointwise [k0_pay4, k0_pay3]

/-- The sum of squares of the four entries of one lane. -/
def four (e : Fin 512 → EReal) (l : Fin 128) : EReal :=
  e ⟨l, by omega⟩ * e ⟨l, by omega⟩ + e ⟨128 + l, by omega⟩ * e ⟨128 + l, by omega⟩ + e ⟨256 + l, by omega⟩ * e ⟨256 + l, by omega⟩
    + e ⟨384 + l, by omega⟩ * e ⟨384 + l, by omega⟩

theorem squares_at (v : Vec Ideal S1024x512 .f32) (r : Fin 1024) (l : Fin 128) :
    k0_pay5 v (ix2 r l) = four (fun j => v (ix2 r j)) l := by
  unfold four
  pointwise [k0_pay5, k0_pay3]

theorem more_at (v : Vec Ideal S1024x512 .f32) (s : Vec Ideal S1024x128 .f32) (r : Fin 1024) (l : Fin 128) :
    k0_pay6 v s (ix2 r l) = s (ix2 r l) + four (fun j => v (ix2 r j)) l := by
  unfold four
  pointwise [k0_pay6, k0_pay5, k0_pay3]

theorem sum_at (x0 : Vec Ideal S1024x4096 .bf16) (x1 : Vec Ideal S1x4096x512 .bf16) (x2 : Vec Ideal S1024x512 .f32) (r : Fin 1024) (j : Fin 512) :
    k0_pay2 (k0_pay1 x2) x0 x1 (ix2 r j) = blockEntry x0 x1 x2 r j := by
  rw [add_at, copy_at]
  rfl

variable (c : Dev nD) (i : grid0.Coords) (arg3 : Memref sig .tc .vmem S1024x4096 .bf16) (harg3 : arg3.IsWhole) (arg4 : Memref sig .tc .vmem S1x4096x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1024x128 .f32) (harg8 : arg8.IsWhole)
  (x0 : Vec Ideal S1024x4096 .bf16) (x1 : Vec Ideal S1x4096x512 .bf16) (x2 : Vec Ideal S1024x512 .f32)

theorem streamA_at (hc0 : cond0_0 i) (hc1 : cond0_1 i) (hc2 : cond0_2 i) (hc3 : ¬cond0_3 i) (r : Fin 1024) (j : Fin 512) :
    out0_A_3 c i arg3 harg3 arg4 harg4 arg5 harg5 arg6 harg6 arg7 harg7 arg8 harg8 hc0 hc1 hc2 hc3 x0 x1 x2 (ix2 r j) = blockEntry x0 x1 x2 r j := by
  frame_out
  exact sum_at x0 x1 x2 r j

theorem narrowA_at (hc0 : cond0_0 i) (hc1 : cond0_1 i) (hc2 : cond0_2 i) (hc3 : ¬cond0_3 i) (r : Fin 1024) (j : Fin 512) :
    out0_A_4 c i arg3 harg3 arg4 harg4 arg5 harg5 arg6 harg6 arg7 harg7 arg8 harg8 hc0 hc1 hc2 hc3 x0 x1 x2 (ix2 r j) = blockEntry x0 x1 x2 r j := by
  frame_out
  exact (narrow_at _ r j).trans (sum_at x0 x1 x2 r j)

theorem lanesA_at (hc0 : cond0_0 i) (hc1 : cond0_1 i) (hc2 : cond0_2 i) (hc3 : ¬cond0_3 i) (r : Fin 1024) (l : Fin 128) :
    out0_A_5 c i arg3 harg3 arg4 harg4 arg5 harg5 arg6 harg6 arg7 harg7 arg8 harg8 hc0 hc1 hc2 hc3 x0 x1 x2 (ix2 r l) = four (blockEntry x0 x1 x2 r) l := by
  frame_out
  refine (squares_at _ r l).trans ?_
  exact congrArg (fun e => four e l) (funext fun j => sum_at x0 x1 x2 r j)

theorem streamB_at (hc0 : cond0_0 i) (hc1 : cond0_1 i) (hc2 : ¬cond0_2 i) (hc3 : cond0_3 i) (xo : Vec Ideal S1024x128 .f32) (r : Fin 1024) (j : Fin 512) :
    out0_B_3 c i arg3 harg3 arg4 harg4 arg5 harg5 arg6 harg6 arg7 harg7 arg8 harg8 hc0 hc1 hc2 hc3 x0 x1 x2 xo (ix2 r j) = blockEntry x0 x1 x2 r j := by
  frame_out
  exact sum_at x0 x1 x2 r j

theorem narrowB_at (hc0 : cond0_0 i) (hc1 : cond0_1 i) (hc2 : ¬cond0_2 i) (hc3 : cond0_3 i) (xo : Vec Ideal S1024x128 .f32) (r : Fin 1024) (j : Fin 512) :
    out0_B_4 c i arg3 harg3 arg4 harg4 arg5 harg5 arg6 harg6 arg7 harg7 arg8 harg8 hc0 hc1 hc2 hc3 x0 x1 x2 xo (ix2 r j) = blockEntry x0 x1 x2 r j := by
  frame_out
  exact (narrow_at _ r j).trans (sum_at x0 x1 x2 r j)

theorem lanesB_at (hc0 : cond0_0 i) (hc1 : cond0_1 i) (hc2 : ¬cond0_2 i) (hc3 : cond0_3 i) (xo : Vec Ideal S1024x128 .f32) (r : Fin 1024) (l : Fin 128) :
    out0_B_5 c i arg3 harg3 arg4 harg4 arg5 harg5 arg6 harg6 arg7 harg7 arg8 harg8 hc0 hc1 hc2 hc3 x0 x1 x2 xo (ix2 r l) = xo (ix2 r l) + four (blockEntry x0 x1 x2 r) l := by
  frame_out
  refine (more_at _ xo r l).trans ?_
  exact congrArg (fun e => xo (ix2 r l) + four e l) (funext fun j => sum_at x0 x1 x2 r j)

end Cert.Kernel7Ideal.MixOut

end
-- ==== Proof.MixOut.Blocks.lean ====
/- The blocks that a grid point of the mixers' output projection reads, and what the three output blocks hold after it. -/
module

public import proofs.«01_k».proof.Proof.MixOut.Point
public import Idealize.ShloMosaic.Lib.Claim
public import Idealize.ShloMosaic.Lib.StableHlo.ReadAt

@[expose] public section

set_option maxRecDepth 16384

noncomputable section

namespace Cert.Kernel7Ideal.MixOut

open Idealize.ShloMosaic Idealize.ShloMosaic.TcCoe Idealize.SL.Sem
open Cert.Kernel7Ideal Cert.Kernel7Ideal.Gen Idealize.ShloMosaic.Pipeline

variable (m : (ℓ : Loc nD τ sig) → Buf (Elt Ideal) ℓ) (c : Dev nD)

/-- The stream. -/
abbrev xarg : Vec Ideal S8x2048x4096 .f32 := m ((c : Thread nD τ).loc main_arg0)
/-- The merged branches. -/
abbrev yarg : Vec Ideal S8x2048x4096 .f32 := m ((c : Thread nD τ).loc main_arg1)
/-- The weights. -/
abbrev warg : Vec Ideal S1x4096x4096 .f32 := m ((c : Thread nD τ).loc main_arg2)

/-- Entry `k` of row `r` of the stream, where the rows of all images follow one another. -/
def xrow (r : Fin 16384) (k : Fin 4096) : EReal := xarg m c (ix3 (⟨r / 2048, by omega⟩ : Fin 8) (⟨r % 2048, by omega⟩ : Fin 2048) k)
/-- Entry `k` of row `r` of the merged branches. -/
def yrow (r : Fin 16384) (k : Fin 4096) : EReal := yarg m c (ix3 (⟨r / 2048, by omega⟩ : Fin 8) (⟨r % 2048, by omega⟩ : Fin 2048) k)

theorem y_at (r : Fin 16384) (k : Fin 4096) :
    (V m c main_v1 : Vec Ideal S16384x4096 .bf16) (ix2 r k) = yrow m c r k := by
  generalize hR : yrow m c r k = R
  unfold V
  after_reads_at
  subst hR
  rfl

theorem w_at (k : Fin 4096) (j : Fin 4096) :
    (V m c main_v2 : Vec Ideal S1x4096x4096 .bf16) (ix3 (0 : Fin 1) k j) = warg m c (ix3 (0 : Fin 1) k j) := by
  generalize hR : warg m c (ix3 (0 : Fin 1) k j) = R
  unfold V
  after_reads_at
  subst hR
  rfl

theorem x_at (r : Fin 16384) (k : Fin 4096) :
    (V m c main_v3 : Vec Ideal S16384x4096 .f32) (ix2 r k) = xrow m c r k := by
  generalize hR : xrow m c r k = R
  unfold V
  after_reads_at
  subst hR
  rfl

theorem idx0 : ∀ t : Fin cfg0.N, win0_0.index t = ![t.val / 8, 0] := (by decide +kernel : ∀ t : Fin grid0.N, _)
theorem idx1 : ∀ t : Fin cfg0.N, win0_1.index t = ![0, 0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val / 8, 0] := (by decide +kernel : ∀ t : Fin grid0.N, _)
theorem lt_N : ∀ t : Fin cfg0.N, t.val < 128 := (by decide +kernel : ∀ t : Fin grid0.N, _)

/-- Row `r` of the block of point `n`: the grid runs over sixteen blocks of rows and, innermost, eight blocks of columns. -/
def prow (n : ℕ) (hn : n < 128) (r : Fin 1024) : Fin 16384 := ⟨n / 8 * 1024 + r, by omega⟩

/-- Column `j` of the block of point `n`. -/
def pcol (n : ℕ) (j : Fin 512) : Fin 4096 := ⟨n % 8 * 512 + j, by omega⟩

theorem yblk_at (t : Fin cfg0.N) (r : Fin 1024) (k : Fin 4096) :
    (iblk m c 0 t : Vec Ideal S1024x4096 .bf16) (ix2 r k) = yrow m c (prow t (lt_N t) r) k := by
  have e0 : win0_0.index t 0 = t.val / 8 := by rw [idx0 t]; rfl
  have e1 : win0_0.index t 1 = 0 := by rw [idx0 t]; rfl
  refine Eq.trans ?_ (y_at m c (prow t (lt_N t) r) k)
  refine congrArg (V m c main_v1) (funext fun a => Fin.ext ?_)
  fin_cases a
  · show win0_0.index t 0 * 1024 + 1 * r.val = t / 8 * 1024 + r
    omega
  · show win0_0.index t 1 * 4096 + 1 * k.val = k
    omega

theorem wblk_at (t : Fin cfg0.N) (k : Fin 4096) (j : Fin 512) :
    (iblk m c 1 t : Vec Ideal S1x4096x512 .bf16) (ix3 (0 : Fin 1) k j) = warg m c (ix3 (0 : Fin 1) k (pcol t j)) := by
  have e0 : win0_1.index t 0 = 0 := by rw [idx1 t]; rfl
  have e1 : win0_1.index t 1 = 0 := by rw [idx1 t]; rfl
  have e2 : win0_1.index t 2 = t.val % 8 := by rw [idx1 t]; rfl
  refine Eq.trans ?_ (w_at m c k (pcol t j))
  refine congrArg (V m c main_v2) (funext fun a => Fin.ext ?_)
  fin_cases a
  · show win0_1.index t 0 * 1 + 1 * 0 = 0
    omega
  · show win0_1.index t 1 * 4096 + 1 * k.val = k
    omega
  · show win0_1.index t 2 * 512 + 1 * j.val = t % 8 * 512 + j
    omega

theorem xblk_at (t : Fin cfg0.N) (r : Fin 1024) (j : Fin 512) :
    (iblk m c 2 t : Vec Ideal S1024x512 .f32) (ix2 r j) = xrow m c (prow t (lt_N t) r) (pcol t j) := by
  have e0 : win0_2.index t 0 = t.val / 8 := by rw [idx2 t]; rfl
  have e1 : win0_2.index t 1 = t.val % 8 := by rw [idx2 t]; rfl
  refine Eq.trans ?_ (x_at m c (prow t (lt_N t) r) (pcol t j))
  refine congrArg (V m c main_v3) (funext fun a => Fin.ext ?_)
  fin_cases a
  · show win0_2.index t 0 * 1024 + 1 * r.val = t / 8 * 1024 + r
    omega
  · show win0_2.index t 1 * 512 + 1 * j.val = t % 8 * 512 + j
    omega

/-- The kernel's entry of the new stream. -/
def entry (r : Fin 16384) (j : Fin 4096) : EReal := xrow m c r j + ∑ k : Fin 4096, yrow m c r k * warg m c (ix3 (0 : Fin 1) k j)

theorem block_at (t : Fin cfg0.N) (r : Fin 1024) (j : Fin 512) :
    blockEntry (iblk m c 0 t) (iblk m c 1 t) (iblk m c 2 t) r j = entry m c (prow t (lt_N t) r) (pcol t j) :=
  congrArg₂ (fun a b : EReal => a + b) (xblk_at m c t r j) (Finset.sum_congr rfl fun k _ =>
    congrArg₂ (fun a b : EReal => a * b) (yblk_at m c t r k) (wblk_at m c t k j))

/-- The square of an entry of the new stream; past the row's end zero. -/
def square (r : Fin 16384) (k : ℕ) : EReal := if h : k < 4096 then entry m c r ⟨k, h⟩ * entry m c r ⟨k, h⟩ else 0

/-- Of lane `l` of row `r` the sum of the first `n` squares. -/
def lane (r : Fin 16384) (l : Fin 128) (n : ℕ) : EReal := ∑ q ∈ Finset.range n, square m c r (q * 128 + l)

theorem four_at (t : Fin cfg0.N) (r : Fin 1024) (l : Fin 128) :
    four (blockEntry (iblk m c 0 t) (iblk m c 1 t) (iblk m c 2 t) r) l =
      ∑ q ∈ Finset.range 4, square m c (prow t (lt_N t) r) ((t % 8 * 4 + q) * 128 + l) := by
  have one (s : ℕ) (hs : s < 4) (j : Fin 512) (hj : j.val = s * 128 + l) :
      blockEntry (iblk m c 0 t) (iblk m c 1 t) (iblk m c 2 t) r j * blockEntry (iblk m c 0 t) (iblk m c 1 t) (iblk m c 2 t) r j =
        square m c (prow t (lt_N t) r) ((t % 8 * 4 + s) * 128 + l) := by
    have e : (⟨(t % 8 * 4 + s) * 128 + l, by omega⟩ : Fin 4096) = pcol t j := Fin.ext (by show _ = t % 8 * 512 + j.val; dsimp only; omega)
    unfold square
    rw [dif_pos (by omega), e, block_at]
  rw [Finset.sum_range_succ, Finset.sum_range_succ, Finset.sum_range_succ, Finset.sum_range_one]
  unfold four
  rw [one 0 (by omega) ⟨l, by omega⟩ (by simp), one 1 (by omega) ⟨128 + l, by omega⟩ (by simp),
    one 2 (by omega) ⟨256 + l, by omega⟩ (by simp), one 3 (by omega) ⟨384 + l, by omega⟩ (by simp)]

/-- The first output's block after point `t`. -/
theorem stream_held (t : Fin cfg0.N) (r : Fin 1024) (j : Fin 512) :
    (outsAt0 m c t.val t.isLt).1 (ix2 r j) = entry m c (prow t (lt_N t) r) (pcol t j) := by
  by_cases h : t.val % 8 = 0
  · rw [Gen.outsAt0_A m c t h (by omega)]
    dsimp only
    exact (streamA_at c _ _ _ _ _ _ _ _ _ _ _ _ _ (iblk m c 0 t) (iblk m c 1 t) (iblk m c 2 t) _ _ _ _ r j).trans (block_at m c t r j)
  · rw [Gen.outsAt0_B m c t h (by omega)]
    dsimp only
    exact (streamB_at c _ _ _ _ _ _ _ _ _ _ _ _ _ (iblk m c 0 t) (iblk m c 1 t) (iblk m c 2 t) _ _ _ _ _ r j).trans (block_at m c t r j)

/-- The second output's block after point `t`. -/
theorem narrow_held (t : Fin cfg0.N) (r : Fin 1024) (j : Fin 512) :
    (outsAt0 m c t.val t.isLt).2.1 (ix2 r j) = entry m c (prow t (lt_N t) r) (pcol t j) := by
  by_cases h : t.val % 8 = 0
  · rw [Gen.outsAt0_A m c t h (by omega)]
    dsimp only
    exact (narrowA_at c _ _ _ _ _ _ _ _ _ _ _ _ _ (iblk m c 0 t) (iblk m c 1 t) (iblk m c 2 t) _ _ _ _ r j).trans (block_at m c t r j)
  · rw [Gen.outsAt0_B m c t h (by omega)]
    dsimp only
    exact (narrowB_at c _ _ _ _ _ _ _ _ _ _ _ _ _ (iblk m c 0 t) (iblk m c 1 t) (iblk m c 2 t) _ _ _ _ _ r j).trans (block_at m c t r j)

theorem lanes_first (t : Fin cfg0.N) (h : t.val % 8 = 0) (r : Fin 1024) (l : Fin 128) :
    (outsAt0 m c t.val t.isLt).2.2 (ix2 r l) = ∑ q ∈ Finset.range 4, square m c (prow t (lt_N t) r) ((t % 8 * 4 + q) * 128 + l) := by
  rw [Gen.outsAt0_A m c t h (by omega)]
  dsimp only
  exact (lanesA_at c _ _ _ _ _ _ _ _ _ _ _ _ _ (iblk m c 0 t) (iblk m c 1 t) (iblk m c 2 t) _ _ _ _ r l).trans (four_at m c t r l)

theorem lanes_next (t : Fin cfg0.N) (h : ¬ t.val % 8 = 0) (r : Fin 1024) (l : Fin 128) :
    (outsAt0 m c t.val t.isLt).2.2 (ix2 r l) =
      (outsAt0 m c (t.val - 1) (Nat.lt_of_le_of_lt (Nat.sub_le _ _) t.isLt)).2.2 (ix2 r l)
        + ∑ q ∈ Finset.range 4, square m c (prow t (lt_N t) r) ((t % 8 * 4 + q) * 128 + l) := by
  rw [Gen.outsAt0_B m c t h (by omega)]
  dsimp only
  exact (lanesB_at c _ _ _ _ _ _ _ _ _ _ _ _ _ (iblk m c 0 t) (iblk m c 1 t) (iblk m c 2 t) _ _ _ _ _ r l).trans
    (congrArg (fun z : EReal => (outsAt0 m c (t.val - 1) (Nat.lt_of_le_of_lt (Nat.sub_le _ _) t.isLt)).2.2 (ix2 r l) + z) (four_at m c t r l))

/-- The third output's block after point `n` holds the squares of the columns so far. -/
theorem lanes_held (n : ℕ) : ∀ (hn : n < cfg0.N) (r : Fin 1024) (l : Fin 128),
    (outsAt0 m c n hn).2.2 (ix2 r l) = lane m c (prow n (lt_N ⟨n, hn⟩) r) l ((n % 8 + 1) * 4) := by
  induction n with
  | zero => exact fun hn r l => first 0 hn rfl r l
  | succ n ih =>
    intro hn r l
    by_cases h : (n + 1) % 8 = 0
    · exact first (n + 1) hn h r l
    · have hn' : n < cfg0.N := Nat.lt_of_succ_lt hn
      have hl := lt_N ⟨n + 1, hn⟩
      have hl' : n + 1 < 128 := hl
      have hr : prow n (lt_N ⟨n, hn'⟩) r = prow (n + 1) hl r := Fin.ext (by show n / 8 * 1024 + r.val = (n + 1) / 8 * 1024 + r.val; omega)
      have hp := ih hn' r l
      rw [hr, show (n % 8 + 1) * 4 = (n + 1) % 8 * 4 by omega] at hp
      refine (lanes_next m c ⟨n + 1, hn⟩ h r l).trans ((congrArg (fun z : EReal => z + _) hp).trans ?_)
      unfold lane
      rw [show ((n + 1) % 8 + 1) * 4 = (n + 1) % 8 * 4 + 4 by omega, Finset.sum_range_add]
where
  first (n : ℕ) (hn : n < cfg0.N) (h : n % 8 = 0) (r : Fin 1024) (l : Fin 128) :
      (outsAt0 m c n hn).2.2 (ix2 r l) = lane m c (prow n (lt_N ⟨n, hn⟩) r) l ((n % 8 + 1) * 4) := by
    refine (lanes_first m c ⟨n, hn⟩ h r l).trans ?_
    unfold lane
    rw [show (n % 8 + 1) * 4 = 4 by omega]
    refine Finset.sum_congr rfl fun q _ => congrArg (square m c _) ?_
    show (n % 8 * 4 + q) * 128 + l.val = q * 128 + l
    omega

end Cert.Kernel7Ideal.MixOut

end
-- ==== Proof.MixOut.Reference.lean ====
/- The reference of the mixers' output projection, entry by entry. -/
module

public import Idealize.ShloMosaic.Lib.Pointwise
public import proofs.«01_k».proof.Proof.Gen.Reference7Ideal.Run

@[expose] public section

set_option maxRecDepth 16384

noncomputable section

namespace Cert.Reference7Ideal.MixOut

open Idealize.ShloMosaic Idealize.ShloMosaic.TcCoe Idealize.SL.Sem
open Cert.Reference7Ideal Cert.Reference7Ideal.Gen

variable (X Y : FVec Ideal S8x2048x4096 .f32) (W : FVec Ideal S1x4096x4096 .f32)

/-- The stream with the mixers' product added. -/
def stream : FVec Ideal S16384x4096 .f32 :=
  shapeCast S16384x4096 (addf X (Host.dotGeneral dot_S8x2048x4096_S4096x4096_S8x2048x4096_2_0_01_1_n_n none Y (shapeCast S4096x4096 W shapeCasts_S1x4096x4096_S4096x4096))) shapeCasts_S8x2048x4096_S16384x4096

/-- The same in the narrower format. -/
def narrow : FVec Ideal S16384x4096 .bf16 := truncf .bf16 (stream X Y W) bitsLt_bf16_f32

/-- Of a stream the sums of squares of every 128th entry. -/
def lanes (S : FVec Ideal S16384x4096 .f32) : FVec Ideal S16384x128 .f32 :=
  Host.reduceAdd (shapeCast S16384x32x128 (mulf S S) shapeCasts_S16384x4096_S16384x32x128) (constant S_ .f32 0x00000000#32) reducesTo_S16384x32x128_S16384x128_d1 h_S_

theorem stream_at (r : Fin 16384) (j : Fin 4096) :
    stream X Y W (ix2 r j) = X (ix3 (⟨r / 2048, by omega⟩ : Fin 8) (⟨r % 2048, by omega⟩ : Fin 2048) j)
      + ∑ k : Fin 4096, Y (ix3 (⟨r / 2048, by omega⟩ : Fin 8) (⟨r % 2048, by omega⟩ : Fin 2048) k) * W (ix3 (0 : Fin 1) k j) := by
  pointwise [stream]

theorem narrow_at (r : Fin 16384) (j : Fin 4096) : narrow X Y W (ix2 r j) = stream X Y W (ix2 r j) := rfl

theorem lanes_at (S : FVec Ideal S16384x4096 .f32) (r : Fin 16384) (l : Fin 128) :
    lanes S (ix2 r l) = ∑ q : Fin 32, S (ix2 r (⟨q * 128 + l, by omega⟩ : Fin 4096)) * S (ix2 r (⟨q * 128 + l, by omega⟩ : Fin 4096)) := by
  pointwise [lanes]

end Cert.Reference7Ideal.MixOut

end
-- ==== Proof.MixOut.Equation.lean ====
/- The mixers' output projection: the three arrays that the kernel leaves are the reference's. -/
module

public import proofs.«01_k».proof.Proof.MixOut.Blocks
public import proofs.«01_k».proof.Proof.MixOut.Reference
public import Idealize.ShloMosaic.Lib.Pipeline.Value

@[expose] public section

set_option maxRecDepth 16384

noncomputable section

namespace Cert.Kernel7Ideal.MixOut

open Idealize.ShloMosaic Idealize.ShloMosaic.TcCoe Idealize.SL.Sem
open Cert.Kernel7Ideal Cert.Kernel7Ideal.Gen Idealize.ShloMosaic.Pipeline
open Cert.Reference7Ideal.MixOut (stream narrow lanes stream_at lanes_at)

variable (m : (ℓ : Loc nD τ sig) → Buf (Elt Ideal) ℓ) (c : Dev nD)

theorem entry_eq (r : Fin 16384) (j : Fin 4096) : entry m c r j = stream (xarg m c) (yarg m c) (warg m c) (ix2 r j) := by
  rw [stream_at]
  rfl

theorem lane_eq (r : Fin 16384) (l : Fin 128) : lane m c r l 32 = lanes (stream (xarg m c) (yarg m c) (warg m c)) (ix2 r l) := by
  rw [lanes_at]
  unfold lane
  rw [Finset.sum_range]
  refine Finset.sum_congr rfl fun q _ => ?_
  unfold square
  rw [dif_pos (by omega), entry_eq]

theorem stream_eq : (dats m 0 c).arrAt 3 cfg0.N = stream (xarg m c) (yarg m c) (warg m c) := by
  refine (dats m 0 c).arrAt_eq_of_covers 3 _ (by decide +kernel) fun t hf y => ?_
  show (dats m 0 c).after 3 t ((cfg0.win 3).xinj (cfg0.grid.coords t) y) = _
  rw [after0_3]
  have ht := lt_N t
  have e0 : win0_3.index t 0 = t.val / 8 := by rw [idx3 t]; rfl
  have e1 : win0_3.index t 1 = t.val % 8 := by rw [idx3 t]; rfl
  have hy0 : (y 0).val < 1024 := (y 0).isLt
  have hy1 : (y 1).val < 512 := (y 1).isLt
  have ey : (cfg0.win 3).xinj (cfg0.grid.coords t) y = ix2 (⟨y 0, hy0⟩ : Fin 1024) (⟨y 1, hy1⟩ : Fin 512) := by
    funext a; fin_cases a <;> rfl
  refine (congrArg (outsAt0 m c t.val t.isLt).1 ey).trans ((stream_held m c t ⟨y 0, hy0⟩ ⟨y 1, hy1⟩).trans ?_)
  refine (entry_eq m c _ _).trans ?_
  refine congrArg (stream (xarg m c) (yarg m c) (warg m c)) (funext fun a => Fin.ext ?_)
  fin_cases a
  · show t.val / 8 * 1024 + (y 0).val = win0_3.index t 0 * 1024 + 1 * (y 0).val
    omega
  · show t.val % 8 * 512 + (y 1).val = win0_3.index t 1 * 512 + 1 * (y 1).val
    omega

theorem narrow_eq : (dats m 0 c).arrAt 4 cfg0.N = narrow (xarg m c) (yarg m c) (warg m c) := by
  refine (dats m 0 c).arrAt_eq_of_covers 4 _ (by decide +kernel) fun t hf y => ?_
  show (dats m 0 c).after 4 t ((cfg0.win 4).xinj (cfg0.grid.coords t) y) = _
  rw [after0_4]
  have ht := lt_N t
  have e0 : win0_4.index t 0 = t.val / 8 := by rw [idx4 t]; rfl
  have e1 : win0_4.index t 1 = t.val % 8 := by rw [idx4 t]; rfl
  have hy0 : (y 0).val < 1024 := (y 0).isLt
  have hy1 : (y 1).val < 512 := (y 1).isLt
  have ey : (cfg0.win 4).xinj (cfg0.grid.coords t) y = ix2 (⟨y 0, hy0⟩ : Fin 1024) (⟨y 1, hy1⟩ : Fin 512) := by
    funext a; fin_cases a <;> rfl
  refine (congrArg (outsAt0 m c t.val t.isLt).2.1 ey).trans ((narrow_held m c t ⟨y 0, hy0⟩ ⟨y 1, hy1⟩).trans ?_)
  refine (entry_eq m c _ _).trans ?_
  refine congrArg (stream (xarg m c) (yarg m c) (warg m c)) (funext fun a => Fin.ext ?_)
  fin_cases a
  · show t.val / 8 * 1024 + (y 0).val = win0_4.index t 0 * 1024 + 1 * (y 0).val
    omega
  · show t.val % 8 * 512 + (y 1).val = win0_4.index t 1 * 512 + 1 * (y 1).val
    omega

theorem lanes_eq : (dats m 0 c).arrAt 5 cfg0.N = lanes (stream (xarg m c) (yarg m c) (warg m c)) := by
  refine (dats m 0 c).arrAt_eq_of_covers 5 _ (by decide +kernel) fun t hf y => ?_
  show (dats m 0 c).after 5 t ((cfg0.win 5).xinj (cfg0.grid.coords t) y) = _
  rw [after0_5]
  have ht := lt_N t
  have e0 : win0_5.index t 0 = t.val / 8 := by rw [idx5 t]; rfl
  have e1 : win0_5.index t 1 = 0 := by rw [idx5 t]; rfl
  have hy0 : (y 0).val < 1024 := (y 0).isLt
  have hy1 : (y 1).val < 128 := (y 1).isLt
  have ey : (cfg0.win 5).xinj (cfg0.grid.coords t) y = ix2 (⟨y 0, hy0⟩ : Fin 1024) (⟨y 1, hy1⟩ : Fin 128) := by
    funext a; fin_cases a <;> rfl
  have h7 : t.val % 8 = 7 := (flush0_5 t).mp hf
  refine (congrArg (outsAt0 m c t.val t.isLt).2.2 ey).trans ((lanes_held m c t.val t.isLt ⟨y 0, hy0⟩ ⟨y 1, hy1⟩).trans ?_)
  rw [show (t.val % 8 + 1) * 4 = 32 by omega]
  refine (lane_eq m c _ _).trans ?_
  refine congrArg (lanes (stream (xarg m c) (yarg m c) (warg m c))) (funext fun a => Fin.ext ?_)
  fin_cases a
  · show t.val / 8 * 1024 + (y 0).val = win0_5.index t 0 * 1024 + 1 * (y 0).val
    omega
  · show (y 1).val = win0_5.index t 1 * 128 + 1 * (y 1).val
    omega

end Cert.Kernel7Ideal.MixOut

end
-- ==== Proof.Proj.Layout.lean ====
/- Where each packed column of the mixers' projection comes from. -/
module

public import Idealize.ShloMosaic.PureOps.Ideal

@[expose] public section

set_option maxRecDepth 16384

noncomputable section

namespace Cert.Proj

/-- The weights' column behind packed column `n`; 11296, which is past the last, where the packed column is zero. -/
def src (n : ℕ) : ℕ :=
  if n < 2048 then (if n % 256 < 192 then n / 256 * 192 + n % 256 else 11296)
  else if n < 3072 then n + 2592
  else if n < 6144 then n - 1536
  else if n < 10752 then n + 544
  else if n < 10784 then n - 6144
  else if n < 11264 then 11296
  else n - 5600

/-- The column of 768 behind column `j` of four padded heads; 768 where it is zero. -/
def hsrc (j : ℕ) : ℕ := if j % 256 < 192 then j / 256 * 192 + j % 256 else 768

/-- The column of eight heads' 1536 behind column `j`, as an index into all the weights' columns. -/
def hsrc8 (j : ℕ) : ℕ := if j % 256 < 192 then j / 256 * 192 + j % 256 else 11296

/-- Entry `n` of a row; zero past its end. -/
def ext {N : ℕ} (f : Fin N → EReal) (n : ℕ) : EReal := if h : n < N then f ⟨n, h⟩ else 0

theorem ext_eq {N : ℕ} (f : Fin N → EReal) {n k : ℕ} (h : n = k) (hk : k < N) : f ⟨k, hk⟩ = ext f n := by
  subst h
  unfold ext
  rw [dif_pos hk]

theorem ext_zero {N : ℕ} (f : Fin N → EReal) {n : ℕ} (h : n = N) : 0 = ext f n := by
  subst h
  unfold ext
  rw [dif_neg (Nat.lt_irrefl n)]

end Cert.Proj

end
-- ==== Proof.Proj.Blocks.lean ====
/- What a grid point of the projection's kernel reads and writes, entry by entry. -/
module

public import proofs.«01_k».proof.Proof.Gen.Kernel8Ideal.Value
public import proofs.«01_k».proof.Proof.Ffn.Math
public import proofs.«01_k».proof.Proof.Proj.Layout
public import Idealize.ShloMosaic.Lib.Pointwise
public import Idealize.ShloMosaic.Lib.Pointwise.Select
public import Idealize.ShloMosaic.Lib.Claim
public import Idealize.ShloMosaic.Lib.StableHlo.ReadAt
public import Idealize.ShloMosaic.Lib.Pipeline.ValueKit

@[expose] public section

set_option maxRecDepth 16384

noncomputable section

namespace Cert.Kernel8Ideal.Proj

open Idealize.ShloMosaic Idealize.ShloMosaic.TcCoe Idealize.SL.Sem
open Cert.Kernel8Ideal Cert.Kernel8Ideal.Gen Cert.Ffn Cert.Proj Idealize.ShloMosaic.Pipeline

variable (m : (ℓ : Loc nD τ sig) → Buf (Elt Ideal) ℓ) (c : Dev nD)

/-- The layer's input. -/
abbrev xarg : Vec Ideal S8x2048x4096 .f32 := m ((c : Thread nD τ).loc main_arg0)
/-- The norm's gains. -/
abbrev garg : Vec Ideal S1x4096 .f32 := m ((c : Thread nD τ).loc main_arg1)
/-- The weights. -/
abbrev warg : Vec Ideal S1x4096x11296 .f32 := m ((c : Thread nD τ).loc main_arg2)

/-- A result, from a row's sum of squares and its product with a weight column. -/
def scaleBy (s a : EReal) : EReal := rstd s * a

theorem scaleBy_congr {s s' a a' : EReal} (hs : s = s') (ha : a = a') : scaleBy s a = scaleBy s' a' := by rw [hs, ha]

theorem pay_at (ss : Vec Ideal S1024x128 .f32) (x : Vec Ideal S1024x4096 .bf16) (w : Vec Ideal S1x1024x4096 .bf16) (r j : Fin 1024) :
    k0_pay1 ss x w (ix2 r j) = scaleBy (∑ l : Fin 128, ss (ix2 r l)) (∑ k : Fin 4096, x (ix2 r k) * w (ix3 (0 : Fin 1) j k)) := by
  unfold scaleBy rstd
  pointwise [k0_pay1]

theorem point_at (x : Vec Ideal S1024x4096 .bf16) (ss : Vec Ideal S1024x128 .f32) (w : Vec Ideal S1x1024x4096 .bf16) (y : S1024x1024.Idx) :
    out0_3 x ss w y = scaleBy (∑ l : Fin 128, ss (ix2 (y 0 : Fin 1024) l))
      (∑ k : Fin 4096, x (ix2 (y 0 : Fin 1024) k) * w (ix3 (0 : Fin 1) (y 1 : Fin 1024) k)) := by
  frame_out
  have ey : y = ix2 (y 0 : Fin 1024) (y 1 : Fin 1024) := by funext a; fin_cases a <;> rfl
  exact (congrArg (k0_pay1 ss x w) ey).trans (pay_at ss x w (y 0) (y 1))

/-- Entry `k` of row `r`, where the rows of all images follow one another. -/
def row (X : Vec Ideal S8x2048x4096 .f32) (r : Fin 16384) (k : Fin 4096) : EReal :=
  X (ix3 (⟨r / 2048, by omega⟩ : Fin 8) (⟨r % 2048, by omega⟩ : Fin 2048) k)

theorem stream_at (r : Fin 16384) (k : Fin 4096) :
    (V m c main_v34 : Vec Ideal S16384x4096 .bf16) (ix2 r k) = row (xarg m c) r k := by
  generalize hR : row (xarg m c) r k = R
  unfold V
  after_reads_at
  subst hR
  rfl

theorem squares_at (r : Fin 16384) (l : Fin 128) :
    (V m c main_v37 : Vec Ideal S16384x128 .f32) (ix2 r l) =
      ∑ g : Fin 32, row (xarg m c) r ⟨g * 128 + l, by omega⟩ * row (xarg m c) r ⟨g * 128 + l, by omega⟩ := by
  generalize hR : (∑ g : Fin 32, row (xarg m c) r ⟨g * 128 + l, by omega⟩ * row (xarg m c) r ⟨g * 128 + l, by omega⟩) = R
  unfold V
  after_reads_at
  subst hR
  rfl

/-- The weights scaled by the gains, in the narrower format. -/
def gained : FVec Ideal S1x4096x11296 .bf16 :=
  truncf .bf16 (mulf (warg m c) (broadcastInDim S1x4096x11296 ![0, 1, 2] bcast_S1x4096x1_S1x4096x11296_0_1_2 (broadcastInDim S1x4096x1 ![0, 1] bcast_S1x4096_S1x4096x1_0_1 (garg m c)))) bitsLt_bf16_f32

/-- The columns of the eight heads, each followed by 64 zeros. -/
def headCols (W : FVec Ideal S1x4096x11296 .bf16) : FVec Ideal S1x4096x2048 .bf16 :=
  concatenate S1x4096x2048 2 [⟨S1x4096x192, extractStridedSlice S1x4096x192 ![0, 0, 0] W slices_S1x4096x11296_S1x4096x192_0_0_0⟩, ⟨S1x4096x64, broadcastInDim S1x4096x64 ![] bcast_S_S1x4096x64 (constant S_ .bf16 0x0000#16)⟩,
    ⟨S1x4096x192, extractStridedSlice S1x4096x192 ![0, 0, 192] W slices_S1x4096x11296_S1x4096x192_0_0_192⟩, ⟨S1x4096x64, broadcastInDim S1x4096x64 ![] bcast_S_S1x4096x64 (constant S_ .bf16 0x0000#16)⟩,
    ⟨S1x4096x192, extractStridedSlice S1x4096x192 ![0, 0, 384] W slices_S1x4096x11296_S1x4096x192_0_0_384⟩, ⟨S1x4096x64, broadcastInDim S1x4096x64 ![] bcast_S_S1x4096x64 (constant S_ .bf16 0x0000#16)⟩,
    ⟨S1x4096x192, extractStridedSlice S1x4096x192 ![0, 0, 576] W slices_S1x4096x11296_S1x4096x192_0_0_576⟩, ⟨S1x4096x64, broadcastInDim S1x4096x64 ![] bcast_S_S1x4096x64 (constant S_ .bf16 0x0000#16)⟩,
    ⟨S1x4096x192, extractStridedSlice S1x4096x192 ![0, 0, 768] W slices_S1x4096x11296_S1x4096x192_0_0_768⟩, ⟨S1x4096x64, broadcastInDim S1x4096x64 ![] bcast_S_S1x4096x64 (constant S_ .bf16 0x0000#16)⟩,
    ⟨S1x4096x192, extractStridedSlice S1x4096x192 ![0, 0, 960] W slices_S1x4096x11296_S1x4096x192_0_0_960⟩, ⟨S1x4096x64, broadcastInDim S1x4096x64 ![] bcast_S_S1x4096x64 (constant S_ .bf16 0x0000#16)⟩,
    ⟨S1x4096x192, extractStridedSlice S1x4096x192 ![0, 0, 1152] W slices_S1x4096x11296_S1x4096x192_0_0_1152⟩, ⟨S1x4096x64, broadcastInDim S1x4096x64 ![] bcast_S_S1x4096x64 (constant S_ .bf16 0x0000#16)⟩,
    ⟨S1x4096x192, extractStridedSlice S1x4096x192 ![0, 0, 1344] W slices_S1x4096x11296_S1x4096x192_0_0_1344⟩, ⟨S1x4096x64, broadcastInDim S1x4096x64 ![] bcast_S_S1x4096x64 (constant S_ .bf16 0x0000#16)⟩]
    concatenates_S1x4096x192_S1x4096x64_S1x4096x192_S1x4096x64_S1x4096x192_S1x4096x64_S1x4096x192_S1x4096x64_S1x4096x192_S1x4096x64_S1x4096x192_S1x4096x64_S1x4096x192_S1x4096x64_S1x4096x192_S1x4096x64_S1x4096x2048_d2

/-- The other columns, in the packed order. -/
def tailCols (W : FVec Ideal S1x4096x11296 .bf16) : FVec Ideal S1x4096x10240 .bf16 :=
  concatenate S1x4096x10240 2 [⟨S1x4096x1024, extractStridedSlice S1x4096x1024 ![0, 0, 4640] W slices_S1x4096x11296_S1x4096x1024_0_0_4640⟩,
    ⟨S1x4096x1536, extractStridedSlice S1x4096x1536 ![0, 0, 1536] W slices_S1x4096x11296_S1x4096x1536_0_0_1536⟩,
    ⟨S1x4096x1536, extractStridedSlice S1x4096x1536 ![0, 0, 3072] W slices_S1x4096x11296_S1x4096x1536_0_0_3072⟩,
    ⟨S1x4096x1536, extractStridedSlice S1x4096x1536 ![0, 0, 6688] W slices_S1x4096x11296_S1x4096x1536_0_0_6688⟩,
    ⟨S1x4096x1536, extractStridedSlice S1x4096x1536 ![0, 0, 8224] W slices_S1x4096x11296_S1x4096x1536_0_0_8224⟩,
    ⟨S1x4096x1536, extractStridedSlice S1x4096x1536 ![0, 0, 9760] W slices_S1x4096x11296_S1x4096x1536_0_0_9760⟩,
    ⟨S1x4096x32, extractStridedSlice S1x4096x32 ![0, 0, 4608] W slices_S1x4096x11296_S1x4096x32_0_0_4608⟩,
    ⟨S1x4096x480, broadcastInDim S1x4096x480 ![] bcast_S_S1x4096x480 (constant S_ .bf16 0x0000#16)⟩,
    ⟨S1x4096x1024, extractStridedSlice S1x4096x1024 ![0, 0, 5664] W slices_S1x4096x11296_S1x4096x1024_0_0_5664⟩]
    concatenates_S1x4096x1024_S1x4096x1536_S1x4096x1536_S1x4096x1536_S1x4096x1536_S1x4096x1536_S1x4096x32_S1x4096x480_S1x4096x1024_S1x4096x10240_d2

/-- The packed weights, a row for each column of the result. -/
def packedW (W : FVec Ideal S1x4096x11296 .bf16) : FVec Ideal S1x12288x4096 .bf16 :=
  transpose S1x12288x4096 [0, 2, 1] (concatenate S1x4096x12288 2 [⟨S1x4096x2048, headCols W⟩, ⟨S1x4096x10240, tailCols W⟩] concatenates_S1x4096x2048_S1x4096x10240_S1x4096x12288_d2) transposes_S1x4096x12288_S1x12288x4096_0_2_1

/-- A zero piece of 64 columns. -/
abbrev gap : FVec Ideal S1x4096x64 .bf16 := broadcastInDim S1x4096x64 ![] bcast_S_S1x4096x64 (constant S_ .bf16 0x0000#16)

theorem gap_at (k : Fin 4096) (n : Fin 64) : gap (ix3 (0 : Fin 1) k n) = 0 := by
  pointwise [gap]

/-- A head and its zeros, then the rest: where column `c` of such a list of pieces comes from. -/
theorem head_step (A : FVec Ideal S1x4096x192 .bf16) (q : (s : Shape) × (s.Idx → EReal)) (xs : List ((s : Shape) × (s.Idx → EReal)))
    (k : Fin 4096) (j : Fin 2048) (c : ℕ) (R : EReal) (hs) (hc)
    (h1 : ∀ h : c < 192, A (ix3 (0 : Fin 1) k (⟨c, h⟩ : Fin 192)) = R)
    (h2 : ¬ c < 192 → c - 192 < 64 → 0 = R)
    (h3 : ¬ c < 192 → ¬ c - 192 < 64 → ∀ hs' hc', concatenateAt S1x4096x2048 2 (ix3 (0 : Fin 1) k j) (q :: xs) hs' (c - 192 - 64) hc' = R) :
    concatenateAt S1x4096x2048 2 (ix3 (0 : Fin 1) k j) (⟨S1x4096x192, A⟩ :: ⟨S1x4096x64, gap⟩ :: q :: xs) hs c hc = R := by
  rw [concatenateAt_cons]
  split
  · rename_i h
    refine Eq.trans (congrArg A (funext fun a => ?_)) (h1 h)
    fin_cases a <;> rfl
  · rename_i h
    rw [concatenateAt_cons]
    split
    · rename_i h'
      refine Eq.trans (Eq.trans (congrArg gap (funext fun a => ?_)) (gap_at k ⟨c - 192, h'⟩)) (h2 h h')
      fin_cases a <;> rfl
    · rename_i h'
      exact h3 h h' _ _

theorem head_last (A : FVec Ideal S1x4096x192 .bf16) (k : Fin 4096) (j : Fin 2048) (c : ℕ) (R : EReal) (hs) (hc) (hlt : c < 256)
    (h1 : ∀ h : c < 192, A (ix3 (0 : Fin 1) k (⟨c, h⟩ : Fin 192)) = R)
    (h2 : ¬ c < 192 → 0 = R) :
    concatenateAt S1x4096x2048 2 (ix3 (0 : Fin 1) k j) [⟨S1x4096x192, A⟩, ⟨S1x4096x64, gap⟩] hs c hc = R := by
  rw [concatenateAt_cons]
  split
  · rename_i h
    refine Eq.trans (congrArg A (funext fun a => ?_)) (h1 h)
    fin_cases a <;> rfl
  · rename_i h
    have h' : c - 192 < 64 := by have : ¬ c < 192 := h; omega
    rw [concatenateAt_singleton]
    refine Eq.trans (Eq.trans (congrArg gap (funext fun a => ?_)) (gap_at k ⟨c - 192, h'⟩)) (h2 h)
    fin_cases a <;> rfl

set_option maxHeartbeats 2000000 in
theorem headCols_at (W : FVec Ideal S1x4096x11296 .bf16) (k : Fin 4096) (j : Fin 2048) :
    headCols W (ix3 (0 : Fin 1) k j) = ext (fun n => W (ix3 (0 : Fin 1) k n)) (hsrc8 j) := by
  unfold headCols
  rw [concatenate_apply]
  refine head_step (extractStridedSlice S1x4096x192 ![0, 0, 0] W slices_S1x4096x11296_S1x4096x192_0_0_0) _ _ k j ((j : ℕ)) (ext (fun n => W (ix3 (0 : Fin 1) k n)) (hsrc8 j)) _ _
    (fun h => ((by pointwise : extractStridedSlice S1x4096x192 ![0, 0, 0] W slices_S1x4096x11296_S1x4096x192_0_0_0 (ix3 (0 : Fin 1) k (⟨_, h⟩ : Fin 192)) = W (ix3 (0 : Fin 1) k (⟨(j : ℕ), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h0 g0 _ _ => ?_)
  refine head_step (extractStridedSlice S1x4096x192 ![0, 0, 192] W slices_S1x4096x11296_S1x4096x192_0_0_192) _ _ k j ((j : ℕ) - 192 - 64) (ext (fun n => W (ix3 (0 : Fin 1) k n)) (hsrc8 j)) _ _
    (fun h => ((by pointwise : extractStridedSlice S1x4096x192 ![0, 0, 192] W slices_S1x4096x11296_S1x4096x192_0_0_192 (ix3 (0 : Fin 1) k (⟨_, h⟩ : Fin 192)) = W (ix3 (0 : Fin 1) k (⟨192 + ((j : ℕ) - 192 - 64), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h1 g1 _ _ => ?_)
  refine head_step (extractStridedSlice S1x4096x192 ![0, 0, 384] W slices_S1x4096x11296_S1x4096x192_0_0_384) _ _ k j ((j : ℕ) - 192 - 64 - 192 - 64) (ext (fun n => W (ix3 (0 : Fin 1) k n)) (hsrc8 j)) _ _
    (fun h => ((by pointwise : extractStridedSlice S1x4096x192 ![0, 0, 384] W slices_S1x4096x11296_S1x4096x192_0_0_384 (ix3 (0 : Fin 1) k (⟨_, h⟩ : Fin 192)) = W (ix3 (0 : Fin 1) k (⟨384 + ((j : ℕ) - 192 - 64 - 192 - 64), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h2 g2 _ _ => ?_)
  refine head_step (extractStridedSlice S1x4096x192 ![0, 0, 576] W slices_S1x4096x11296_S1x4096x192_0_0_576) _ _ k j ((j : ℕ) - 192 - 64 - 192 - 64 - 192 - 64) (ext (fun n => W (ix3 (0 : Fin 1) k n)) (hsrc8 j)) _ _
    (fun h => ((by pointwise : extractStridedSlice S1x4096x192 ![0, 0, 576] W slices_S1x4096x11296_S1x4096x192_0_0_576 (ix3 (0 : Fin 1) k (⟨_, h⟩ : Fin 192)) = W (ix3 (0 : Fin 1) k (⟨576 + ((j : ℕ) - 192 - 64 - 192 - 64 - 192 - 64), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h3 g3 _ _ => ?_)
  refine head_step (extractStridedSlice S1x4096x192 ![0, 0, 768] W slices_S1x4096x11296_S1x4096x192_0_0_768) _ _ k j ((j : ℕ) - 192 - 64 - 192 - 64 - 192 - 64 - 192 - 64) (ext (fun n => W (ix3 (0 : Fin 1) k n)) (hsrc8 j)) _ _
    (fun h => ((by pointwise : extractStridedSlice S1x4096x192 ![0, 0, 768] W slices_S1x4096x11296_S1x4096x192_0_0_768 (ix3 (0 : Fin 1) k (⟨_, h⟩ : Fin 192)) = W (ix3 (0 : Fin 1) k (⟨768 + ((j : ℕ) - 192 - 64 - 192 - 64 - 192 - 64 - 192 - 64), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h4 g4 _ _ => ?_)
  refine head_step (extractStridedSlice S1x4096x192 ![0, 0, 960] W slices_S1x4096x11296_S1x4096x192_0_0_960) _ _ k j ((j : ℕ) - 192 - 64 - 192 - 64 - 192 - 64 - 192 - 64 - 192 - 64) (ext (fun n => W (ix3 (0 : Fin 1) k n)) (hsrc8 j)) _ _
    (fun h => ((by pointwise : extractStridedSlice S1x4096x192 ![0, 0, 960] W slices_S1x4096x11296_S1x4096x192_0_0_960 (ix3 (0 : Fin 1) k (⟨_, h⟩ : Fin 192)) = W (ix3 (0 : Fin 1) k (⟨960 + ((j : ℕ) - 192 - 64 - 192 - 64 - 192 - 64 - 192 - 64 - 192 - 64), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h5 g5 _ _ => ?_)
  refine head_step (extractStridedSlice S1x4096x192 ![0, 0, 1152] W slices_S1x4096x11296_S1x4096x192_0_0_1152) _ _ k j ((j : ℕ) - 192 - 64 - 192 - 64 - 192 - 64 - 192 - 64 - 192 - 64 - 192 - 64) (ext (fun n => W (ix3 (0 : Fin 1) k n)) (hsrc8 j)) _ _
    (fun h => ((by pointwise : extractStridedSlice S1x4096x192 ![0, 0, 1152] W slices_S1x4096x11296_S1x4096x192_0_0_1152 (ix3 (0 : Fin 1) k (⟨_, h⟩ : Fin 192)) = W (ix3 (0 : Fin 1) k (⟨1152 + ((j : ℕ) - 192 - 64 - 192 - 64 - 192 - 64 - 192 - 64 - 192 - 64 - 192 - 64), by omega⟩ : Fin 11296)))).trans (ext_eq (fun n => W (ix3 (0 : Fin 1) k n)) (by unfold hsrc8; split_ifs <;> omega) _))
    (fun h h' => ext_zero (fun n => W (ix3 (0 : Fin 1) k n)) (by unfold hsrc8; split_ifs <;> omega)) (fun h6 g6 _ _ => ?_)
  exact head_last (extractStridedSlice S1x4096x192 ![0, 0, 1344] W slices_S1x4096x11296_S1x4096x192_0_0_1344) k j ((j : ℕ) - 192 - 64 - 192 - 64 - 192 - 64 - 192 - 64 - 192 - 64 - 192 - 64 - 192 - 64) (ext (fun n => W (ix3 (0 : Fin 1) k n)) (hsrc8 j)) _ _ (by omega)
    (fun h => ((by pointwise : extractStridedSlice S1x4096x192 ![0, 0, 1344] W slices_S1x4096x11296_S1x4096x192_0_0_1344 (ix3 (0 : Fin 1) k (⟨_, h⟩ : Fin 192)) = W (ix3 (0 : Fin 1) k (⟨1344 + ((j : ℕ) - 192 - 64 - 192 - 64 - 192 - 64 - 192 - 64 - 192 - 64 - 192 - 64 - 192 - 64), by omega⟩ : Fin 11296)))).trans (ext_eq (fun n => W (ix3 (0 : Fin 1) k n)) (by unfold hsrc8; split_ifs <;> omega) _))
    (fun h => ext_zero (fun n => W (ix3 (0 : Fin 1) k n)) (by unfold hsrc8; split_ifs <;> omega))

set_option maxHeartbeats 2000000 in
theorem packedW_at (W : FVec Ideal S1x4096x11296 .bf16) (k : Fin 4096) (j : Fin 12288) :
    packedW W (ix3 (0 : Fin 1) j k) = ext (fun n => W (ix3 (0 : Fin 1) k n)) (src j) := by
  pointwise [packedW, tailCols]
  split_ifs <;> first
    | exact ext_eq (fun n => W (ix3 (0 : Fin 1) k n)) (by unfold src; split_ifs <;> omega) _
    | exact (headCols_at W k _).trans (congrArg (ext fun n => W (ix3 (0 : Fin 1) k n)) (by unfold src hsrc8; dsimp only; split_ifs <;> omega))
    | exact ext_zero (fun n => W (ix3 (0 : Fin 1) k n)) (by unfold src; split_ifs <;> omega)

/-- A scaled weight. -/
def scaled (k : Fin 4096) (j : Fin 11296) : EReal := warg m c (ix3 (0 : Fin 1) k j) * garg m c (ix2 (0 : Fin 1) k)

theorem gained_at (k : Fin 4096) (j : Fin 11296) : gained m c (ix3 (0 : Fin 1) k j) = scaled m c k j := by
  unfold scaled
  pointwise [gained]

theorem packed_eq : (V m c main_v33 : Vec Ideal S1x12288x4096 .bf16) = packedW (gained m c) := by
  generalize hR : packedW (gained m c) = R
  unfold V
  after_reads_at
  subst hR
  rfl

theorem weights_at (k : Fin 4096) (j : Fin 12288) :
    (V m c main_v33 : Vec Ideal S1x12288x4096 .bf16) (ix3 (0 : Fin 1) j k) = ext (scaled m c k) (src j) := by
  rw [packed_eq, packedW_at]
  exact congrArg (fun f => ext f (src j)) (funext fun n => gained_at m c k n)

/-- The grid runs over sixteen blocks of rows and, innermost, twelve blocks of columns. -/
theorem idx : ∀ t : Fin cfg0.N, t.val < 192 ∧ win0_0.index t = ![t.val / 12, 0] ∧ win0_1.index t = ![t.val / 12, 0] ∧
    win0_2.index t = ![0, t.val % 12, 0] ∧ win0_3.index t = ![t.val / 12, t.val % 12] :=
  (by decide +kernel : ∀ t : Fin grid0.N, _)

theorem lt_N (t : Fin cfg0.N) : t.val < 192 := (idx t).1

/-- Row `r` of point `t`'s block. -/
def prow (t : Fin cfg0.N) (r : Fin 1024) : Fin 16384 := ⟨t / 12 * 1024 + r, by have := lt_N t; omega⟩

/-- Column `j` of point `t`'s block. -/
def pcol (t : Fin cfg0.N) (j : Fin 1024) : Fin 12288 := ⟨t % 12 * 1024 + j, by omega⟩

theorem xblk_at (t : Fin cfg0.N) (r : Fin 1024) (k : Fin 4096) :
    (iblk m c 0 t : Vec Ideal S1024x4096 .bf16) (ix2 r k) = row (xarg m c) (prow t r) k := by
  have ht := lt_N t
  have h := idx t
  have e0 : win0_0.index t 0 = t.val / 12 := by rw [h.2.1]; rfl
  have e1 : win0_0.index t 1 = 0 := by rw [h.2.1]; rfl
  refine Eq.trans ?_ (stream_at m c (prow t r) k)
  refine congrArg (V m c main_v34) (funext fun a => Fin.ext ?_)
  fin_cases a
  · show win0_0.index t 0 * 1024 + 1 * r.val = t / 12 * 1024 + r
    omega
  · show win0_0.index t 1 * 4096 + 1 * k.val = k
    omega

theorem lane_at (t : Fin cfg0.N) (r : Fin 1024) (l : Fin 128) :
    (iblk m c 1 t : Vec Ideal S1024x128 .f32) (ix2 r l) =
      ∑ g : Fin 32, row (xarg m c) (prow t r) ⟨g * 128 + l, by omega⟩ * row (xarg m c) (prow t r) ⟨g * 128 + l, by omega⟩ := by
  have ht := lt_N t
  have h := idx t
  have e0 : win0_1.index t 0 = t.val / 12 := by rw [h.2.2.1]; rfl
  have e1 : win0_1.index t 1 = 0 := by rw [h.2.2.1]; rfl
  refine Eq.trans ?_ (squares_at m c (prow t r) l)
  refine congrArg (V m c main_v37) (funext fun a => Fin.ext ?_)
  fin_cases a
  · show win0_1.index t 0 * 1024 + 1 * r.val = t / 12 * 1024 + r
    omega
  · show win0_1.index t 1 * 128 + 1 * l.val = l
    omega

theorem sblk_at (t : Fin cfg0.N) (r : Fin 1024) (S : Vec Ideal S1024x128 .f32)
    (hS : ∀ l : Fin 128, S (ix2 r l) =
      ∑ g : Fin 32, row (xarg m c) (prow t r) ⟨g * 128 + l, by omega⟩ * row (xarg m c) (prow t r) ⟨g * 128 + l, by omega⟩) :
    (∑ l : Fin 128, S (ix2 r l) : EReal) = ∑ k : Fin 4096, row (xarg m c) (prow t r) k * row (xarg m c) (prow t r) k :=
  (Finset.sum_congr rfl fun l _ => hS l).trans
    (sum_lanes fun k => row (xarg m c) (prow t r) k * row (xarg m c) (prow t r) k)

theorem wblk_at (t : Fin cfg0.N) (k : Fin 4096) (j : Fin 1024) :
    (iblk m c 2 t : Vec Ideal S1x1024x4096 .bf16) (ix3 (0 : Fin 1) j k) = ext (scaled m c k) (src (pcol t j)) := by
  have ht := lt_N t
  have h := idx t
  have e0 : win0_2.index t 0 = 0 := by rw [h.2.2.2.1]; rfl
  have e1 : win0_2.index t 1 = t.val % 12 := by rw [h.2.2.2.1]; rfl
  have e2 : win0_2.index t 2 = 0 := by rw [h.2.2.2.1]; rfl
  refine Eq.trans ?_ (weights_at m c k (pcol t j))
  refine congrArg (V m c main_v33) (funext fun a => Fin.ext ?_)
  fin_cases a
  · show win0_2.index t 0 * 1 + 1 * 0 = 0
    omega
  · show win0_2.index t 1 * 1024 + 1 * j.val = t % 12 * 1024 + j
    omega
  · show win0_2.index t 2 * 4096 + 1 * k.val = k
    omega

/-- The kernel's result. -/
def kentry (r : Fin 16384) (j : Fin 12288) : EReal :=
  scaleBy (∑ k : Fin 4096, row (xarg m c) r k * row (xarg m c) r k) (∑ k : Fin 4096, row (xarg m c) r k * ext (scaled m c k) (src j))

/-- What point `t` writes. -/
theorem out_at (t : Fin cfg0.N) (y : S1024x1024.Idx) :
    (out0_3 (iblk m c 0 t) (iblk m c 1 t) (iblk m c 2 t) : Vec Ideal S1024x1024 .bf16) y =
      kentry m c (prow t (y 0 : Fin 1024)) (pcol t (y 1 : Fin 1024)) := by
  refine (point_at (iblk m c 0 t) (iblk m c 1 t) (iblk m c 2 t) y).trans ?_
  exact scaleBy_congr (sblk_at m c t (y 0) (iblk m c 1 t) (fun l => lane_at m c t (y 0) l))
    (Finset.sum_congr rfl fun k _ => congrArg₂ (fun a b : EReal => a * b) (xblk_at m c t (y 0) k) (wblk_at m c t k (y 1)))

end Cert.Kernel8Ideal.Proj

end
-- ==== Proof.Proj.Reference.lean ====
/- The reference of the mixers' projection, entry by entry. -/
module

public import Idealize.ShloMosaic.Lib.Pointwise
public import Idealize.ShloMosaic.Lib.Pointwise.Select
public import proofs.«01_k».proof.Proof.Gen.Reference8Ideal.Run
public import proofs.«01_k».proof.Proof.Proj.Layout

@[expose] public section

set_option maxRecDepth 16384

noncomputable section

namespace Cert.Reference8Ideal.Proj

open Idealize.ShloMosaic Idealize.ShloMosaic.TcCoe Idealize.SL.Sem
open Cert.Reference8Ideal Cert.Reference8Ideal.Gen Cert.Proj

variable (X : FVec Ideal S8x2048x4096 .f32) (G : FVec Ideal S1x4096 .f32) (W : FVec Ideal S1x4096x11296 .f32)

/-- The reciprocal root mean squares of the rows. -/
def roots : FVec Ideal S8x2048x1 .f32 :=
  Host.rsqrt (addf (Host.divf (broadcastInDim S8x2048x1 ![0, 1] bcast_S8x2048_S8x2048x1_0_1 (Host.reduceAdd (mulf X X) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))

/-- The normalised rows. -/
def norms : FVec Ideal S8x2048x4096 .f32 :=
  mulf (mulf X (broadcastInDim S8x2048x4096 ![0, 1, 2] bcast_S8x2048x1_S8x2048x4096_0_1_2 (roots X))) (broadcastInDim S8x2048x4096 ![0, 1, 2] bcast_S1x1x4096_S8x2048x4096_0_1_2 (broadcastInDim S1x1x4096 ![2] bcast_S4096_S1x1x4096_2 (shapeCast S4096 G shapeCasts_S1x4096_S4096)))

/-- The products of the normalised rows with the weights. -/
def products : FVec Ideal S8x2048x11296 .f32 :=
  Host.dotGeneral dot_S8x2048x4096_S4096x11296_S8x2048x11296_2_0_01_1_n_n none (norms X G) (shapeCast S4096x11296 W shapeCasts_S1x4096x11296_S4096x11296)

/-- Four heads of 192 columns, each padded to 256. -/
def heads (T : FVec Ideal S8x2048x768 .f32) : FVec Ideal S8x2048x1024 .f32 :=
  concatenate S8x2048x1024 2 [⟨S8x2048x256, pad S8x2048x256 ![0, 0, 0] ![0, 0, 64] ![0, 0, 0] (extractStridedSlice S8x2048x192 ![0, 0, 0] T slices_S8x2048x768_S8x2048x192_0_0_0) (sitofp .f32 (constantI S_ 32 0#32)) pads_S8x2048x192_S8x2048x256_000_000_0640 h_S_⟩,
    ⟨S8x2048x256, pad S8x2048x256 ![0, 0, 0] ![0, 0, 64] ![0, 0, 0] (extractStridedSlice S8x2048x192 ![0, 0, 192] T slices_S8x2048x768_S8x2048x192_0_0_192) (sitofp .f32 (constantI S_ 32 0#32)) pads_S8x2048x192_S8x2048x256_000_000_0640 h_S_⟩,
    ⟨S8x2048x256, pad S8x2048x256 ![0, 0, 0] ![0, 0, 64] ![0, 0, 0] (extractStridedSlice S8x2048x192 ![0, 0, 384] T slices_S8x2048x768_S8x2048x192_0_0_384) (sitofp .f32 (constantI S_ 32 0#32)) pads_S8x2048x192_S8x2048x256_000_000_0640 h_S_⟩,
    ⟨S8x2048x256, pad S8x2048x256 ![0, 0, 0] ![0, 0, 64] ![0, 0, 0] (extractStridedSlice S8x2048x192 ![0, 0, 576] T slices_S8x2048x768_S8x2048x192_0_0_576) (sitofp .f32 (constantI S_ 32 0#32)) pads_S8x2048x192_S8x2048x256_000_000_0640 h_S_⟩]
    concatenates_S8x2048x256_S8x2048x256_S8x2048x256_S8x2048x256_S8x2048x1024_d2

/-- The two ranks of decay columns, padded to 512. -/
def decays (D : FVec Ideal S8x2048x11296 .f32) : FVec Ideal S8x2048x512 .f32 :=
  pad S8x2048x512 ![0, 0, 0] ![0, 0, 480] ![0, 0, 0] (concatenate S8x2048x32 2 [⟨S8x2048x16, extractStridedSlice S8x2048x16 ![0, 0, 4608] D slices_S8x2048x11296_S8x2048x16_0_0_4608⟩, ⟨S8x2048x16, extractStridedSlice S8x2048x16 ![0, 0, 4624] D slices_S8x2048x11296_S8x2048x16_0_0_4624⟩] concatenates_S8x2048x16_S8x2048x16_S8x2048x32_d2) (sitofp .f32 (constantI S_ 32 0#32)) pads_S8x2048x32_S8x2048x512_000_000_04800 h_S_

/-- The mixers' columns in the packed order. -/
def packed (D : FVec Ideal S8x2048x11296 .f32) : FVec Ideal S8x2048x12288 .f32 :=
  concatenate S8x2048x12288 2 [⟨S8x2048x1024, heads (extractStridedSlice S8x2048x768 ![0, 0, 0] D slices_S8x2048x11296_S8x2048x768_0_0_0)⟩,
    ⟨S8x2048x1024, heads (extractStridedSlice S8x2048x768 ![0, 0, 768] D slices_S8x2048x11296_S8x2048x768_0_0_768)⟩,
    ⟨S8x2048x1024, extractStridedSlice S8x2048x1024 ![0, 0, 4640] D slices_S8x2048x11296_S8x2048x1024_0_0_4640⟩, ⟨S8x2048x1536, extractStridedSlice S8x2048x1536 ![0, 0, 1536] D slices_S8x2048x11296_S8x2048x1536_0_0_1536⟩,
    ⟨S8x2048x1536, extractStridedSlice S8x2048x1536 ![0, 0, 3072] D slices_S8x2048x11296_S8x2048x1536_0_0_3072⟩, ⟨S8x2048x1536, extractStridedSlice S8x2048x1536 ![0, 0, 6688] D slices_S8x2048x11296_S8x2048x1536_0_0_6688⟩,
    ⟨S8x2048x1536, extractStridedSlice S8x2048x1536 ![0, 0, 8224] D slices_S8x2048x11296_S8x2048x1536_0_0_8224⟩, ⟨S8x2048x1536, extractStridedSlice S8x2048x1536 ![0, 0, 9760] D slices_S8x2048x11296_S8x2048x1536_0_0_9760⟩,
    ⟨S8x2048x512, decays D⟩, ⟨S8x2048x1024, extractStridedSlice S8x2048x1024 ![0, 0, 5664] D slices_S8x2048x11296_S8x2048x1024_0_0_5664⟩]
    concatenates_S8x2048x1024_S8x2048x1024_S8x2048x1024_S8x2048x1536_S8x2048x1536_S8x2048x1536_S8x2048x1536_S8x2048x1536_S8x2048x512_S8x2048x1024_S8x2048x12288_d2

/-- The result: its rows follow one another, in the narrower format. -/
def result (D : FVec Ideal S8x2048x11296 .f32) : FVec Ideal S16384x12288 .bf16 :=
  truncf .bf16 (shapeCast S16384x12288 (packed D) shapeCasts_S8x2048x12288_S16384x12288) bitsLt_bf16_f32

theorem roots_at (b : Fin 8) (s : Fin 2048) :
    roots X (ix3 b s (0 : Fin 1)) =
      Ideal.rsqrt (Ideal.div (∑ k : Fin 4096, X (ix3 b s k) * X (ix3 b s k)) (Ideal.ofBits FTy.f32 0x45800000#32) + Ideal.ofBits FTy.f32 0x358637BD#32) := by
  pointwise [roots]

theorem norms_at (b : Fin 8) (s : Fin 2048) (k : Fin 4096) :
    norms X G (ix3 b s k) = X (ix3 b s k) * roots X (ix3 b s (0 : Fin 1)) * G (ix2 (0 : Fin 1) k) := by
  pointwise [norms]

theorem products_at (b : Fin 8) (s : Fin 2048) (j : Fin 11296) :
    products X G W (ix3 b s j) = ∑ k : Fin 4096, norms X G (ix3 b s k) * W (ix3 (0 : Fin 1) k j) := by
  pointwise [products]

set_option maxHeartbeats 2000000 in
theorem zero_pad : FloatOps.sitofp (F := Ideal) .f32 (0#32 : BitVec 32) = 0 := by
  show (((0#32 : BitVec 32).toInt : ℝ) : EReal) = 0
  simp

theorem heads_at (T : FVec Ideal S8x2048x768 .f32) (b : Fin 8) (s : Fin 2048) (j : Fin 1024) :
    heads T (ix3 b s j) = ext (fun n => T (ix3 b s n)) (hsrc j) := by
  pointwise [heads]
  split_ifs <;> first
    | exact ext_eq (fun n => T (ix3 b s n)) (by unfold hsrc; split_ifs <;> omega) _
    | exact zero_pad.trans (ext_zero (fun n => T (ix3 b s n)) (by unfold hsrc; split_ifs <;> omega))

set_option maxHeartbeats 2000000 in
theorem decays_at (D : FVec Ideal S8x2048x11296 .f32) (b : Fin 8) (s : Fin 2048) (j : Fin 512) :
    decays D (ix3 b s j) = ext (fun n => D (ix3 b s n)) (if j.val < 32 then 4608 + j else 11296) := by
  pointwise [decays]
  split_ifs <;> first
    | exact ext_eq (fun n => D (ix3 b s n)) (by omega) _
    | exact zero_pad.trans (ext_zero (fun n => D (ix3 b s n)) rfl)

set_option maxHeartbeats 2000000 in
theorem packed_at (D : FVec Ideal S8x2048x11296 .f32) (b : Fin 8) (s : Fin 2048) (j : Fin 12288) :
    packed D (ix3 b s j) = ext (fun n => D (ix3 b s n)) (src j) := by
  have h1 (i : Fin 1024) : heads (extractStridedSlice S8x2048x768 ![0, 0, 0] D slices_S8x2048x11296_S8x2048x768_0_0_0) (ix3 b s i) =
      ext (fun n => D (ix3 b s n)) (if hsrc i < 768 then hsrc i else 11296) := by
    rw [heads_at]
    unfold ext
    by_cases h : hsrc i < 768
    · simp only [if_pos h]
      rw [dif_pos h, dif_pos (by omega)]
      pointwise
    · simp only [if_neg h]
      rw [dif_neg h, dif_neg (by omega)]
  have h2 (i : Fin 1024) : heads (extractStridedSlice S8x2048x768 ![0, 0, 768] D slices_S8x2048x11296_S8x2048x768_0_0_768) (ix3 b s i) =
      ext (fun n => D (ix3 b s n)) (if hsrc i < 768 then 768 + hsrc i else 11296) := by
    rw [heads_at]
    unfold ext
    by_cases h : hsrc i < 768
    · simp only [if_pos h]
      rw [dif_pos h, dif_pos (by omega)]
      pointwise
    · simp only [if_neg h]
      rw [dif_neg h, dif_neg (by omega)]
  pointwise [packed]
  split_ifs <;> first
    | exact ext_eq (fun n => D (ix3 b s n)) (by unfold src; split_ifs <;> omega) _
    | exact (h1 _).trans (congrArg (ext fun n => D (ix3 b s n)) (by unfold src hsrc; dsimp only; split_ifs <;> omega))
    | exact (h2 _).trans (congrArg (ext fun n => D (ix3 b s n)) (by unfold src hsrc; dsimp only; split_ifs <;> omega))
    | exact (decays_at D b s _).trans (congrArg (ext fun n => D (ix3 b s n)) (by unfold src; dsimp only; split_ifs <;> omega))

theorem result_at (D : FVec Ideal S8x2048x11296 .f32) (r : Fin 16384) (j : Fin 12288) :
    result D (ix2 r j) = packed D (ix3 (⟨r / 2048, by omega⟩ : Fin 8) (⟨r % 2048, by omega⟩ : Fin 2048) j) := by
  pointwise [result]

theorem res_eq (m : (ℓ : Loc nD τ sig) → Buf (Elt Ideal) ℓ) (c : Dev nD) :
    Value.res_main_v49 m c = result (products (m ((c.tc : Thread nD τ).loc main_arg0)) (m ((c.tc : Thread nD τ).loc main_arg1)) (m ((c.tc : Thread nD τ).loc main_arg2))) := rfl

end Cert.Reference8Ideal.Proj

end
-- ==== Proof.Proj.Equation.lean ====
/- The mixers' projection: the array that the kernel leaves is the reference's. -/
module

public import proofs.«01_k».proof.Proof.Proj.Blocks
public import proofs.«01_k».proof.Proof.Proj.Reference
public import Idealize.ShloMosaic.Lib.Pipeline.Value

@[expose] public section

set_option maxRecDepth 16384

noncomputable section

namespace Cert.Kernel8Ideal.Proj

open Idealize.ShloMosaic Idealize.ShloMosaic.TcCoe Idealize.SL.Sem
open Cert.Kernel8Ideal Cert.Kernel8Ideal.Gen Cert.Ffn Cert.Proj Idealize.ShloMosaic.Pipeline
open Cert.Reference8Ideal.Proj

variable (m : (ℓ : Loc nD τ sig) → Buf (Elt Ideal) ℓ) (c : Dev nD)

/-- A product of a normalised row, in the kernel's form and in the reference's. -/
theorem product_eq (r : Fin 16384) (j : Fin 11296) :
    rstd (∑ k : Fin 4096, row (xarg m c) r k * row (xarg m c) r k) * ∑ k : Fin 4096, row (xarg m c) r k * scaled m c k j =
      products (xarg m c) (garg m c) (warg m c) (ix3 (⟨r / 2048, by omega⟩ : Fin 8) (⟨r % 2048, by omega⟩ : Fin 2048) j) := by
  rw [products_at]
  refine (normed_dot (row (xarg m c) r) (fun k => garg m c (ix2 (0 : Fin 1) k)) (fun k => warg m c (ix3 (0 : Fin 1) k j))).trans ?_
  refine Finset.sum_congr rfl fun k _ => ?_
  rw [norms_at, roots_at, mean_eq]
  rfl

theorem entry_eq (r : Fin 16384) (j : Fin 12288) :
    kentry m c r j = result (products (xarg m c) (garg m c) (warg m c)) (ix2 r j) := by
  rw [result_at, packed_at]
  unfold kentry scaleBy ext
  by_cases h : src j < 11296
  · simp only [dif_pos h]
    exact product_eq m c r ⟨src j, h⟩
  · simp only [dif_neg h, mul_zero, Finset.sum_const_zero]

theorem array_eq : (dats m 0 c).arrAt 3 cfg0.N = result (products (xarg m c) (garg m c) (warg m c)) := by
  refine (dats m 0 c).arrAt_eq_of_covers 3 _ (by decide +kernel) fun t hf y => ?_
  show (dats m 0 c).after 3 t ((cfg0.win 3).xinj (cfg0.grid.coords t) y) = _
  rw [after0_3]
  have ht := lt_N t
  have h := idx t
  have e0 : win0_3.index t 0 = t.val / 12 := by rw [h.2.2.2.2]; rfl
  have e1 : win0_3.index t 1 = t.val % 12 := by rw [h.2.2.2.2]; rfl
  have hy0 : (y 0).val < 1024 := (y 0).isLt
  have hy1 : (y 1).val < 1024 := (y 1).isLt
  refine (out_at m c t _).trans ?_
  refine (entry_eq m c (prow t ⟨y 0, hy0⟩) (pcol t ⟨y 1, hy1⟩)).trans ?_
  refine congrArg (result (products (xarg m c) (garg m c) (warg m c))) (funext fun a => Fin.ext ?_)
  fin_cases a
  · show t.val / 12 * 1024 + (y 0).val = win0_3.index t 0 * 1024 + 1 * (y 0).val
    omega
  · show t.val % 12 * 1024 + (y 1).val = win0_3.index t 1 * 1024 + 1 * (y 1).val
    omega

end Cert.Kernel8Ideal.Proj

end
-- ==== Proof.Na.LitSpec.lean ====
/- What the kernel's literal mask table is to hold, entry by entry. -/
module

public import proofs.«01_k».proof.Proof.Gen.KernelIdeal.Value

@[expose] public section

set_option maxRecDepth 16384

namespace Cert.KernelIdeal.Na

open Idealize.ShloMosaic Idealize.ShloMosaic.TcCoe Idealize.SL.Sem
open Cert.KernelIdeal Cert.KernelIdeal.Gen

/-- Whether mask `g` lets query column `x` see lane `l`: the lane's half of the pair of key rows is switched on (bit 1 of
`g` for lanes below 64, bit 0 for the others) and its column is one of the sixteen around `x`. -/
def lets (g x l : ℕ) : Bool :=
  (bif Nat.blt l 64 then Nat.ble 2 g else Nat.beq (g % 2) 1) &&
    (Nat.ble (Nat.min (x - 8) 48) (l % 64) && Nat.blt (l % 64) (Nat.min (x - 8) 48 + 16))

/-- What row `r` of the table (mask `r / 64`, query column `r % 64`) holds in lane `l`. -/
def Holds (r l : ℕ) : Prop := lit0t (r * 128 + l) = bif lets (r / 64) (r % 64) l then 0x00000000#32 else 0xFF800000#32

noncomputable instance (r l : ℕ) : Decidable (Holds r l) := inferInstanceAs (Decidable (_ = _))

end Cert.KernelIdeal.Na
-- ==== Proof.Na.Lit0.lean ====
/- The literal mask table, rows 0 to 63. -/
module

public import proofs.«01_k».proof.Proof.Na.LitSpec

@[expose] public section

set_option maxRecDepth 16384

namespace Cert.KernelIdeal.Na

theorem rows0_0 : ∀ r : Fin 16, ∀ l : Fin 128, Holds (0 + r) l := by decide +kernel

theorem rows0_1 : ∀ r : Fin 16, ∀ l : Fin 128, Holds (16 + r) l := by decide +kernel

theorem rows0_2 : ∀ r : Fin 16, ∀ l : Fin 128, Holds (32 + r) l := by decide +kernel

theorem rows0_3 : ∀ r : Fin 16, ∀ l : Fin 128, Holds (48 + r) l := by decide +kernel

/-- Mask 0. -/
theorem rows0 (r : Fin 64) (l : Fin 128) : Holds (0 + r) l := by
  by_cases h0 : r.val < 16
  · have := rows0_0 ⟨r - 0, by omega⟩ l
    rwa [show 0 + (r.val - 0) = 0 + r by omega] at this
  by_cases h1 : r.val < 32
  · have := rows0_1 ⟨r - 16, by omega⟩ l
    rwa [show 16 + (r.val - 16) = 0 + r by omega] at this
  by_cases h2 : r.val < 48
  · have := rows0_2 ⟨r - 32, by omega⟩ l
    rwa [show 32 + (r.val - 32) = 0 + r by omega] at this
  have := rows0_3 ⟨r - 48, by omega⟩ l
  rwa [show 48 + (r.val - 48) = 0 + r by omega] at this

end Cert.KernelIdeal.Na
-- ==== Proof.Na.Lit1.lean ====
/- The literal mask table, rows 64 to 127. -/
module

public import proofs.«01_k».proof.Proof.Na.LitSpec

@[expose] public section

set_option maxRecDepth 16384

namespace Cert.KernelIdeal.Na

theorem rows1_0 : ∀ r : Fin 16, ∀ l : Fin 128, Holds (64 + r) l := by decide +kernel

theorem rows1_1 : ∀ r : Fin 16, ∀ l : Fin 128, Holds (80 + r) l := by decide +kernel

theorem rows1_2 : ∀ r : Fin 16, ∀ l : Fin 128, Holds (96 + r) l := by decide +kernel

theorem rows1_3 : ∀ r : Fin 16, ∀ l : Fin 128, Holds (112 + r) l := by decide +kernel

/-- Mask 1. -/
theorem rows1 (r : Fin 64) (l : Fin 128) : Holds (64 + r) l := by
  by_cases h0 : r.val < 16
  · have := rows1_0 ⟨r - 0, by omega⟩ l
    rwa [show 64 + (r.val - 0) = 64 + r by omega] at this
  by_cases h1 : r.val < 32
  · have := rows1_1 ⟨r - 16, by omega⟩ l
    rwa [show 80 + (r.val - 16) = 64 + r by omega] at this
  by_cases h2 : r.val < 48
  · have := rows1_2 ⟨r - 32, by omega⟩ l
    rwa [show 96 + (r.val - 32) = 64 + r by omega] at this
  have := rows1_3 ⟨r - 48, by omega⟩ l
  rwa [show 112 + (r.val - 48) = 64 + r by omega] at this

end Cert.KernelIdeal.Na
-- ==== Proof.Na.Lit2.lean ====
/- The literal mask table, rows 128 to 191. -/
module

public import proofs.«01_k».proof.Proof.Na.LitSpec

@[expose] public section

set_option maxRecDepth 16384

namespace Cert.KernelIdeal.Na

theorem rows2_0 : ∀ r : Fin 16, ∀ l : Fin 128, Holds (128 + r) l := by decide +kernel

theorem rows2_1 : ∀ r : Fin 16, ∀ l : Fin 128, Holds (144 + r) l := by decide +kernel

theorem rows2_2 : ∀ r : Fin 16, ∀ l : Fin 128, Holds (160 + r) l := by decide +kernel

theorem rows2_3 : ∀ r : Fin 16, ∀ l : Fin 128, Holds (176 + r) l := by decide +kernel

/-- Mask 2. -/
theorem rows2 (r : Fin 64) (l : Fin 128) : Holds (128 + r) l := by
  by_cases h0 : r.val < 16
  · have := rows2_0 ⟨r - 0, by omega⟩ l
    rwa [show 128 + (r.val - 0) = 128 + r by omega] at this
  by_cases h1 : r.val < 32
  · have := rows2_1 ⟨r - 16, by omega⟩ l
    rwa [show 144 + (r.val - 16) = 128 + r by omega] at this
  by_cases h2 : r.val < 48
  · have := rows2_2 ⟨r - 32, by omega⟩ l
    rwa [show 160 + (r.val - 32) = 128 + r by omega] at this
  have := rows2_3 ⟨r - 48, by omega⟩ l
  rwa [show 176 + (r.val - 48) = 128 + r by omega] at this

end Cert.KernelIdeal.Na
-- ==== Proof.Na.Lit3.lean ====
/- The literal mask table, rows 192 to 255. -/
module

public import proofs.«01_k».proof.Proof.Na.LitSpec

@[expose] public section

set_option maxRecDepth 16384

namespace Cert.KernelIdeal.Na

theorem rows3_0 : ∀ r : Fin 16, ∀ l : Fin 128, Holds (192 + r) l := by decide +kernel

theorem rows3_1 : ∀ r : Fin 16, ∀ l : Fin 128, Holds (208 + r) l := by decide +kernel

theorem rows3_2 : ∀ r : Fin 16, ∀ l : Fin 128, Holds (224 + r) l := by decide +kernel

theorem rows3_3 : ∀ r : Fin 16, ∀ l : Fin 128, Holds (240 + r) l := by decide +kernel

/-- Mask 3. -/
theorem rows3 (r : Fin 64) (l : Fin 128) : Holds (192 + r) l := by
  by_cases h0 : r.val < 16
  · have := rows3_0 ⟨r - 0, by omega⟩ l
    rwa [show 192 + (r.val - 0) = 192 + r by omega] at this
  by_cases h1 : r.val < 32
  · have := rows3_1 ⟨r - 16, by omega⟩ l
    rwa [show 208 + (r.val - 16) = 192 + r by omega] at this
  by_cases h2 : r.val < 48
  · have := rows3_2 ⟨r - 32, by omega⟩ l
    rwa [show 224 + (r.val - 32) = 192 + r by omega] at this
  have := rows3_3 ⟨r - 48, by omega⟩ l
  rwa [show 240 + (r.val - 48) = 192 + r by omega] at this

end Cert.KernelIdeal.Na
-- ==== Proof.Na.Lit.lean ====
/- The kernel's literal mask table, entry by entry. -/
module

public import proofs.«01_k».proof.Proof.Na.Lit0
public import proofs.«01_k».proof.Proof.Na.Lit1
public import proofs.«01_k».proof.Proof.Na.Lit2
public import proofs.«01_k».proof.Proof.Na.Lit3

@[expose] public section

namespace Cert.KernelIdeal.Na

theorem rows (r : Fin 256) (l : Fin 128) : Holds r l := by
  by_cases h0 : r.val < 64
  · have := rows0 ⟨r - 0, by omega⟩ l
    rwa [show 0 + (r.val - 0) = r by omega] at this
  by_cases h1 : r.val < 128
  · have := rows1 ⟨r - 64, by omega⟩ l
    rwa [show 64 + (r.val - 64) = r by omega] at this
  by_cases h2 : r.val < 192
  · have := rows2 ⟨r - 128, by omega⟩ l
    rwa [show 128 + (r.val - 128) = r by omega] at this
  have := rows3 ⟨r - 192, by omega⟩ l
  rwa [show 192 + (r.val - 192) = r by omega] at this

end Cert.KernelIdeal.Na
-- ==== Proof.Na.HostProj.lean ====
/- The packed projections, as the host lays them out before the kernel starts. -/
module

public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Proof.Gen.KernelIdeal.Value

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

variable (m : (ℓ : Loc nD τ sig) → Buf (Elt Ideal) ℓ) (c : Dev nD)

/-- Column `6144 + e` of the packed projections holds the query's feature `e`. -/
theorem proj_q (n : Fin 16384) (e : Fin 1536) :
    (V m c main_v8 : Vec Ideal S16384x12288 .bf16) (ix2 n (⟨6144 + e, by omega⟩ : Fin 12288)) =
      (m ((c : Thread nD τ).loc main_arg0) : Vec Ideal S8x2048x1536 .f32) (ix3 (⟨n / 2048, by omega⟩ : Fin 8) (⟨n % 2048, by omega⟩ : Fin 2048) e) := by
  generalize hR : (m ((c : Thread nD τ).loc main_arg0) : Vec Ideal S8x2048x1536 .f32) _ = R
  unfold V
  after_reads_at
  simp only [StableHlo.unary_result']
  after_reads_at
  exact hR

/-- Column `7680 + e` of the packed projections holds the key's feature `e`. -/
theorem proj_k (n : Fin 16384) (e : Fin 1536) :
    (V m c main_v8 : Vec Ideal S16384x12288 .bf16) (ix2 n (⟨7680 + e, by omega⟩ : Fin 12288)) =
      (m ((c : Thread nD τ).loc main_arg1) : Vec Ideal S8x2048x1536 .f32) (ix3 (⟨n / 2048, by omega⟩ : Fin 8) (⟨n % 2048, by omega⟩ : Fin 2048) e) := by
  generalize hR : (m ((c : Thread nD τ).loc main_arg1) : Vec Ideal S8x2048x1536 .f32) _ = R
  unfold V
  after_reads_at
  rw [dif_neg (show ¬ (7680 + e.val < 6144) by omega), dif_neg (show ¬ (7680 + e.val - 6144 < 1536) by omega), dif_pos (show 7680 + e.val - 6144 - 1536 < 1536 by omega)]
  simp only [StableHlo.unary_result']
  after_reads_at
  subst hR
  exact congrArg (fun a => (m ((c : Thread nD τ).loc main_arg1) : Vec Ideal S8x2048x1536 .f32) (ix3 (⟨n / 2048, by omega⟩ : Fin 8) (⟨n % 2048, by omega⟩ : Fin 2048) a)) (Fin.ext (by dsimp only; omega))

/-- Column `9216 + e` of the packed projections holds the value's feature `e`. -/
theorem proj_v (n : Fin 16384) (e : Fin 1536) :
    (V m c main_v8 : Vec Ideal S16384x12288 .bf16) (ix2 n (⟨9216 + e, by omega⟩ : Fin 12288)) =
      (m ((c : Thread nD τ).loc main_arg2) : Vec Ideal S8x2048x1536 .f32) (ix3 (⟨n / 2048, by omega⟩ : Fin 8) (⟨n % 2048, by omega⟩ : Fin 2048) e) := by
  generalize hR : (m ((c : Thread nD τ).loc main_arg2) : Vec Ideal S8x2048x1536 .f32) _ = R
  unfold V
  after_reads_at
  rw [dif_neg (show ¬ (9216 + e.val < 6144) by omega), dif_neg (show ¬ (9216 + e.val - 6144 < 1536) by omega), dif_neg (show ¬ (9216 + e.val - 6144 - 1536 < 1536) by omega), dif_pos (show 9216 + e.val - 6144 - 1536 - 1536 < 1536 by omega)]
  simp only [StableHlo.unary_result']
  after_reads_at
  subst hR
  exact congrArg (fun a => (m ((c : Thread nD τ).loc main_arg2) : Vec Ideal S8x2048x1536 .f32) (ix3 (⟨n / 2048, by omega⟩ : Fin 8) (⟨n % 2048, by omega⟩ : Fin 2048) a)) (Fin.ext (by dsimp only; omega))

end Cert.KernelIdeal.Na

end
-- ==== Proof.Na.Host.lean ====
module

public import Idealize.ShloMosaic.Lib.Pipeline.ValueKit
public import Idealize.ShloMosaic.Lib.Pointwise
public import Idealize.ShloMosaic.Lib.Claim
public import Idealize.ShloMosaic.Lib.Tactic.WordOmega
public import Idealize.ShloMosaic.Lib.StableHlo.ReadAt
public import proofs.«01_k».proof.Proof.Gen.KernelIdeal.Value

/-! What the arrays that the host prepares hold when the kernel is entered: the packed projections (`main_v8`),
the paired rows of the bias's Toeplitz table (`main_v19`) and the mask table (`main_cst`). -/

@[expose] public section
set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

variable (m : (ℓ : Loc nD τ sig) → Buf (Elt Ideal) ℓ) (c : Dev nD)

/-- The bias's Toeplitz table, padded with twelve rows of zeros before and behind: row offset `d`, query column `x`
and key column `k`. -/
def toe (rpb : Vec Ideal S12x15x31 .f32) (h : Fin 12) (d x k : ℕ) : EReal :=
  if hh : (12 ≤ d ∧ d < 27) ∧ x ≤ 15 + k ∧ k < x + 16 then
    rpb (ix3 h ⟨d - 12, by omega⟩ ⟨15 + k - x, by omega⟩) else 0

theorem zero_word : (FloatOps.sitofp FTy.f32 0#32 : Ideal .f32) = (0 : EReal) := by
  show (((0#32 : BitVec 32).toInt : ℝ) : EReal) = 0
  simp

theorem toe_pairs (X : Vec Ideal S12x15x31 .f32) (z : EReal) (hz : z = 0) (h : Fin 12) (y : Fin 38) (x : Fin 64) (l : Fin 128) :
    (if h_1 : l.val < 64 then
      if h_2 : (12 ≤ y.val ∧ y.val - 12 < 15) ∧ l.val < 64 then
        if h_3 : 48 ≤ (x.val * 127 + (63 + l.val)) % 128 ∧ (x.val * 127 + (63 + l.val)) % 128 - 48 < 31 then
          X (ix3 h ⟨y.val - 12, by omega⟩ ⟨(x.val * 127 + (63 + l.val)) % 128 - 48, by omega⟩)
        else z
      else z
    else
      if h_2 : (12 ≤ 1 + y.val ∧ 1 + y.val - 12 < 15) ∧ l.val - 64 < 64 then
        if h_3 : 48 ≤ (x.val * 127 + (63 + (l.val - 64))) % 128 ∧ (x.val * 127 + (63 + (l.val - 64))) % 128 - 48 < 31 then
          X (ix3 h ⟨1 + y.val - 12, by omega⟩ ⟨(x.val * 127 + (63 + (l.val - 64))) % 128 - 48, by omega⟩)
        else z
      else z : EReal) = toe X h (y + l / 64) x (l % 64) := by
  subst hz
  unfold toe
  by_cases hl : l.val < 64
  · have e1 : l.val / 64 = 0 := by omega
    have e2 : l.val % 64 = l.val := by omega
    rw [dif_pos hl]
    by_cases hd : 12 ≤ y.val ∧ y.val - 12 < 15
    · rw [dif_pos ⟨hd, hl⟩]
      by_cases hk : x.val ≤ 15 + l.val ∧ l.val < x.val + 16
      · rw [dif_pos (by omega), dif_pos (by omega)]
        exact congrArg₂ (fun a b => X (ix3 h a b)) (Fin.ext (by dsimp only; omega)) (Fin.ext (by dsimp only; omega))
      · rw [dif_neg (by omega), dif_neg (by omega)]
    · rw [dif_neg (fun h => hd h.1), dif_neg (by omega)]
  · have e1 : l.val / 64 = 1 := by omega
    have e2 : l.val % 64 = l.val - 64 := by omega
    rw [dif_neg hl]
    by_cases hd : 12 ≤ 1 + y.val ∧ 1 + y.val - 12 < 15
    · rw [dif_pos ⟨hd, by omega⟩]
      by_cases hk : x.val ≤ 15 + (l.val - 64) ∧ l.val - 64 < x.val + 16
      · rw [dif_pos (by omega), dif_pos (by omega)]
        exact congrArg₂ (fun a b => X (ix3 h a b)) (Fin.ext (by dsimp only; omega)) (Fin.ext (by dsimp only; omega))
      · rw [dif_neg (by omega), dif_neg (by omega)]
    · rw [dif_neg (fun h => hd h.1), dif_neg (by omega)]

/-- The paired rows of the table. -/
theorem pairs_at (h : Fin 12) (y : Fin 38) (x : Fin 64) (l : Fin 128) :
    (V m c main_v19 : Vec Ideal S12x38x64x128 .f32) (ix4 h y x l) =
      toe (m ((c : Thread nD τ).loc main_arg3) : Vec Ideal S12x15x31 .f32) h (y + l / 64) x (l % 64) := by
  generalize hR : toe (m ((c : Thread nD τ).loc main_arg3) : Vec Ideal S12x15x31 .f32) h (y + l / 64) x (l % 64) = R
  unfold V
  after_reads_at
  subst hR
  exact toe_pairs _ _ zero_word h y x l

theorem masks_eq (i) : (V m c main_cst : Vec Ideal S4x64x128 .f32) i = Ideal.ofBits FTy.f32 (lit0 (S4x64x128.rowMajor i)) := by
  unfold V
  after_reads_at

end Cert.KernelIdeal.Na
-- ==== Proof.Na.KerVal.lean ====
/- One query block of the kernel, entry by entry. -/
module

public import proofs.«01_k».proof.Proof.Gen.KernelIdeal.Skeleton
public import Idealize.ShloMosaic.Lib.Pointwise

@[expose] public section

set_option maxRecDepth 16384

noncomputable section

namespace Cert.KernelIdeal.Na

open Idealize.ShloMosaic Idealize.ShloMosaic.TcCoe Idealize.SL.Sem
open Cert.KernelIdeal Cert.KernelIdeal.Gen

/-- The block's scores: scaled products of queries and keys, plus the table. -/
def bscore (q : Vec Ideal S256x128 .bf16) (k : Vec Ideal S768x128 .bf16) (tab : Vec Ideal S1x256x768 .f32) : FVec Ideal S256x768 .f32 :=
  addf (mulf (matmul (φ₁ := .bf16) (φ₂ := .bf16) dot_S256x128_S768x128_S256x768_1_1_0_0_n_n none (shapeCast S256x128 q shapeCasts_S256x128_S256x128)
      (shapeCast S768x128 k shapeCasts_S768x128_S768x128) (constant S256x768 .f32 0x00000000#32))
    (broadcast S256x768 (Scalar.ofBits .f32 0x3DB504F3#32))) (shapeCast S256x768 tab shapeCasts_S1x256x768_S256x768)

/-- Each row's largest score. -/
def btop (s : FVec Ideal S256x768 .f32) : FVec Ideal S256 .f32 :=
  multiReduction .maximumf [1] S256 s 0xFF800000#32 reduces_S256x768_S256 (.inl rfl) rfl

/-- The exponentials of the scores less their row's largest. -/
def bweights (s : FVec Ideal S256x768 .f32) : FVec Ideal S256x768 .f32 :=
  exp (subf s (broadcastTo S256x768 (shapeCast S256x1 (btop s) shapeCasts_S256_S256x1) broadcasts_S256x1_S256x768))

/-- The weighted values over the weights' sum. -/
def bout (p : FVec Ideal S256x768 .f32) (v : Vec Ideal S768x128 .bf16) : FVec Ideal S256x128 .bf16 :=
  truncf .bf16 (divf (matmul (φ₁ := .bf16) (φ₂ := .bf16) dot_S256x768_S768x128_S256x128_1_0_0_1_n_n none (truncf .bf16 p bitsLt_bf16_f32)
      (shapeCast S768x128 v shapeCasts_S768x128_S768x128) (constant S256x128 .f32 0x00000000#32))
    (broadcastTo S256x128 (shapeCast S256x1 (multiReduction .add [1] S256 p 0x00000000#32 reduces_S256x768_S256 (.inl rfl) rfl)
      shapeCasts_S256_S256x1) broadcasts_S256x1_S256x128)) bitsLt_bf16_f32

/-- What one query block stores. -/
def block (q : Vec Ideal S256x128 .bf16) (k : Vec Ideal S768x128 .bf16) (tab : Vec Ideal S1x256x768 .f32) (v : Vec Ideal S768x128 .bf16) :
    FVec Ideal S256x128 .bf16 :=
  bout (bweights (bscore q k tab)) v

variable (q : Vec Ideal S256x128 .bf16) (k : Vec Ideal S768x128 .bf16) (tab : Vec Ideal S1x256x768 .f32) (v : Vec Ideal S768x128 .bf16)

theorem block0_eq : k0_pay90 q k tab v = block q k tab v := rfl
theorem block1_eq : k0_pay92 (k0_pay91 q k) tab v = block q k tab v := rfl
theorem block2_eq : k0_pay95 (k0_pay93 q k tab) (k0_pay94 q k tab) v = block q k tab v := rfl
theorem block3_eq : k0_pay96 q k tab v = block q k tab v := rfl
theorem block4_eq : k0_pay98 (k0_pay97 q) k tab v = block q k tab v := rfl
theorem block5_eq : k0_pay101 (k0_pay99 q k tab) (k0_pay100 q k tab) v = block q k tab v := rfl
theorem block6_eq : k0_pay102 q k tab v = block q k tab v := rfl
theorem block7_eq : k0_pay1 q k tab v = block q k tab v := rfl

theorem bscore_at (q : Vec Ideal S256x128 .bf16) (k : Vec Ideal S768x128 .bf16) (tab : Vec Ideal S1x256x768 .f32) (m : Fin 256) (u : Fin 768) :
    bscore q k tab (ix2 m u) = (∑ c : Fin 128, q (ix2 m c) * k (ix2 u c)) * Ideal.ofBits FTy.f32 0x3DB504F3#32 + tab (ix3 (0 : Fin 1) m u) := by
  pointwise [bscore]

/-- The word of minus infinity. -/
theorem negInf : (FloatOps.ofBits (F := Ideal) FTy.f32 0xFF800000#32) = (⊥ : EReal) := by
  rfl

theorem btop_at (s : FVec Ideal S256x768 .f32) (m : Fin 256) :
    btop s (ix1 m) = Finset.fold max ⊥ (fun u : Fin 768 => s (ix2 m u)) Finset.univ := by
  unfold btop
  refine (Ideal.multiReduction_maximumf_single _ _ _ _ _ _).trans ?_
  show Finset.fold max (FloatOps.ofBits (F := Ideal) FTy.f32 0xFF800000#32) _ _ = _
  rw [negInf]
  congr 1
  funext u
  refine congrArg s ?_
  funext a
  fin_cases a <;> rfl

theorem bweights_at (s : FVec Ideal S256x768 .f32) (m : Fin 256) (u : Fin 768) :
    bweights s (ix2 m u) = Ideal.exp (s (ix2 m u) - btop s (ix1 m)) := by
  pointwise [bweights]

theorem bout_at (p : FVec Ideal S256x768 .f32) (v : Vec Ideal S768x128 .bf16) (m : Fin 256) (d : Fin 128) :
    bout p v (ix2 m d) = Ideal.div (∑ u : Fin 768, p (ix2 m u) * v (ix2 u d)) (∑ u : Fin 768, p (ix2 m u)) := by
  pointwise [bout]

end Cert.KernelIdeal.Na

end
-- ==== Proof.Na.KerTab.lean ====
/- The kernel's three bias tables, as its first point of each head leaves them in the scratch. -/
module

public import proofs.«01_k».proof.Proof.Gen.KernelIdeal.Value
public import proofs.«01_k».proof.Proof.Na.KerVal
public import Idealize.ShloMosaic.Lib.Pipeline.ValueKit

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

/-- The first key row, of the twelve, that query row `a` of a block may attend to: in the first, a middle and the last block. -/
abbrev lowRow (ty a : ℕ) : ℕ := min (4 * ty) (max a (4 * (ty - 1)))

/-- Whether key row `r` of the twelve is one of the query row's eight: 1 or 0. -/
abbrev okRow (ty a r : ℕ) : ℕ := min (min (r + 1 - lowRow ty a) (lowRow ty a + 8 - r)) 1

/-- Which of the four masks a pair of key rows takes. -/
abbrev maskOf (ty a p : ℕ) : ℕ := 2 * okRow ty a (2 * p) + okRow ty a (2 * p + 1)

theorem maskOf_lt (ty a p : ℕ) : maskOf ty a p < 4 := by
  have h1 : okRow ty a (2 * p) ≤ 1 := Nat.min_le_right _ _
  have h2 : okRow ty a (2 * p + 1) ≤ 1 := Nat.min_le_right _ _
  unfold maskOf; omega

/-- The bias tables: entry `(ty, 64 a + x, 128 p + l)` is a bias pair plus a mask. -/
def tabOf (P : Vec Ideal S1x38x64x128 .f32) (M : Vec Ideal S4x64x128 .f32) : Vec Ideal S3x256x768 .f32 := fun y =>
  let e : ℕ := 19 - 4 * (y 0 : ℕ) - (y 1 : ℕ) / 64 + 2 * ((y 2 : ℕ) / 128)
  let g : ℕ := maskOf (y 0) ((y 1 : ℕ) / 64) ((y 2 : ℕ) / 128)
  P (ix4 (0 : Fin 1) (⟨e, by have h1 : (y 1 : ℕ) < 256 := (y 1).isLt; have h2 : (y 2 : ℕ) < 768 := (y 2).isLt; omega⟩ : Fin 38)
      (⟨(y 1 : ℕ) % 64, by omega⟩ : Fin 64) (⟨(y 2 : ℕ) % 128, by omega⟩ : Fin 128))
    + M (ix3 (⟨g, maskOf_lt ..⟩ : Fin 4) (⟨(y 1 : ℕ) % 64, by omega⟩ : Fin 64) (⟨(y 2 : ℕ) % 128, by omega⟩ : Fin 128))

/-- A tile's entry: the two casts and the sum, read. -/
theorem cast_at (A : Vec Ideal S1x1x64x128 .f32) (B : Vec Ideal S1x64x128 .f32) (i : Fin 1) (r : Fin 64) (l : Fin 128) :
    shapeCast S1x64x128 (addf (F := Ideal) (φ := .f32) (shapeCast S64x128 A shapeCasts_S1x1x64x128_S64x128)
        (shapeCast S64x128 B shapeCasts_S1x64x128_S64x128)) shapeCasts_S64x128_S1x64x128 (ix3 i r l)
      = A (ix4 (0 : Fin 1) (0 : Fin 1) r l) + B (ix3 (0 : Fin 1) r l) := by
  pointwise

/-- One stored tile of the tables: bias pair `e` plus mask `g`, at rows from `o1` and columns from `o2` of table `ty`. -/
theorem tile_at (P : Vec Ideal S1x38x64x128 .f32) (M : Vec Ideal S4x64x128 .f32) (e g ty o1 o2 : ℕ)
    (ie : ∀ a, ![0, e, 0, 0] a + ![1, 1, 64, 128] a ≤ S1x38x64x128.size a) (ig : ∀ a, ![g, 0, 0] a + ![1, 64, 128] a ≤ S4x64x128.size a)
    (x : S1x64x128.Idx) (y : S3x256x768.Idx) (h0 : (y 0 : ℕ) = ty + (x 0 : ℕ)) (h1 : (y 1 : ℕ) = o1 + (x 1 : ℕ)) (h2 : (y 2 : ℕ) = o2 + (x 2 : ℕ))
    (hm : o1 % 64 = 0 ∧ o2 % 128 = 0) (he : e = 19 - 4 * ty - o1 / 64 + 2 * (o2 / 128)) (hg : g = maskOf ty (o1 / 64) (o2 / 128)) :
    shapeCast S1x64x128 (addf (F := Ideal) (φ := .f32) (shapeCast S64x128 (View.ld P (Rect.unit ![0, e, 0, 0] ![1, 1, 64, 128] ie)) shapeCasts_S1x1x64x128_S64x128)
        (shapeCast S64x128 (View.ld M (Rect.unit ![g, 0, 0] ![1, 64, 128] ig)) shapeCasts_S1x64x128_S64x128)) shapeCasts_S64x128_S1x64x128 x
      = tabOf P M y := by
  have x0 : (x 0 : ℕ) < 1 := (x 0).isLt
  have x1 : (x 1 : ℕ) < 64 := (x 1).isLt
  have x2 : (x 2 : ℕ) < 128 := (x 2).isLt
  have a0 : (y 0 : ℕ) = ty := by omega
  have a1 : (y 1 : ℕ) / 64 = o1 / 64 := by omega
  have a2 : (y 2 : ℕ) / 128 = o2 / 128 := by omega
  have b1 : (y 1 : ℕ) % 64 = (x 1 : ℕ) := by omega
  have b2 : (y 2 : ℕ) % 128 = (x 2 : ℕ) := by omega
  have ex : x = ix3 (x 0 : Fin 1) (x 1 : Fin 64) (x 2 : Fin 128) := by funext a; fin_cases a <;> rfl
  rw [ex]
  refine (cast_at _ _ _ _ _).trans ?_
  unfold tabOf
  refine congrArg₂ (fun p q : EReal => p + q) (congrArg P (funext fun a => Fin.ext ?_)) (congrArg M (funext fun a => Fin.ext ?_))
  · fin_cases a
    · rfl
    · show e + 1 * 0 = 19 - 4 * (y 0 : ℕ) - (y 1 : ℕ) / 64 + 2 * ((y 2 : ℕ) / 128); rw [a0, a1, a2]; omega
    · show 0 + 1 * (x 1 : ℕ) = (y 1 : ℕ) % 64; omega
    · show 0 + 1 * (x 2 : ℕ) = (y 2 : ℕ) % 128; omega
  · fin_cases a
    · show g + 1 * 0 = maskOf (y 0) ((y 1 : ℕ) / 64) ((y 2 : ℕ) / 128); rw [a0, a1, a2]; omega
    · show 0 + 1 * (x 1 : ℕ) = (y 1 : ℕ) % 64; omega
    · show 0 + 1 * (x 2 : ℕ) = (y 2 : ℕ) % 128; omega

theorem soutA_at (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x38x64x128 .f32) (harg5 : arg5.IsWhole) (arg6 : Memref sig .tc .vmem S4x64x128 .f32) (harg6 : arg6.IsWhole) (arg7 : Memref sig .tc .vmem S2048x128 .bf16) (harg7 : arg7.IsWhole) (arg8 : Memref sig .tc .vmem S3x256x768 .f32) (harg8 : arg8.IsWhole) (hc0 : cond0_0 i)
    (x0 : Vec Ideal S2048x128 .bf16) (x1 : Vec Ideal S2048x128 .bf16) (x2 : Vec Ideal S2048x128 .bf16) (x3 : Vec Ideal S1x38x64x128 .f32) (x4 : Vec Ideal S4x64x128 .f32) (y : S3x256x768.Idx) :
    sout0_A_0 c i arg2 harg2 arg3 harg3 arg4 harg4 arg5 harg5 arg6 harg6 arg7 harg7 arg8 harg8 hc0 x0 x1 x2 x3 x4 y = tabOf x3 x4 y := by
  frame_out
  canon_tiles x h
  all_goals
    open_payloads
    first
    | exact tile_at x3 x4 _ _ _ _ _ _ _ x y h0 h1 h2 (by decide) (by decide) (by decide)
    | exact tile_at x3 x4 _ _ _ _ _ _ _ x y h0 h1 (h2.trans (Nat.zero_add _).symm) (by decide) (by decide) (by decide)
    | exact tile_at x3 x4 _ _ _ _ _ _ _ x y h0 (h1.trans (Nat.zero_add _).symm) h2 (by decide) (by decide) (by decide)
    | exact tile_at x3 x4 _ _ _ _ _ _ _ x y h0 (h1.trans (Nat.zero_add _).symm) (h2.trans (Nat.zero_add _).symm) (by decide) (by decide) (by decide)
    | exact tile_at x3 x4 _ _ _ _ _ _ _ x y (h0.trans (Nat.zero_add _).symm) h1 h2 (by decide) (by decide) (by decide)
    | exact tile_at x3 x4 _ _ _ _ _ _ _ x y (h0.trans (Nat.zero_add _).symm) h1 (h2.trans (Nat.zero_add _).symm) (by decide) (by decide) (by decide)
    | exact tile_at x3 x4 _ _ _ _ _ _ _ x y (h0.trans (Nat.zero_add _).symm) (h1.trans (Nat.zero_add _).symm) h2 (by decide) (by decide) (by decide)
    | exact tile_at x3 x4 _ _ _ _ _ _ _ x y (h0.trans (Nat.zero_add _).symm) (h1.trans (Nat.zero_add _).symm) (h2.trans (Nat.zero_add _).symm) (by decide) (by decide) (by decide)

end Cert.KernelIdeal.Na

end
-- ==== Proof.Na.KerOut.lean ====
/- What one grid point of the kernel writes, entry by entry, from its inputs and the bias tables it holds. -/
module

public import proofs.«01_k».proof.Proof.Gen.KernelIdeal.Value
public import proofs.«01_k».proof.Proof.Na.KerVal
public import Idealize.ShloMosaic.Lib.Pipeline.ValueKit

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

/-- The first key of query `n`'s block: twelve image rows around its four. -/
abbrev keyStart (n : ℕ) : ℕ := 64 * min (4 * (n / 256) - 4) 20

/-- Which table query `n`'s block takes. -/
abbrev tabIdx (n : ℕ) : ℕ := min (n / 256) 1 + n / 1792

theorem key_lt {n u : ℕ} (hu : u < 768) : keyStart n + u < 2048 := by unfold keyStart; omega
theorem tab_lt {n : ℕ} (hn : n < 2048) : tabIdx n < 3 := by unfold tabIdx; omega

variable (x0 x1 x2 : Vec Ideal S2048x128 .bf16) (T : Vec Ideal S3x256x768 .f32)

/-- The kernel's score of query `n` with the `u`-th key of its block. -/
def kscore (n : Fin 2048) (u : Fin 768) : EReal :=
  (∑ c : Fin 128, x0 (ix2 n c) * x1 (ix2 ⟨keyStart n + u, key_lt u.2⟩ c)) * Ideal.ofBits FTy.f32 0x3DB504F3#32
    + T (ix3 ⟨tabIdx n, tab_lt n.2⟩ ⟨n % 256, Nat.mod_lt _ (by decide)⟩ u)

/-- The weight of the `u`-th key. -/
def kweight (n : Fin 2048) (u : Fin 768) : EReal :=
  Ideal.exp (kscore x0 x1 T n u - Finset.fold max ⊥ (fun w : Fin 768 => kscore x0 x1 T n w) Finset.univ)

/-- The kernel's result for query `n`, feature `d`. -/
def kout (n : Fin 2048) (d : Fin 128) : EReal :=
  Ideal.div (∑ u : Fin 768, kweight x0 x1 T n u * x2 (ix2 ⟨keyStart n + u, key_lt u.2⟩ d)) (∑ u : Fin 768, kweight x0 x1 T n u)

/-- A block's stored entry is `kout`, once its operands are the right slices. -/
theorem block_at (Q : Vec Ideal S256x128 .bf16) (K V : Vec Ideal S768x128 .bf16) (B : Vec Ideal S1x256x768 .f32)
    (m : Fin 256) (d : Fin 128) (n : Fin 2048)
    (hQ : ∀ c : Fin 128, Q (ix2 m c) = x0 (ix2 n c))
    (hK : ∀ (u : Fin 768) (c : Fin 128), K (ix2 u c) = x1 (ix2 ⟨keyStart n + u, key_lt u.2⟩ c))
    (hB : ∀ u : Fin 768, B (ix3 (0 : Fin 1) m u) = T (ix3 ⟨tabIdx n, tab_lt n.2⟩ ⟨n % 256, Nat.mod_lt _ (by decide)⟩ u))
    (hV : ∀ u : Fin 768, V (ix2 u d) = x2 (ix2 ⟨keyStart n + u, key_lt u.2⟩ d)) :
    block Q K B V (ix2 m d) = kout x0 x1 x2 T n d := by
  have hs : ∀ u : Fin 768, bscore Q K B (ix2 m u) = kscore x0 x1 T n u := fun u => by
    rw [bscore_at]; unfold kscore; rw [hB]; congr 2; exact Finset.sum_congr rfl fun c _ => by rw [hQ, hK]
  have hw : ∀ u : Fin 768, bweights (bscore Q K B) (ix2 m u) = kweight x0 x1 T n u := fun u => by
    rw [bweights_at, btop_at]; unfold kweight; simp only [hs]
  unfold block kout
  rw [bout_at]
  simp only [hw, hV]

/-- Query block `qo / 256`, whose keys start at `ko` and whose table is `ty`. -/
theorem piece_at (qo ko ty : ℕ) (iq : ∀ a, ![qo, 0] a + ![256, 128] a ≤ S2048x128.size a) (ik ik' : ∀ a, ![ko, 0] a + ![768, 128] a ≤ S2048x128.size a)
    (it : ∀ a, ![ty, 0, 0] a + ![1, 256, 768] a ≤ S3x256x768.size a) (x : S256x128.Idx) (y : S2048x128.Idx)
    (h0 : (y 0 : ℕ) = qo + (x 0 : ℕ)) (h1 : (y 1 : ℕ) = (x 1 : ℕ)) (hq : qo % 256 = 0) (hk : ko = keyStart qo) (ht : ty = tabIdx qo) :
    block (View.ld x0 (Rect.unit ![qo, 0] ![256, 128] iq)) (View.ld x1 (Rect.unit ![ko, 0] ![768, 128] ik))
        (View.ld T (Rect.unit ![ty, 0, 0] ![1, 256, 768] it)) (View.ld x2 (Rect.unit ![ko, 0] ![768, 128] ik')) x
      = kout x0 x1 x2 T (y 0) (y 1) := by
  have l0 : (x 0 : ℕ) < 256 := (x 0).isLt
  have e1 : (y 1 : Fin 128) = x 1 := Fin.ext h1
  have ek : keyStart (y 0 : ℕ) = ko := by rw [hk]; unfold keyStart; omega
  have et : tabIdx (y 0 : ℕ) = ty := by rw [ht]; unfold tabIdx; omega
  have em : (y 0 : ℕ) % 256 = x 0 := by omega
  have ex : x = ix2 (x 0 : Fin 256) (x 1 : Fin 128) := by funext a; fin_cases a <;> rfl
  rw [ex, e1]
  refine block_at x0 x1 x2 T _ _ _ _ (x 0) (x 1) (y 0) (fun c => ?_) (fun u c => ?_) (fun u => ?_) (fun u => ?_)
  · refine congrArg x0 (funext fun a => Fin.ext ?_)
    fin_cases a
    · show qo + 1 * (x 0 : ℕ) = y 0; omega
    · show 0 + 1 * (c : ℕ) = c; omega
  · refine congrArg x1 (funext fun a => Fin.ext ?_)
    fin_cases a
    · show ko + 1 * (u : ℕ) = keyStart (y 0 : ℕ) + u; omega
    · show 0 + 1 * (c : ℕ) = c; omega
  · refine congrArg T (funext fun a => Fin.ext ?_)
    fin_cases a
    · show ty + 1 * 0 = tabIdx (y 0 : ℕ); omega
    · show 0 + 1 * (x 0 : ℕ) = (y 0 : ℕ) % 256; omega
    · show 0 + 1 * (u : ℕ) = u; omega
  · refine congrArg x2 (funext fun a => Fin.ext ?_)
    fin_cases a
    · show ko + 1 * (u : ℕ) = keyStart (y 0 : ℕ) + u; omega
    · show 0 + 1 * (x 1 : ℕ) = x 1; omega

theorem outB_at (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x38x64x128 .f32) (harg5 : arg5.IsWhole) (arg6 : Memref sig .tc .vmem S4x64x128 .f32) (harg6 : arg6.IsWhole) (arg7 : Memref sig .tc .vmem S2048x128 .bf16) (harg7 : arg7.IsWhole) (arg8 : Memref sig .tc .vmem S3x256x768 .f32) (harg8 : arg8.IsWhole) (hc0 : ¬cond0_0 i)
    (x3 : Vec Ideal S1x38x64x128 .f32) (x4 : Vec Ideal S4x64x128 .f32) (y : S2048x128.Idx) :
    out0_B_5 c i arg2 harg2 arg3 harg3 arg4 harg4 arg5 harg5 arg6 harg6 arg7 harg7 arg8 harg8 hc0 x0 x1 x2 x3 x4 T y = kout x0 x1 x2 T (y 0) (y 1) := by
  frame_out
  canon_tiles x h
  all_goals
    simp only [block0_eq, block1_eq, block2_eq, block3_eq, block4_eq, block5_eq, block6_eq, block7_eq]
    first
    | exact piece_at x0 x1 x2 T _ _ _ _ _ _ _ x y h0 h1 (by decide) (by decide) (by decide)
    | exact piece_at x0 x1 x2 T 0 _ _ _ _ _ _ x y (by omega) h1 (by decide) (by decide) (by decide)

end Cert.KernelIdeal.Na

end
-- ==== Proof.Na.KerOutA.lean ====
/- The first grid point of each head: what it writes, from the tables it has just built. -/
module

public import proofs.«01_k».proof.Proof.Na.KerTab
public import proofs.«01_k».proof.Proof.Na.KerOut
public import Idealize.ShloMosaic.Lib.Pipeline.ReadBack

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

theorem outA_at (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x38x64x128 .f32) (harg5 : arg5.IsWhole) (arg6 : Memref sig .tc .vmem S4x64x128 .f32) (harg6 : arg6.IsWhole) (arg7 : Memref sig .tc .vmem S2048x128 .bf16) (harg7 : arg7.IsWhole) (arg8 : Memref sig .tc .vmem S3x256x768 .f32) (harg8 : arg8.IsWhole) (hc0 : cond0_0 i)
    (x0 : Vec Ideal S2048x128 .bf16) (x1 : Vec Ideal S2048x128 .bf16) (x2 : Vec Ideal S2048x128 .bf16) (x3 : Vec Ideal S1x38x64x128 .f32) (x4 : Vec Ideal S4x64x128 .f32) (y : S2048x128.Idx) :
    out0_A_5 c i arg2 harg2 arg3 harg3 arg4 harg4 arg5 harg5 arg6 harg6 arg7 harg7 arg8 harg8 hc0 x0 x1 x2 x3 x4 y = kout x0 x1 x2 (tabOf x3 x4) (y 0) (y 1) := by
  have hT : ∀ z, sout0_A_0 (F := Ideal) c i arg2 harg2 arg3 harg3 arg4 harg4 arg5 harg5 arg6 harg6 arg7 harg7 arg8 harg8 hc0 x0 x1 x2 x3 x4 z = tabOf x3 x4 z := fun z => soutA_at ..
  frame_out at hT
  frame_out
  canon_tiles x h
  all_goals
    simp only [block0_eq, block1_eq, block2_eq, block3_eq, block4_eq, block5_eq, block6_eq, block7_eq]
    rw [View.readCov_eq_canon']
    simp only [hT]
    first
    | exact piece_at x0 x1 x2 (tabOf x3 x4) _ _ _ _ _ _ _ x y h0 h1 (by decide) (by decide) (by decide)
    | exact piece_at x0 x1 x2 (tabOf x3 x4) 0 _ _ _ _ _ _ x y (by omega) h1 (by decide) (by decide) (by decide)

end Cert.KernelIdeal.Na

end
-- ==== Proof.Na.Blocks.lean ====
/- The blocks that a grid point reads, and what it writes. -/
module

public import proofs.«01_k».proof.Proof.Na.HostProj
public import proofs.«01_k».proof.Proof.Na.Host
public import proofs.«01_k».proof.Proof.Na.KerOutA

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

variable (m : (ℓ : Loc nD τ sig) → Buf (Elt Ideal) ℓ) (c : Dev nD)

/-- The grid runs over twelve heads and, innermost, eight images. -/
theorem idx : ∀ t : Fin cfg0.N, t.val < 96 ∧ win0_0.index t = ![t.val % 8, 48 + t.val / 8] ∧ win0_1.index t = ![t.val % 8, 60 + t.val / 8] ∧
    win0_2.index t = ![t.val % 8, 72 + t.val / 8] ∧ win0_3.index t = ![t.val / 8, 0, 0, 0] ∧ win0_4.index t = ![0, 0, 0] ∧
    win0_5.index t = ![t.val % 8, t.val / 8] :=
  (by decide +kernel : ∀ t : Fin grid0.N, _)

theorem lt_N (t : Fin cfg0.N) : t.val < 96 := (idx t).1

theorem qblk_at (t : Fin cfg0.N) (n : Fin 2048) (d : Fin 128) :
    (iblk m c 0 t : Vec Ideal S2048x128 .bf16) (ix2 n d) =
      (m ((c : Thread nD τ).loc main_arg0) : Vec Ideal S8x2048x1536 .f32)
        (ix3 (⟨t % 8, by omega⟩ : Fin 8) n (⟨t / 8 * 128 + d, by have := lt_N t; omega⟩ : Fin 1536)) := by
  have ht := lt_N t
  have h := idx t
  have e0 : win0_0.index t 0 = t.val % 8 := by rw [h.2.1]; rfl
  have e1 : win0_0.index t 1 = 48 + t.val / 8 := by rw [h.2.1]; rfl
  have hp := proj_q m c (⟨t % 8 * 2048 + n, by omega⟩ : Fin 16384) (⟨t / 8 * 128 + d, by omega⟩ : Fin 1536)
  refine Eq.trans ?_ (hp.trans ?_)
  · refine congrArg (V m c main_v8) (funext fun a => Fin.ext ?_)
    fin_cases a
    · show win0_0.index t 0 * 2048 + 1 * n.val = t % 8 * 2048 + n
      omega
    · show win0_0.index t 1 * 128 + 1 * d.val = 6144 + (t / 8 * 128 + d)
      omega
  · exact congrArg₂ (fun a b => (m ((c : Thread nD τ).loc main_arg0) : Vec Ideal S8x2048x1536 .f32) (ix3 a b _)) (Fin.ext (by dsimp only; omega)) (Fin.ext (by dsimp only; omega))

theorem kblk_at (t : Fin cfg0.N) (n : Fin 2048) (d : Fin 128) :
    (iblk m c 1 t : Vec Ideal S2048x128 .bf16) (ix2 n d) =
      (m ((c : Thread nD τ).loc main_arg1) : Vec Ideal S8x2048x1536 .f32)
        (ix3 (⟨t % 8, by omega⟩ : Fin 8) n (⟨t / 8 * 128 + d, by have := lt_N t; omega⟩ : Fin 1536)) := by
  have ht := lt_N t
  have h := idx t
  have e0 : win0_1.index t 0 = t.val % 8 := by rw [h.2.2.1]; rfl
  have e1 : win0_1.index t 1 = 60 + t.val / 8 := by rw [h.2.2.1]; rfl
  have hp := proj_k m c (⟨t % 8 * 2048 + n, by omega⟩ : Fin 16384) (⟨t / 8 * 128 + d, by omega⟩ : Fin 1536)
  refine Eq.trans ?_ (hp.trans ?_)
  · refine congrArg (V m c main_v8) (funext fun a => Fin.ext ?_)
    fin_cases a
    · show win0_1.index t 0 * 2048 + 1 * n.val = t % 8 * 2048 + n
      omega
    · show win0_1.index t 1 * 128 + 1 * d.val = 7680 + (t / 8 * 128 + d)
      omega
  · exact congrArg₂ (fun a b => (m ((c : Thread nD τ).loc main_arg1) : Vec Ideal S8x2048x1536 .f32) (ix3 a b _)) (Fin.ext (by dsimp only; omega)) (Fin.ext (by dsimp only; omega))

theorem vblk_at (t : Fin cfg0.N) (n : Fin 2048) (d : Fin 128) :
    (iblk m c 2 t : Vec Ideal S2048x128 .bf16) (ix2 n d) =
      (m ((c : Thread nD τ).loc main_arg2) : Vec Ideal S8x2048x1536 .f32)
        (ix3 (⟨t % 8, by omega⟩ : Fin 8) n (⟨t / 8 * 128 + d, by have := lt_N t; omega⟩ : Fin 1536)) := by
  have ht := lt_N t
  have h := idx t
  have e0 : win0_2.index t 0 = t.val % 8 := by rw [h.2.2.2.1]; rfl
  have e1 : win0_2.index t 1 = 72 + t.val / 8 := by rw [h.2.2.2.1]; rfl
  have hp := proj_v m c (⟨t % 8 * 2048 + n, by omega⟩ : Fin 16384) (⟨t / 8 * 128 + d, by omega⟩ : Fin 1536)
  refine Eq.trans ?_ (hp.trans ?_)
  · refine congrArg (V m c main_v8) (funext fun a => Fin.ext ?_)
    fin_cases a
    · show win0_2.index t 0 * 2048 + 1 * n.val = t % 8 * 2048 + n
      omega
    · show win0_2.index t 1 * 128 + 1 * d.val = 9216 + (t / 8 * 128 + d)
      omega
  · exact congrArg₂ (fun a b => (m ((c : Thread nD τ).loc main_arg2) : Vec Ideal S8x2048x1536 .f32) (ix3 a b _)) (Fin.ext (by dsimp only; omega)) (Fin.ext (by dsimp only; omega))

theorem pblk_at (t : Fin cfg0.N) (y : Fin 38) (x : Fin 64) (l : Fin 128) :
    (iblk m c 3 t : Vec Ideal S1x38x64x128 .f32) (ix4 (0 : Fin 1) y x l) =
      toe (m ((c : Thread nD τ).loc main_arg3) : Vec Ideal S12x15x31 .f32) (⟨t / 8, by have := lt_N t; omega⟩ : Fin 12) (y + l / 64) x (l % 64) := by
  have ht := lt_N t
  have h := idx t
  have e0 : win0_3.index t 0 = t.val / 8 := by rw [h.2.2.2.2.1]; rfl
  have e1 : win0_3.index t 1 = 0 := by rw [h.2.2.2.2.1]; rfl
  have e2 : win0_3.index t 2 = 0 := by rw [h.2.2.2.2.1]; rfl
  have e3 : win0_3.index t 3 = 0 := by rw [h.2.2.2.2.1]; rfl
  refine Eq.trans ?_ (pairs_at m c (⟨t / 8, by omega⟩ : Fin 12) y x l)
  refine congrArg (V m c main_v19) (funext fun a => Fin.ext ?_)
  fin_cases a
  · show win0_3.index t 0 * 1 + 1 * 0 = t / 8
    omega
  · show win0_3.index t 1 * 38 + 1 * y.val = y
    omega
  · show win0_3.index t 2 * 64 + 1 * x.val = x
    omega
  · show win0_3.index t 3 * 128 + 1 * l.val = l
    omega

theorem mblk_eq (t : Fin cfg0.N) : (iblk m c 4 t : Vec Ideal S4x64x128 .f32) = V m c main_cst := by
  have h := idx t
  have e0 : win0_4.index t 0 = 0 := by rw [h.2.2.2.2.2.1]; rfl
  have e1 : win0_4.index t 1 = 0 := by rw [h.2.2.2.2.2.1]; rfl
  have e2 : win0_4.index t 2 = 0 := by rw [h.2.2.2.2.2.1]; rfl
  funext y
  refine congrArg (V m c main_cst) (funext fun a => Fin.ext ?_)
  fin_cases a
  · show win0_4.index t 0 * 4 + 1 * (y 0).val = (y 0).val
    omega
  · show win0_4.index t 1 * 64 + 1 * (y 1).val = (y 1).val
    omega
  · show win0_4.index t 2 * 128 + 1 * (y 2).val = (y 2).val
    omega

/-- The bias block depends on the head alone. -/
theorem pblk_head (t t' : Fin cfg0.N) (h : t.val / 8 = t'.val / 8) :
    (iblk m c 3 t : Vec Ideal S1x38x64x128 .f32) = iblk m c 3 t' := by
  funext y
  refine congrArg (V m c main_v19) (funext fun a => Fin.ext ?_)
  have e : win0_3.index t = win0_3.index t' := by rw [(idx t).2.2.2.2.1, (idx t').2.2.2.2.1, h]
  show win0_3.index t a * _ + 1 * _ = win0_3.index t' a * _ + 1 * _
  rw [e]

/-- The tables of the point's head. -/
def tabs (t : Fin cfg0.N) : Vec Ideal S3x256x768 .f32 := tabOf (iblk m c 3 t) (iblk m c 4 t)

theorem tabs_head (t t' : Fin cfg0.N) (h : t.val / 8 = t'.val / 8) : tabs m c t = tabs m c t' := by
  unfold tabs
  rw [pblk_head m c t t' h, mblk_eq m c t, mblk_eq m c t']

theorem first_held (t : Fin cfg0.N) (h0 : t.val % 8 = 0) : (outsAt0 m c t.val t.isLt).2 = tabs m c t := by
  have h := congrArg Prod.snd (Gen.outsAt0_A m c t h0)
  dsimp only at h
  rw [h]
  funext y
  unfold tabs
  rw [soutA_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) y]

theorem later_held (t : Fin cfg0.N) (h0 : ¬ t.val % 8 = 0) :
    (outsAt0 m c t.val t.isLt).2 = (outsAt0 m c (t.val - 1) (Nat.lt_of_le_of_lt (Nat.sub_le _ _) t.isLt)).2 := by
  refine (congrArg Prod.snd (Gen.outsAt0_B m c t h0)).trans ?_
  dsimp only [sout0_B_0]

/-- The scratch holds the tables of the head from the head's first point on. -/
theorem held (n : ℕ) : ∀ hn : n < cfg0.N, (outsAt0 m c n hn).2 = tabs m c ⟨n, hn⟩ := by
  induction n with
  | zero => intro hn; exact first_held m c ⟨0, hn⟩ (Nat.zero_mod 8)
  | succ n ih =>
    intro hn
    by_cases h0 : (n + 1) % 8 = 0
    · exact first_held m c ⟨n + 1, hn⟩ h0
    · exact (later_held m c ⟨n + 1, hn⟩ h0).trans ((ih (Nat.lt_of_succ_lt hn)).trans (tabs_head m c ⟨n, Nat.lt_of_succ_lt hn⟩ ⟨n + 1, hn⟩ (by dsimp only; omega)))

/-- What point `t` writes. -/
theorem out_at (t : Fin cfg0.N) (y : S2048x128.Idx) :
    (outsAt0 m c t.val t.isLt).1 y = kout (iblk m c 0 t) (iblk m c 1 t) (iblk m c 2 t) (tabs m c t) (y 0) (y 1) := by
  by_cases h0 : t.val % 8 = 0
  · exact (congrFun (congrArg Prod.fst (Gen.outsAt0_A m c t h0)) y).trans
      (outA_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) y)
  · have hs : (outsAt0 m c (t.val - 1) (Nat.lt_of_le_of_lt (Nat.sub_le _ _) t.isLt)).2 = tabs m c t :=
      (held m c _ _).trans (tabs_head m c _ t (by dsimp only; omega))
    refine (congrFun (congrArg Prod.fst (Gen.outsAt0_B m c t h0)) y).trans ?_
    rw [hs]
    exact outB_at (iblk m c 0 t) (iblk m c 1 t) (iblk m c 2 t) (tabs m c t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 3 t) (iblk m c 4 t) y

end Cert.KernelIdeal.Na

end
-- ==== Proof.Na.Table.lean ====
/- The kernel's bias tables in the terms of the reference: a relative-position bias inside the query's window, minus infinity outside. -/
module

public import proofs.«01_k».proof.Proof.Na.Lit
public import proofs.«01_k».proof.Proof.Na.Blocks

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline

variable (m : (ℓ : Loc nD τ sig) → Buf (Elt Ideal) ℓ) (c : Dev nD)

/-- The first image row of the query's window. -/
abbrev winRow (n : ℕ) : ℕ := min (n / 64 - 4) 24

/-- The first image row of the query's block of keys. -/
abbrev keyRow (n : ℕ) : ℕ := min (4 * (n / 256) - 4) 20

/-- Whether the `u`-th key of query `n`'s block is in the query's window of eight rows and sixteen columns. -/
def InWin (n u : ℕ) : Prop :=
  (winRow n ≤ keyRow n + u / 64 ∧ keyRow n + u / 64 < winRow n + 8) ∧
    (min (n % 64 - 8) 48 ≤ u % 64 ∧ u % 64 < min (n % 64 - 8) 48 + 16)

instance (n u : ℕ) : Decidable (InWin n u) := inferInstanceAs (Decidable (_ ∧ _))

/-- A mask entry. -/
theorem mask_at (g : Fin 4) (x : Fin 64) (l : Fin 128) :
    (V m c main_cst : Vec Ideal S4x64x128 .f32) (ix3 g x l) = (if lets g x l = true then 0 else ⊥ : EReal) := by
  rw [masks_eq]
  have h : Holds (g * 64 + x) l := rows ⟨g * 64 + x, by omega⟩ l
  have hv : (S4x64x128.rowMajor (ix3 g x l)).val = (g * 64 + x) * 128 + l := Shape.rowMajor_val_three _
  have e : lit0 (S4x64x128.rowMajor (ix3 g x l)) = lit0t ((g * 64 + x) * 128 + l) := by
    rw [← hv]
  rw [e, h, show (g * 64 + x.val) / 64 = g by omega, show (g * 64 + x.val) % 64 = x by omega]
  by_cases hl : lets g x l = true
  · rw [if_pos hl, hl]; show Ideal.ofBits FTy.f32 0x00000000#32 = 0
    simp [Ideal.ofBits, Ideal.ieee]
  · rw [if_neg hl, Bool.eq_false_iff.2 hl]; exact negInf

/-- A key row of the twelve is admitted when it is one of the window's eight. -/
theorem ok_row : ∀ r : Fin 32, ∀ k : Fin 12, okRow (min (r.val / 4) 1 + r.val / 28) (r.val % 4) k.val = 1 ↔
    min (r.val - 4) 24 ≤ min (4 * (r.val / 4) - 4) 20 + k.val ∧ min (4 * (r.val / 4) - 4) 20 + k.val < min (r.val - 4) 24 + 8 := by decide +kernel

theorem lets_iff (n : Fin 2048) (u : Fin 768) :
    lets (maskOf (tabIdx n) (n % 256 / 64) (u / 128)) (n % 64) (u % 128) = true ↔ InWin n u := by
  have h := ok_row ⟨n / 64, by omega⟩ ⟨u / 64, by omega⟩
  dsimp only at h
  rw [show n.val / 64 / 4 = n / 256 by omega, show n.val / 64 / 28 = n / 1792 by omega, show n.val / 64 % 4 = n % 256 / 64 by omega] at h
  unfold InWin
  rw [← h]
  have a1 : okRow (tabIdx n) (n % 256 / 64) (2 * (u / 128)) ≤ 1 := Nat.min_le_right _ _
  have a2 : okRow (tabIdx n) (n % 256 / 64) (2 * (u / 128) + 1) ≤ 1 := Nat.min_le_right _ _
  have hb : ∀ a b : ℕ, Nat.blt a b = true ↔ a < b := fun a b => iff_of_eq Nat.blt_eq
  have hx : min (n.val % 64 - 8) 48 = Nat.min (n % 64 - 8) 48 := rfl
  unfold lets maskOf
  rw [hx, show u.val % 128 % 64 = u % 64 by omega]
  generalize Nat.min (n.val % 64 - 8) 48 = w
  have hc : (Nat.ble w (u.val % 64) && Nat.blt (u.val % 64) (w + 16)) = true ↔ (w ≤ u.val % 64 ∧ u.val % 64 < w + 16) := by
    rw [Bool.and_eq_true, Nat.ble_eq, hb]
  rw [Bool.and_eq_true, hc]
  refine and_congr ?_ Iff.rfl
  by_cases hu : u.val % 128 < 64
  · rw [(hb _ _).2 hu, cond_true, Nat.ble_eq, show u.val / 64 = 2 * (u / 128) by omega]
    generalize okRow (tabIdx n) (n % 256 / 64) (2 * (u / 128)) = A at *
    generalize okRow (tabIdx n) (n % 256 / 64) (2 * (u / 128) + 1) = B at *
    omega
  · rw [Bool.eq_false_iff.2 (fun h' => hu ((hb _ _).1 h')), cond_false, Nat.beq_eq, show u.val / 64 = 2 * (u / 128) + 1 by omega]
    generalize okRow (tabIdx n) (n % 256 / 64) (2 * (u / 128)) = A at *
    generalize okRow (tabIdx n) (n % 256 / 64) (2 * (u / 128) + 1) = B at *
    omega

theorem win_bounds {n u : ℕ} (hn : n < 2048) (h : InWin n u) :
    n / 64 ≤ keyRow n + u / 64 + 7 ∧ keyRow n + u / 64 + 7 - n / 64 < 15 ∧ n % 64 ≤ u % 64 + 15 ∧ u % 64 + 15 - n % 64 < 31 := by
  have h1 : winRow n = min (n / 64 - 4) 24 := rfl
  have h2 : keyRow n = min (4 * (n / 256) - 4) 20 := rfl
  unfold InWin at h; omega

/-- The table's entry for query `n` and the `u`-th key of its block. -/
theorem tabs_at (t : Fin cfg0.N) (n : Fin 2048) (u : Fin 768) :
    tabs m c t (ix3 (⟨tabIdx n, tab_lt n.2⟩ : Fin 3) (⟨n % 256, Nat.mod_lt _ (by decide)⟩ : Fin 256) u) =
      if h : InWin n u then
        (m ((c : Thread nD τ).loc main_arg3) : Vec Ideal S12x15x31 .f32)
          (ix3 (⟨t / 8, by have := lt_N t; omega⟩ : Fin 12) (⟨keyRow n + u / 64 + 7 - n / 64, (win_bounds n.2 h).2.1⟩ : Fin 15)
            (⟨u % 64 + 15 - n % 64, (win_bounds n.2 h).2.2.2⟩ : Fin 31))
      else (⊥ : EReal) := by
  have ht := tab_lt n.2
  have hP := pblk_at m c t (⟨19 - 4 * tabIdx n - n % 256 / 64 + 2 * (u / 128), by omega⟩ : Fin 38) (⟨n % 256 % 64, by omega⟩ : Fin 64) (⟨u % 128, by omega⟩ : Fin 128)
  have hM := mask_at m c (⟨maskOf (tabIdx n) (n % 256 / 64) (u / 128), maskOf_lt ..⟩ : Fin 4) (⟨n % 256 % 64, by omega⟩ : Fin 64) (⟨u % 128, by omega⟩ : Fin 128)
  have hL := lets_iff n u
  rw [show n.val % 64 = n % 256 % 64 by omega] at hL
  have hM' := (congrFun (mblk_eq m c t) _).trans hM
  unfold tabs
  refine (congrArg₂ (fun a b : EReal => a + b) hP hM').trans ?_
  dsimp only
  by_cases h : InWin n u
  · rw [if_pos (hL.2 h), dif_pos h, add_zero]
    have hb := win_bounds n.2 h
    have h1 : tabIdx n = min (n.val / 256) 1 + n.val / 1792 := rfl
    have h2 : keyRow n = min (4 * (n.val / 256) - 4) 20 := rfl
    unfold toe
    rw [dif_pos (by omega)]
    exact congrArg₂ (fun a b => (m ((c : Thread nD τ).loc main_arg3) : Vec Ideal S12x15x31 .f32) (ix3 _ a b)) (Fin.ext (by dsimp only; omega)) (Fin.ext (by dsimp only; omega))
  · rw [if_neg (fun h' => h (hL.1 h')), dif_neg h, EReal.add_bot]

end Cert.KernelIdeal.Na

end
-- ==== Proof.Na.Gather.lean ====
/- What the two gathers of the reference read: the keys' (or values') window rows, and the position biases. -/
module

public import proofs.«01_k».proof.Proof.Gen.ReferenceIdeal.Run
public import Idealize.ShloMosaic.Lib.Pointwise

@[expose] public section

set_option maxRecDepth 16384

noncomputable section

namespace Cert.ReferenceIdeal.Na

open Idealize.ShloMosaic Idealize.ShloMosaic.TcCoe Idealize.SL.Sem
open Cert.ReferenceIdeal

/-- A small natural number, kept as a signed 32-bit word, is read back as itself. -/
theorem toNat_word (n : ℕ) (h : n < 1000) : (BitVec.ofNat 32 n).toInt.toNat = n := by
  rw [BitVec.toInt_eq_toNat_of_lt] <;> simp [BitVec.toNat_ofNat] <;> omega

/-- An axis that the start index map does not name starts at 0. -/
theorem start_zero {s si t : Shape} (d : GatherDims s si t) {w : ℕ} (j : t.Idx) (idx : IVec si w) (a : Fin s.rank)
    (ha : a ∉ d.startIndexMap) : d.start j idx a = 0 := dif_neg ha

/-- The dimension numbers of the rows' gather. -/
abbrev dR := gather_S8x32x64x12x128_S32x8x1_S8x32x8x64x12x128_0345_1_n_n_1_2_816412128
/-- The dimension numbers of the biases' gather. -/
abbrev dB := gather_S12x15x31_S32x64x8x64x2_S12x32x64x8x64_0_12_n_n_12_4_1211

/-- Row `i` of the window of image row `r` is image row `w`, where the index table holds `w` there. -/
theorem gather_rows {α : Type} (x : S8x32x64x12x128.Idx → α) (idx : IVec S32x8x1 32) (b : Fin 8) (r : Fin 32) (i : Fin 8) (j : Fin 64)
    (h : Fin 12) (d : Fin 128) (w : Fin 32) (hw : idx (ix3 r i (0 : Fin 1)) = BitVec.ofNat 32 w.val) :
    Host.gather dR x idx (ix6 b r i j h d) = x (ix5 b w j h d) := by
  unfold Host.gather
  refine congrArg x ?_
  have hb : ∀ a, GatherDims.batchCoord dR (ix6 b r i j h d) a = 0 := fun a => GatherDims.batchCoord_eq_zero _ _ _ List.not_mem_nil
  have hsi : GatherDims.siIdx dR (ix6 b r i j h d) ⟨List.idxOf (1 : Fin 5) (GatherDims.startIndexMap dR), by decide⟩ = ix3 r i (0 : Fin 1) := by
    funext a; refine Fin.ext ?_
    match a with
    | ⟨0, _⟩ => rfl
    | ⟨1, _⟩ => rfl
    | ⟨2, _⟩ => rfl
  have h1 : GatherDims.start dR (ix6 b r i j h d) idx (1 : Fin 5) = w.val := by
    unfold GatherDims.start
    rw [dif_pos (show (1 : Fin 5) ∈ GatherDims.startIndexMap dR by decide)]
    rw [hsi, hw, toNat_word _ (show w.val < 1000 by omega)]
    exact Nat.min_eq_left (by have := w.isLt; show w.val ≤ 31; omega)
  have ho : ∀ (a : Fin 5) (e : ℕ), GatherDims.start dR (ix6 b r i j h d) idx a = 0 → GatherDims.offCoord dR (ix6 b r i j h d) a = e →
      (GatherDims.operandIdx dR (ix6 b r i j h d) idx a : ℕ) = e := fun a e h1 h2 => by
    show GatherDims.start dR _ _ _ + GatherDims.batchCoord dR _ _ + GatherDims.offCoord dR _ _ = e
    rw [h1, hb, h2, Nat.zero_add]
  have e0 := ho 0 b.val (start_zero _ _ _ _ (by decide)) (by unfold GatherDims.offCoord; rw [dif_pos (show (0 : Fin 5) ∈ GatherDims.sKept dR by decide)]; rfl)
  have e2 := ho 2 j.val (start_zero _ _ _ _ (by decide)) (by unfold GatherDims.offCoord; rw [dif_pos (show (2 : Fin 5) ∈ GatherDims.sKept dR by decide)]; rfl)
  have e3 := ho 3 h.val (start_zero _ _ _ _ (by decide)) (by unfold GatherDims.offCoord; rw [dif_pos (show (3 : Fin 5) ∈ GatherDims.sKept dR by decide)]; rfl)
  have e4 := ho 4 d.val (start_zero _ _ _ _ (by decide)) (by unfold GatherDims.offCoord; rw [dif_pos (show (4 : Fin 5) ∈ GatherDims.sKept dR by decide)]; rfl)
  have e1 : (GatherDims.operandIdx dR (ix6 b r i j h d) idx (1 : Fin 5) : ℕ) = w.val := by
    show GatherDims.start dR _ _ _ + GatherDims.batchCoord dR _ _ + GatherDims.offCoord dR _ _ = w.val
    rw [h1, hb, GatherDims.offCoord_eq_zero _ _ _ (by decide), Nat.add_zero]
  funext a; refine Fin.ext ?_
  match a with
  | ⟨0, _⟩ => exact e0
  | ⟨1, _⟩ => exact e1
  | ⟨2, _⟩ => exact e2
  | ⟨3, _⟩ => exact e3
  | ⟨4, _⟩ => exact e4

/-- The bias of head `h` at a pair of table indices: the table's entry there. -/
theorem gather_bias {α : Type} (x : S12x15x31.Idx → α) (idx : IVec S32x64x8x64x2 32) (h : Fin 12) (r : Fin 32) (q : Fin 64) (i : Fin 8) (j : Fin 64)
    (u : Fin 15) (v : Fin 31) (hu : idx (ix5 r q i j (0 : Fin 2)) = BitVec.ofNat 32 u.val) (hv : idx (ix5 r q i j (1 : Fin 2)) = BitVec.ofNat 32 v.val) :
    Host.gather dB x idx (ix5 h r q i j) = x (ix3 h u v) := by
  unfold Host.gather
  refine congrArg x ?_
  have hb : ∀ a, GatherDims.batchCoord dB (ix5 h r q i j) a = 0 := fun a => GatherDims.batchCoord_eq_zero _ _ _ List.not_mem_nil
  have hs1 : GatherDims.siIdx dB (ix5 h r q i j) ⟨List.idxOf (1 : Fin 3) (GatherDims.startIndexMap dB), by decide⟩ = ix5 r q i j (0 : Fin 2) := by
    funext a; refine Fin.ext ?_
    match a with
    | ⟨0, _⟩ => rfl
    | ⟨1, _⟩ => rfl
    | ⟨2, _⟩ => rfl
    | ⟨3, _⟩ => rfl
    | ⟨4, _⟩ => rfl
  have hs2 : GatherDims.siIdx dB (ix5 h r q i j) ⟨List.idxOf (2 : Fin 3) (GatherDims.startIndexMap dB), by decide⟩ = ix5 r q i j (1 : Fin 2) := by
    funext a; refine Fin.ext ?_
    match a with
    | ⟨0, _⟩ => rfl
    | ⟨1, _⟩ => rfl
    | ⟨2, _⟩ => rfl
    | ⟨3, _⟩ => rfl
    | ⟨4, _⟩ => rfl
  have h1 : GatherDims.start dB (ix5 h r q i j) idx (1 : Fin 3) = u.val := by
    unfold GatherDims.start
    rw [dif_pos (show (1 : Fin 3) ∈ GatherDims.startIndexMap dB by decide)]
    rw [hs1, hu, toNat_word _ (show u.val < 1000 by omega)]
    exact Nat.min_eq_left (by have := u.isLt; show u.val ≤ 14; omega)
  have h2 : GatherDims.start dB (ix5 h r q i j) idx (2 : Fin 3) = v.val := by
    unfold GatherDims.start
    rw [dif_pos (show (2 : Fin 3) ∈ GatherDims.startIndexMap dB by decide)]
    rw [hs2, hv, toNat_word _ (show v.val < 1000 by omega)]
    exact Nat.min_eq_left (by have := v.isLt; show v.val ≤ 30; omega)
  have ho : ∀ (a : Fin 3) (e f : ℕ), GatherDims.start dB (ix5 h r q i j) idx a = e → GatherDims.offCoord dB (ix5 h r q i j) a = f →
      (GatherDims.operandIdx dB (ix5 h r q i j) idx a : ℕ) = e + f := fun a e f h1 h2 => by
    show GatherDims.start dB _ _ _ + GatherDims.batchCoord dB _ _ + GatherDims.offCoord dB _ _ = e + f
    rw [h1, hb, h2, Nat.add_zero]
  have e0 := ho 0 0 h.val (start_zero _ _ _ _ (by decide)) (by unfold GatherDims.offCoord; rw [dif_pos (show (0 : Fin 3) ∈ GatherDims.sKept dB by decide)]; rfl)
  have e1 := ho 1 u.val 0 h1 (GatherDims.offCoord_eq_zero _ _ _ (by decide))
  have e2 := ho 2 v.val 0 h2 (GatherDims.offCoord_eq_zero _ _ _ (by decide))
  funext a; refine Fin.ext ?_
  match a with
  | ⟨0, _⟩ => exact e0.trans (Nat.zero_add _)
  | ⟨1, _⟩ => exact e1
  | ⟨2, _⟩ => exact e2

end Cert.ReferenceIdeal.Na

end
-- ==== Proof.Na.RefDefs.lean ====
/- The reference's result, split into named steps: the index tables, the scores, the softmax, the weighted values. -/
module

public import proofs.«01_k».proof.Proof.Na.Gather

@[expose] public section

set_option maxRecDepth 16384

noncomputable section

namespace Cert.ReferenceIdeal.Na

open Idealize.ShloMosaic Idealize.ShloMosaic.TcCoe Idealize.SL.Sem
open Cert.ReferenceIdeal Cert.ReferenceIdeal.Gen

/-- The image row that window row `i` of image row `r` is. -/
def winRow : IVec S32x8 32 :=
  (addi (broadcastInDim S32x8 ![0, 1] bcast_S32x1_S32x8_0_1 (broadcastInDim S32x1 ![0] bcast_S32_S32x1_0 (minsi (broadcastInDim S32 ![] bcast_S_S32 (id (constantI S_ 32 24#32))) (maxsi (broadcastInDim S32 ![] bcast_S_S32 (id (constantI S_ 32 0#32))) (subi (iotaInDim S32 32 0) (broadcastInDim S32 ![] bcast_S_S32 (constantI S_ 32 4#32))))))) (broadcastInDim S32x8 ![0, 1] bcast_S1x8_S32x8_0_1 (broadcastInDim S1x8 ![1] bcast_S8_S1x8_1 (iotaInDim S8 32 0))))

/-- The window rows as the gather of the keys and values takes them. -/
def winIdx : IVec S32x8x1 32 :=
  (broadcastInDim S32x8x1 ![0, 1] bcast_S32x8_S32x8x1_0_1 (select (cmpi .slt winRow (broadcastInDim S32x8 ![] bcast_S_S32x8 (constantI S_ 32 0#32))) (addi winRow (broadcastInDim S32x8 ![] bcast_S_S32x8 (constantI S_ 32 32#32))) winRow))

/-- The column of the bias table for query column `q` and key column `j`. -/
def dxIdx : IVec S64x64 32 :=
  (minsi (broadcastInDim S64x64 ![] bcast_S_S64x64 (id (constantI S_ 32 30#32))) (maxsi (broadcastInDim S64x64 ![] bcast_S_S64x64 (id (constantI S_ 32 0#32))) (subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32)))))

/-- Which key columns lie in a query column's window. -/
def colMask : IVec S64x64 1 :=
  (andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32))))))

/-- The row of the bias table for image row `r` and window row `i`. -/
def dyIdx : IVec S32x1x8x1 32 :=
  (select (cmpi .slt (broadcastInDim S32x1x8x1 ![0, 2] bcast_S32x8_S32x1x8x1_0_2 (subi (addi (subi winRow (broadcastInDim S32x8 ![0, 1] bcast_S32x1_S32x8_0_1 (broadcastInDim S32x1 ![0] bcast_S32_S32x1_0 (iotaInDim S32 32 0)))) (broadcastInDim S32x8 ![] bcast_S_S32x8 (constantI S_ 32 8#32))) (broadcastInDim S32x8 ![] bcast_S_S32x8 (constantI S_ 32 1#32)))) (broadcastInDim S32x1x8x1 ![] bcast_S_S32x1x8x1 (constantI S_ 32 0#32))) (addi (broadcastInDim S32x1x8x1 ![0, 2] bcast_S32x8_S32x1x8x1_0_2 (subi (addi (subi winRow (broadcastInDim S32x8 ![0, 1] bcast_S32x1_S32x8_0_1 (broadcastInDim S32x1 ![0] bcast_S32_S32x1_0 (iotaInDim S32 32 0)))) (broadcastInDim S32x8 ![] bcast_S_S32x8 (constantI S_ 32 8#32))) (broadcastInDim S32x8 ![] bcast_S_S32x8 (constantI S_ 32 1#32)))) (broadcastInDim S32x1x8x1 ![] bcast_S_S32x1x8x1 (constantI S_ 32 15#32))) (broadcastInDim S32x1x8x1 ![0, 2] bcast_S32x8_S32x1x8x1_0_2 (subi (addi (subi winRow (broadcastInDim S32x8 ![0, 1] bcast_S32x1_S32x8_0_1 (broadcastInDim S32x1 ![0] bcast_S32_S32x1_0 (iotaInDim S32 32 0)))) (broadcastInDim S32x8 ![] bcast_S_S32x8 (constantI S_ 32 8#32))) (broadcastInDim S32x8 ![] bcast_S_S32x8 (constantI S_ 32 1#32)))))

/-- Both table indices of a bias. -/
def biasIdx : IVec S32x64x8x64x2 32 :=
  (concatenate S32x64x8x64x2 4 [⟨S32x64x8x64x1, (broadcastInDim S32x64x8x64x1 ![0, 1, 2, 3] bcast_S32x64x8x64_S32x64x8x64x1_0_1_2_3 (broadcastInDim S32x64x8x64 ![0, 1, 2, 3] bcast_S32x1x8x1_S32x64x8x64_0_1_2_3 dyIdx))⟩, ⟨S32x64x8x64x1, (broadcastInDim S32x64x8x64x1 ![0, 1, 2, 3] bcast_S32x64x8x64_S32x64x8x64x1_0_1_2_3 (broadcastInDim S32x64x8x64 ![0, 1, 2, 3] bcast_S1x64x1x64_S32x64x8x64_0_1_2_3 (select (cmpi .slt (broadcastInDim S1x64x1x64 ![1, 3] bcast_S64x64_S1x64x1x64_1_3 dxIdx) (broadcastInDim S1x64x1x64 ![] bcast_S_S1x64x1x64 (constantI S_ 32 0#32))) (addi (broadcastInDim S1x64x1x64 ![1, 3] bcast_S64x64_S1x64x1x64_1_3 dxIdx) (broadcastInDim S1x64x1x64 ![] bcast_S_S1x64x1x64 (constantI S_ 32 31#32))) (broadcastInDim S1x64x1x64 ![1, 3] bcast_S64x64_S1x64x1x64_1_3 dxIdx))))⟩] concatenates_S32x64x8x64x1_S32x64x8x64x1_S32x64x8x64x2_d4)

/-- The scores before the column mask. -/
def score (q : FVec Ideal S8x2048x1536 .f32) (k : FVec Ideal S8x2048x1536 .f32) (rpb : FVec Ideal S12x15x31 .f32) : FVec Ideal S8x32x12x64x8x64 .f32 :=
  (addf (Host.dotGeneral dot_S8x32x64x12x128_S8x32x8x64x12x128_S8x32x12x64x8x64_4_5_2_23_013_014 none (shapeCast _ (mulf q (broadcastInDim S8x2048x1536 ![] bcast_S_S8x2048x1536 (constant S_ .f32 0x3DB504F3#32))) shapeCasts_S8x2048x1536_S8x32x64x12x128) (Host.gather gather_S8x32x64x12x128_S32x8x1_S8x32x8x64x12x128_0345_1_n_n_1_2_816412128 (shapeCast _ k shapeCasts_S8x2048x1536_S8x32x64x12x128) winIdx)) (broadcastInDim S8x32x12x64x8x64 ![0, 1, 2, 3, 4, 5] bcast_S1x32x12x64x8x64_S8x32x12x64x8x64_0_1_2_3_4_5 (broadcastInDim S1x32x12x64x8x64 ![1, 2, 3, 4, 5] bcast_S32x12x64x8x64_S1x32x12x64x8x64_1_2_3_4_5 (transpose S32x12x64x8x64 [1, 0, 2, 3, 4] (Host.gather gather_S12x15x31_S32x64x8x64x2_S12x32x64x8x64_0_12_n_n_12_4_1211 rpb biasIdx) transposes_S12x32x64x8x64_S32x12x64x8x64_1_0_2_3_4))))

/-- The scores, those outside the column window at minus infinity; the window's 8 rows of 64 keys on one axis. -/
def masked (q : FVec Ideal S8x2048x1536 .f32) (k : FVec Ideal S8x2048x1536 .f32) (rpb : FVec Ideal S12x15x31 .f32) : FVec Ideal S8x32x12x64x512 .f32 :=
  (shapeCast _ (select (broadcastInDim S8x32x12x64x8x64 ![0, 1, 2, 3, 4, 5] bcast_S1x1x1x64x1x64_S8x32x12x64x8x64_0_1_2_3_4_5 (broadcastInDim S1x1x1x64x1x64 ![3, 5] bcast_S64x64_S1x1x1x64x1x64_3_5 colMask)) (score q k rpb) (broadcastInDim S8x32x12x64x8x64 ![] bcast_S_S8x32x12x64x8x64 (id (constant S_ .f32 0xFF800000#32)))) shapeCasts_S8x32x12x64x8x64_S8x32x12x64x512)

/-- Each row's largest score, as every entry of its row takes it. -/
def rowTop (s : FVec Ideal S8x32x12x64x512 .f32) : FVec Ideal S8x32x12x64 .f32 :=
  (maximumf (broadcastInDim S8x32x12x64 ![] bcast_S_S8x32x12x64 (constant S_ .f32 0xFF800000#32)) (Host.reduce FloatOps.maximumf s (constant S_ .f32 0xFF800000#32) reducesTo_S8x32x12x64x512_S8x32x12x64_d4 h_S_))

/-- The exponentials of the scores less their row's largest. -/
def weights (s : FVec Ideal S8x32x12x64x512 .f32) : FVec Ideal S8x32x12x64x512 .f32 :=
  (Host.exp (subf s (broadcastInDim S8x32x12x64x512 ![0, 1, 2, 3, 4] bcast_S8x32x12x64x1_S8x32x12x64x512_0_1_2_3_4 (broadcastInDim S8x32x12x64x1 ![0, 1, 2, 3] bcast_S8x32x12x64_S8x32x12x64x1_0_1_2_3 (rowTop s)))))

/-- The row-wise softmax of the masked scores. -/
def soft (s : FVec Ideal S8x32x12x64x512 .f32) : FVec Ideal S8x32x12x64x512 .f32 :=
  (Host.divf (weights s) (broadcastInDim S8x32x12x64x512 ![0, 1, 2, 3, 4] bcast_S8x32x12x64x1_S8x32x12x64x512_0_1_2_3_4 (broadcastInDim S8x32x12x64x1 ![0, 1, 2, 3] bcast_S8x32x12x64_S8x32x12x64x1_0_1_2_3 (Host.reduceAdd (weights s) (constant S_ .f32 0x00000000#32) reducesTo_S8x32x12x64x512_S8x32x12x64_d4 h_S_))))

/-- The weighted values, laid out as the result. -/
def mix (v : FVec Ideal S8x2048x1536 .f32) (p : FVec Ideal S8x32x12x64x512 .f32) : FVec Ideal S16384x1536 .bf16 :=
  (truncf .bf16 (shapeCast _ (transpose S8x32x64x12x128 [0, 1, 4, 2, 3] (Host.dotGeneral dot_S8x32x8x64x12x128_S8x32x12x64x8x64_S8x32x12x128x64_23_45_5_3_014_012 none (Host.gather gather_S8x32x64x12x128_S32x8x1_S8x32x8x64x12x128_0345_1_n_n_1_2_816412128 (shapeCast _ v shapeCasts_S8x2048x1536_S8x32x64x12x128) winIdx) (shapeCast _ p shapeCasts_S8x32x12x64x512_S8x32x12x64x8x64)) transposes_S8x32x12x128x64_S8x32x64x12x128_0_1_4_2_3) shapeCasts_S8x32x64x12x128_S16384x1536) bitsLt_bf16_f32)

/-- The whole reference. -/
def attn (q k v : FVec Ideal S8x2048x1536 .f32) (rpb : FVec Ideal S12x15x31 .f32) : FVec Ideal S16384x1536 .bf16 :=
  mix v (soft (masked q k rpb))

/-- What the reference's run leaves in its result is `attn` of its arguments. -/
theorem res_eq (m : (ℓ : Loc nD τ sig) → Buf (Elt Ideal) ℓ) (c : Dev nD) :
    Value.res_main_v104 (F := Ideal) m c = attn (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Na

end
-- ==== Proof.Na.RefIdx.lean ====
/- The reference's index tables and its column mask, entry by entry. -/
module

public import proofs.«01_k».proof.Proof.Na.RefDefs

@[expose] public section

set_option maxRecDepth 16384

noncomputable section

namespace Cert.ReferenceIdeal.Na

open Idealize.ShloMosaic Idealize.ShloMosaic.TcCoe Idealize.SL.Sem
open Cert.ReferenceIdeal Cert.ReferenceIdeal.Gen

/-- The first of the eight image rows that queries of image row `r` attend to. -/
abbrev firstRow (r : ℕ) : ℕ := min (r - 4) 24

/-- Query column `q` attends to key column `j`: one of the sixteen columns around `q`, moved inside the image. -/
abbrev Near (q j : ℕ) : Prop := min (q - 8) 48 ≤ j ∧ j < min (q - 8) 48 + 16

theorem winRow_at (r : Fin 32) (i : Fin 8) : winRow (ix2 r i) = BitVec.ofNat 32 (firstRow r + i) := by
  pointwise [winRow]
  revert r i; decide +kernel

theorem winIdx_at (r : Fin 32) (i : Fin 8) : winIdx (ix3 r i (0 : Fin 1)) = BitVec.ofNat 32 (firstRow r + i) := by
  pointwise [winIdx, winRow_at]
  revert r i; decide +kernel

theorem dxIdx_at (q j : Fin 64) : dxIdx (ix2 q j) = BitVec.ofNat 32 (min (j + 15 - q) 30) := by
  pointwise [dxIdx]
  revert q j; decide +kernel

theorem colMask_at (q j : Fin 64) : colMask (ix2 q j) = if Near q j then 1#1 else 0#1 := by
  pointwise [colMask]
  revert q j; decide +kernel

theorem dyIdx_at (r : Fin 32) (i : Fin 8) : dyIdx (ix4 r (0 : Fin 1) i (0 : Fin 1)) = BitVec.ofNat 32 (firstRow r + i + 7 - r) := by
  pointwise [dyIdx, winRow_at]
  revert r i; decide +kernel

theorem biasIdx_at0 (r : Fin 32) (q : Fin 64) (i : Fin 8) (j : Fin 64) :
    biasIdx (ix5 r q i j (0 : Fin 2)) = BitVec.ofNat 32 (firstRow r + i + 7 - r) := by
  pointwise [biasIdx, dyIdx_at]

theorem biasIdx_at1 (r : Fin 32) (q : Fin 64) (i : Fin 8) (j : Fin 64) :
    biasIdx (ix5 r q i j (1 : Fin 2)) = BitVec.ofNat 32 (min (j + 15 - q) 30) := by
  pointwise [biasIdx, dxIdx_at]
  revert q j; decide +kernel

end Cert.ReferenceIdeal.Na

end
-- ==== Proof.Na.RefVal.lean ====
/- The reference, entry by entry. -/
module

public import proofs.«01_k».proof.Proof.Na.RefIdx

@[expose] public section

set_option maxRecDepth 16384

noncomputable section

namespace Cert.ReferenceIdeal.Na

open Idealize.ShloMosaic Idealize.ShloMosaic.TcCoe Idealize.SL.Sem
open Cert.ReferenceIdeal Cert.ReferenceIdeal.Gen

theorem firstRow_le (r : ℕ) : firstRow r ≤ 24 := Nat.min_le_right _ _

theorem firstRow_off {r i : ℕ} (hr : r < 32) (hi : i < 8) : r ≤ firstRow r + i + 7 ∧ firstRow r + i + 7 - r < 15 := by
  unfold firstRow; omega

theorem bcol_lt (j q : ℕ) : min (j + 15 - q) 30 < 31 := by omega

/-- The gathered rows of the keys and values: window row `i` of image row `r` is image row `firstRow r + i`. -/
theorem rows_at (x : FVec Ideal S8x32x64x12x128 .f32) (b : Fin 8) (r : Fin 32) (i : Fin 8) (j : Fin 64) (h : Fin 12) (d : Fin 128) :
    Host.gather gather_S8x32x64x12x128_S32x8x1_S8x32x8x64x12x128_0345_1_n_n_1_2_816412128 x winIdx (ix6 b r i j h d)
      = x (ix5 b ⟨firstRow r + i, by have := firstRow_le r; omega⟩ j h d) :=
  gather_rows x winIdx b r i j h d ⟨firstRow r + i, by have := firstRow_le r; omega⟩ (winIdx_at r i)

/-- The gathered biases. -/
theorem bias_at (x : FVec Ideal S12x15x31 .f32) (h : Fin 12) (r : Fin 32) (q : Fin 64) (i : Fin 8) (j : Fin 64) :
    Host.gather gather_S12x15x31_S32x64x8x64x2_S12x32x64x8x64_0_12_n_n_12_4_1211 x biasIdx (ix5 h r q i j)
      = x (ix3 h ⟨firstRow r + i + 7 - r, (firstRow_off r.2 i.2).2⟩ ⟨min (j + 15 - q) 30, bcol_lt j q⟩) :=
  gather_bias x biasIdx h r q i j ⟨_, (firstRow_off r.2 i.2).2⟩ ⟨_, bcol_lt j q⟩ (biasIdx_at0 r q i j) (biasIdx_at1 r q i j)

/-- The score of query `(r, x)` with key `(i, j)` of its window, before the column mask. -/
theorem score_at (q k : FVec Ideal S8x2048x1536 .f32) (rpb : FVec Ideal S12x15x31 .f32) (b : Fin 8) (r : Fin 32) (h : Fin 12) (x : Fin 64) (i : Fin 8) (j : Fin 64) :
    score q k rpb (ix6 b r h x i j)
      = (∑ c : Fin 128, q (ix3 b ⟨r * 64 + x, by omega⟩ ⟨h * 128 + c, by omega⟩) * Ideal.ofBits FTy.f32 0x3DB504F3#32
            * k (ix3 b ⟨(firstRow r + i) * 64 + j, by have := firstRow_le r; omega⟩ ⟨h * 128 + c, by omega⟩))
          + rpb (ix3 h ⟨firstRow r + i + 7 - r, (firstRow_off r.2 i.2).2⟩ ⟨min (j + 15 - x) 30, bcol_lt j x⟩) := by
  pointwise [score]
  simp only [bias_at, rows_at]
  congr 1
  refine Finset.sum_congr rfl fun c _ => ?_
  congr 1
  pointwise

theorem reduces_top : Shape.Reduces S8x32x12x64x512 [4] S8x32x12x64 := by decide

/-- The word of minus infinity. -/
theorem negInf : (FloatOps.ofBits (F := Ideal) FTy.f32 0xFF800000#32) = (⊥ : EReal) := by
  rfl

/-- A row's largest entry, as the fold of `max` over the row: at any shapes. -/
theorem hostMax {s t u : Shape} {a : Fin s.rank} (x : FVec Ideal s .f32) (init : FVec Ideal u .f32) (h' : s.ReducesTo [a] t)
    (h : s.Reduces [a] t) (hu : 0 < u.numel) (j : t.Idx) (n : ℕ) (hn : s.size a = n) (g : Fin n → EReal) (hb : ∀ i, init i = (⊥ : EReal))
    (hg : ∀ k : Fin (s.size a), x (h.lift j k) = g (k.cast hn)) :
    Host.reduce (FloatOps.maximumf (F := Ideal) (φ := .f32)) x init h' hu j = Finset.fold max ⊥ g Finset.univ := by
  rw [Host.reduce_eq_fold_single _ x init h' h hu j, hb]
  subst hn
  exact congrArg (fun f => Finset.fold max (⊥ : EReal) f Finset.univ) (funext fun k => hg k)

theorem rowTop_def (s : FVec Ideal S8x32x12x64x512 .f32) (j : S8x32x12x64.Idx) :
    rowTop s j = max (FloatOps.ofBits (F := Ideal) FTy.f32 0xFF800000#32)
      (Host.reduce (FloatOps.maximumf (F := Ideal)) s (constant S_ .f32 0xFF800000#32) reducesTo_S8x32x12x64x512_S8x32x12x64_d4 h_S_ j) := by
  unfold rowTop
  exact maximumf_apply ..

theorem rowTop_at (s : FVec Ideal S8x32x12x64x512 .f32) (b : Fin 8) (r : Fin 32) (h : Fin 12) (x : Fin 64) :
    rowTop s (ix4 b r h x) = Finset.fold max ⊥ (fun t : Fin 512 => s (ix5 b r h x t)) Finset.univ := by
  rw [rowTop_def, hostMax s (constant S_ .f32 0xFF800000#32) reducesTo_S8x32x12x64x512_S8x32x12x64_d4 reduces_top h_S_ (ix4 b r h x) 512 rfl (fun t : Fin 512 => s (ix5 b r h x t))
    (fun _ => negInf) (fun k => congrArg s (funext fun a => by fin_cases a <;> rfl)), negInf]
  exact max_eq_right bot_le

theorem weights_at (s : FVec Ideal S8x32x12x64x512 .f32) (b : Fin 8) (r : Fin 32) (h : Fin 12) (x : Fin 64) (t : Fin 512) :
    weights s (ix5 b r h x t) = Ideal.exp (s (ix5 b r h x t) - rowTop s (ix4 b r h x)) := by
  pointwise [weights]

theorem soft_at (s : FVec Ideal S8x32x12x64x512 .f32) (b : Fin 8) (r : Fin 32) (h : Fin 12) (x : Fin 64) (t : Fin 512) :
    soft s (ix5 b r h x t) = Ideal.div (weights s (ix5 b r h x t)) (∑ u : Fin 512, weights s (ix5 b r h x u)) := by
  pointwise [soft]

/-- The masked score: minus infinity outside the query's columns. -/
theorem masked_at (q k : FVec Ideal S8x2048x1536 .f32) (rpb : FVec Ideal S12x15x31 .f32) (b : Fin 8) (r : Fin 32) (h : Fin 12) (x : Fin 64) (t : Fin 512) :
    masked q k rpb (ix5 b r h x t)
      = if Near x (t % 64) then score q k rpb (ix6 b r h x ⟨t / 64, by omega⟩ ⟨t % 64, by omega⟩) else ⊥ := by
  pointwise [masked]
  rw [colMask_at]
  by_cases hn : Near (x : ℕ) ((t : ℕ) % 64)
  · rw [if_pos hn, if_pos hn]; rfl
  · rw [if_neg hn, if_neg hn]
    exact negInf

theorem mix_at (v : FVec Ideal S8x2048x1536 .f32) (p : FVec Ideal S8x32x12x64x512 .f32) (n : Fin 16384) (e : Fin 1536) :
    mix v p (ix2 n e)
      = ∑ i : Fin 8, ∑ j : Fin 64,
          v (ix3 ⟨n / 2048, by omega⟩ ⟨(firstRow (n / 64 % 32) + i) * 64 + j, by have := firstRow_le (n / 64 % 32); omega⟩ e)
            * p (ix5 ⟨n / 2048, by omega⟩ ⟨n / 64 % 32, by omega⟩ ⟨e / 128, by omega⟩ ⟨n % 64, by omega⟩ ⟨i * 64 + j, by omega⟩) := by
  pointwise [mix]
  refine Finset.sum_congr rfl fun i _ => Finset.sum_congr rfl fun j _ => ?_
  rw [rows_at]
  congr 1
  pointwise

end Cert.ReferenceIdeal.Na

end
-- ==== Proof.Na.Math.lean ====
/- A softmax over a band of the keys is the softmax over all of them with minus infinity outside the band. -/
module

public import Idealize.ShloMosaic.PureOps.Ideal
public import Mathlib.Data.EReal.Operations
public import Mathlib.Data.EReal.Inv
public import Mathlib.Algebra.BigOperators.Fin

@[expose] public section

noncomputable section

namespace Cert.Na

open Idealize.ShloMosaic

/-- A nonnegative real factor goes inside a sum. -/
theorem sum_mul_real {ι : Type} (s : Finset ι) (a : ι → EReal) (c : ℝ) (hc : 0 ≤ c) :
    (∑ t ∈ s, a t) * (c : EReal) = ∑ t ∈ s, a t * (c : EReal) := by
  classical
  induction s using Finset.induction_on with
  | empty => simp
  | insert i s hi ih =>
    rw [Finset.sum_insert hi, Finset.sum_insert hi, ← ih]
    exact EReal.right_distrib_of_nonneg_of_ne_top (by exact_mod_cast hc) (EReal.coe_ne_top c) _ _

/-- The maximum of the band is the maximum of all. -/
theorem fold_band (f : Fin 512 → EReal) (g : Fin 768 → EReal) (off : ℕ) (ho : off ≤ 256)
    (hin : ∀ t : Fin 512, g ⟨off + t, by omega⟩ = f t) (hout : ∀ u : Fin 768, (u.val < off ∨ off + 512 ≤ u.val) → g u = ⊥) :
    Finset.fold max ⊥ g Finset.univ = Finset.fold max ⊥ f Finset.univ := by
  show Finset.univ.sup g = Finset.univ.sup f
  apply le_antisymm
  · refine Finset.sup_le fun u _ => ?_
    by_cases hu : u.val < off ∨ off + 512 ≤ u.val
    · rw [hout u hu]; exact bot_le
    · have h := hin ⟨u.val - off, by omega⟩
      rw [show (⟨off + (⟨u.val - off, by omega⟩ : Fin 512).val, by dsimp only; omega⟩ : Fin 768) = u from Fin.ext (by dsimp only; omega)] at h
      rw [h]
      exact Finset.le_sup (f := f) (Finset.mem_univ _)
  · refine Finset.sup_le fun t _ => ?_
    rw [← hin t]
    exact Finset.le_sup (f := g) (Finset.mem_univ _)

/-- A sum that is zero outside the band is the band's. -/
theorem sum_band (F : Fin 512 → EReal) (G : Fin 768 → EReal) (off : ℕ) (ho : off ≤ 256)
    (hin : ∀ t : Fin 512, G ⟨off + t, by omega⟩ = F t) (hout : ∀ u : Fin 768, (u.val < off ∨ off + 512 ≤ u.val) → G u = 0) :
    ∑ u, G u = ∑ t, F t := by
  refine (Fintype.sum_of_injective (fun t : Fin 512 => (⟨off + t, by omega⟩ : Fin 768)) ?_ F G ?_ fun t => (hin t).symm).symm
  · intro a b h
    have := congrArg Fin.val h
    exact Fin.ext (by dsimp only at this; omega)
  · intro u hu
    refine hout u ?_
    by_contra hc
    exact hu ⟨⟨u.val - off, by omega⟩, Fin.ext (by dsimp only; omega)⟩

/-- A sum over the band's rows and columns. -/
theorem sum_rows (F : Fin 512 → EReal) : ∑ t, F t = ∑ i : Fin 8, ∑ j : Fin 64, F ⟨i * 64 + j, by omega⟩ := by
  rw [← Fintype.sum_prod_type']
  refine (Fintype.sum_equiv (finProdFinEquiv (m := 8) (n := 64)) _ _ fun p => ?_).symm
  exact congrArg F (Fin.ext (by simp [finProdFinEquiv]; omega))

theorem core (f : Fin 512 → EReal) (g : Fin 768 → EReal) (off : ℕ) (ho : off ≤ 256)
    (hin : ∀ t : Fin 512, g ⟨off + t, by omega⟩ = f t) (hout : ∀ u : Fin 768, (u.val < off ∨ off + 512 ≤ u.val) → g u = ⊥)
    (htop : ∀ t, f t ≠ ⊤) (t0 : Fin 512) (hbot : f t0 ≠ ⊥) (v : Fin 768 → EReal) :
    Ideal.div (∑ u, Ideal.exp (g u - Finset.fold max ⊥ g Finset.univ) * v u) (∑ u, Ideal.exp (g u - Finset.fold max ⊥ g Finset.univ))
      = ∑ i : Fin 8, ∑ j : Fin 64, v ⟨off + (i * 64 + j), by omega⟩ *
          Ideal.div (Ideal.exp (f ⟨i * 64 + j, by omega⟩ - Finset.fold max ⊥ f Finset.univ)) (∑ t, Ideal.exp (f t - Finset.fold max ⊥ f Finset.univ)) := by
  rw [fold_band f g off ho hin hout]
  have hM1 : Finset.fold max ⊥ f Finset.univ ≠ ⊤ := by
    show Finset.univ.sup f ≠ ⊤
    exact ((Finset.sup_lt_iff bot_lt_top).2 fun t _ => lt_top_iff_ne_top.2 (htop t)).ne
  have hM2 : Finset.fold max ⊥ f Finset.univ ≠ ⊥ := by
    show Finset.univ.sup f ≠ ⊥
    exact fun h => hbot (le_bot_iff.1 (h ▸ Finset.le_sup (f := f) (Finset.mem_univ t0)))
  generalize Finset.fold max ⊥ f Finset.univ = M at *
  lift M to ℝ using ⟨hM1, hM2⟩
  have hz : Ideal.exp (⊥ - (M : EReal)) = 0 := by
    rw [EReal.bot_sub]; rfl
  have hr : ∀ t, ∃ r : ℝ, 0 ≤ r ∧ Ideal.exp (f t - (M : EReal)) = (r : EReal) ∧ (f t ≠ ⊥ → 0 < r) := by
    intro t
    by_cases hb : f t = ⊥
    · exact ⟨0, le_refl _, by rw [hb, hz]; rfl, fun h => absurd hb h⟩
    · have h1 := htop t
      generalize f t = x at *
      lift x to ℝ using ⟨h1, hb⟩
      exact ⟨Real.exp (x - M), (Real.exp_pos _).le, by rw [← EReal.coe_sub]; rfl, fun _ => Real.exp_pos _⟩
  choose p hp0 hpe hpp using hr
  rw [sum_band (fun t => Ideal.exp (f t - (M : EReal))) (fun u => Ideal.exp (g u - (M : EReal))) off ho (fun t => by rw [hin]) (fun u hu => by rw [hout u hu, hz])]
  rw [sum_band (fun t => Ideal.exp (f t - (M : EReal)) * v ⟨off + t, by omega⟩) (fun u => Ideal.exp (g u - (M : EReal)) * v u) off ho (fun t => by rw [hin]) (fun u hu => by rw [hout u hu, hz, zero_mul])]
  simp only [hpe]
  have hL : (∑ t, (p t : EReal)) = ((∑ t, p t : ℝ) : EReal) := (map_sum (⟨⟨Real.toEReal, rfl⟩, EReal.coe_add⟩ : ℝ →+ EReal) p Finset.univ).symm
  have hpos : 0 < ∑ t, p t := Finset.sum_pos' (fun t _ => hp0 t) ⟨t0, Finset.mem_univ _, hpp t0 hbot⟩
  rw [hL]
  simp only [Ideal.div_coe hpos.ne']
  rw [sum_mul_real _ _ _ (by positivity), sum_rows]
  refine Finset.sum_congr rfl fun i _ => Finset.sum_congr rfl fun j _ => ?_
  rw [mul_comm (p _ : EReal) (v _), mul_assoc]

end Cert.Na

end
-- ==== Proof.Na.RefAt.lean ====
/- The reference at an output entry named by its image, row, column, head and feature; its scores are finite. -/
module

public import proofs.«01_k».proof.Proof.Na.RefVal
public import proofs.«01_k».proof.Proof.Na.Math

@[expose] public section

set_option maxRecDepth 16384

noncomputable section

namespace Cert.ReferenceIdeal.Na

open Idealize.ShloMosaic Idealize.ShloMosaic.TcCoe Idealize.SL.Sem
open Cert.ReferenceIdeal Cert.ReferenceIdeal.Gen

variable (q k v : FVec Ideal S8x2048x1536 .f32) (rpb : FVec Ideal S12x15x31 .f32)

/-- The masked scores of one query with the 512 keys of its eight rows. -/
def scores (b : Fin 8) (r : Fin 32) (h : Fin 12) (x : Fin 64) : Fin 512 → EReal :=
  fun t => masked q k rpb (ix5 b r h x t)

theorem attn_at (b : Fin 8) (r : Fin 32) (h : Fin 12) (x : Fin 64) (d : Fin 128) (n : Fin 16384) (e : Fin 1536)
    (hn : n.val = b * 2048 + r * 64 + x) (he : e.val = h * 128 + d) :
    attn q k v rpb (ix2 n e) =
      ∑ i : Fin 8, ∑ j : Fin 64,
        v (ix3 b (⟨(firstRow r + i) * 64 + j, by have := firstRow_le r; omega⟩ : Fin 2048) e) *
          Ideal.div (Ideal.exp (scores q k rpb b r h x ⟨i * 64 + j, by omega⟩ - Finset.fold max ⊥ (scores q k rpb b r h x) Finset.univ))
            (∑ t : Fin 512, Ideal.exp (scores q k rpb b r h x t - Finset.fold max ⊥ (scores q k rpb b r h x) Finset.univ)) := by
  unfold attn
  rw [mix_at]
  refine Finset.sum_congr rfl fun i _ => Finset.sum_congr rfl fun j _ => ?_
  have e1 : n.val / 64 % 32 = r := by omega
  have eb : (⟨n.val / 2048, by omega⟩ : Fin 8) = b := Fin.ext (by dsimp only; omega)
  have er : (⟨n.val / 64 % 32, by omega⟩ : Fin 32) = r := Fin.ext e1
  have eh : (⟨e.val / 128, by omega⟩ : Fin 12) = h := Fin.ext (by dsimp only; omega)
  have ex : (⟨n.val % 64, by omega⟩ : Fin 64) = x := Fin.ext (by dsimp only; omega)
  rw [eb, er, eh, ex, soft_at]
  simp only [weights_at, rowTop_at, e1]
  rfl

/-- A real number, as an extended real. -/
def IsReal (x : EReal) : Prop := ∃ r : ℝ, x = (r : EReal)

theorem IsReal.of {x : EReal} (h : x ≠ ⊤ ∧ x ≠ ⊥) : IsReal x := by
  obtain ⟨h1, h2⟩ := h
  lift x to ℝ using ⟨h1, h2⟩
  exact ⟨x, rfl⟩
theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih => rw [Finset.sum_insert hi]; exact (h i).add ih

/-- The scale is a nonnegative real. -/
theorem scale_real : ∃ r : ℝ, 0 ≤ r ∧ Ideal.ofBits FTy.f32 0x3DB504F3#32 = (r : EReal) := by
  refine ⟨11863283 * (2 : ℝ) ^ (-27 : ℤ), by positivity, ?_⟩
  simp [Ideal.ofBits, Ideal.ieee]

theorem score_real (hq : ∀ i, IsReal (q i)) (hk : ∀ i, IsReal (k i)) (hr : ∀ i, IsReal (rpb i))
    (b : Fin 8) (r : Fin 32) (h : Fin 12) (x : Fin 64) (i : Fin 8) (j : Fin 64) : IsReal (score q k rpb (ix6 b r h x i j)) := by
  obtain ⟨s, _, hs⟩ := scale_real
  rw [score_at]
  exact (IsReal.sum _ _ fun c => ((hq _).mul ⟨s, hs⟩).mul (hk _)).add (hr _)

theorem scores_ne_top (hq : ∀ i, IsReal (q i)) (hk : ∀ i, IsReal (k i)) (hr : ∀ i, IsReal (rpb i))
    (b : Fin 8) (r : Fin 32) (h : Fin 12) (x : Fin 64) (t : Fin 512) : scores q k rpb b r h x t ≠ ⊤ := by
  unfold scores
  rw [masked_at]
  split
  · obtain ⟨s, hs⟩ := score_real q k rpb hq hk hr b r h x ⟨t / 64, by omega⟩ ⟨t % 64, by omega⟩
    rw [hs]; exact EReal.coe_ne_top s
  · exact bot_ne_top

/-- A query attends to itself, so that one of its scores is a real. -/
theorem scores_ne_bot (hq : ∀ i, IsReal (q i)) (hk : ∀ i, IsReal (k i)) (hr : ∀ i, IsReal (rpb i))
    (b : Fin 8) (r : Fin 32) (h : Fin 12) (x : Fin 64) : scores q k rpb b r h x ⟨x, by omega⟩ ≠ ⊥ := by
  unfold scores
  rw [masked_at, if_pos (by dsimp only; omega)]
  obtain ⟨s, hs⟩ := score_real q k rpb hq hk hr b r h x ⟨x / 64, by omega⟩ ⟨x % 64, by omega⟩
  rw [hs]; exact EReal.coe_ne_bot s

end Cert.ReferenceIdeal.Na

end
-- ==== Proof.Na.Equation.lean ====
/- What a grid point writes is the reference's result at the same entries. -/
module

public import proofs.«01_k».proof.Proof.Na.Table
public import proofs.«01_k».proof.Proof.Na.RefAt

@[expose] public section

set_option maxRecDepth 16384

noncomputable section

namespace Cert.KernelIdeal.Na

open Idealize.ShloMosaic Idealize.ShloMosaic.TcCoe Idealize.SL.Sem
open Cert.KernelIdeal Cert.KernelIdeal.Gen Idealize.ShloMosaic.Pipeline
open Cert.ReferenceIdeal.Na (attn attn_at scores IsReal scale_real score_at masked_at firstRow firstRow_le scores_ne_top scores_ne_bot)

variable (m : (ℓ : Loc nD τ sig) → Buf (Elt Ideal) ℓ) (c : Dev nD)

/-- The four arguments. -/
abbrev argQ : FVec Ideal S8x2048x1536 .f32 := m ((c : Thread nD τ).loc main_arg0)
abbrev argK : FVec Ideal S8x2048x1536 .f32 := m ((c : Thread nD τ).loc main_arg1)
abbrev argV : FVec Ideal S8x2048x1536 .f32 := m ((c : Thread nD τ).loc main_arg2)
abbrev argB : FVec Ideal S12x15x31 .f32 := m ((c : Thread nD τ).loc main_arg3)

/-- Where the query's window starts among its block's keys. -/
def off (n : ℕ) : ℕ := 64 * (winRow n - keyRow n)

theorem off_facts {n : ℕ} (hn : n < 2048) : off n ≤ 256 ∧ off n + keyStart n = 64 * winRow n := by
  simp only [off, keyStart, winRow, keyRow]
  omega

/-- Inside the window the kernel's score is the reference's masked score. -/
theorem kscore_in (t : Fin cfg0.N) (n : Fin 2048) (w : Fin 512) (u : Fin 768) (hu : u.val = off n + w) :
    kscore (iblk m c 0 t) (iblk m c 1 t) (tabs m c t) n u =
      scores (argQ m c) (argK m c) (argB m c) (⟨t % 8, by omega⟩ : Fin 8) (⟨n / 64, by omega⟩ : Fin 32)
        (⟨t / 8, by have := lt_N t; omega⟩ : Fin 12) (⟨n % 64, by omega⟩ : Fin 64) w := by
  have ht := lt_N t
  have ho := off_facts n.2
  have hu64 : u.val / 64 = winRow n - keyRow n + w / 64 := by rw [hu]; unfold off; omega
  have hum : u.val % 64 = w % 64 := by rw [hu]; unfold off; omega
  have hle : keyRow n ≤ winRow n := by simp only [winRow, keyRow]; omega
  have hw : InWin n u ↔ Cert.ReferenceIdeal.Na.Near (n % 64) (w % 64) := by
    unfold InWin
    rw [hu64, hum]
    simp only [Cert.ReferenceIdeal.Na.Near]
    constructor
    · exact fun h => h.2
    · exact fun h => ⟨by omega, h⟩
  unfold kscore scores
  rw [tabs_at, masked_at]
  by_cases h : InWin n u
  · rw [dif_pos h, if_pos (hw.1 h), score_at]
    obtain ⟨s, hs0, hs⟩ := scale_real
    have hb := win_bounds n.2 h
    have hn := hw.1 h
    simp only [Cert.ReferenceIdeal.Na.Near] at hn
    rw [hs]
    refine congrArg₂ (fun a b : EReal => a + b) ?_ ?_
    · refine (Cert.Na.sum_mul_real _ _ s hs0).trans (Finset.sum_congr rfl fun d _ => ?_)
      have e1 := qblk_at m c t n d
      have e2 := kblk_at m c t ⟨keyStart n + u, key_lt u.2⟩ d
      refine (congrArg (fun z : EReal => z * (s : EReal)) (congrArg₂ (fun a b : EReal => a * b) e1 e2)).trans ?_
      rw [mul_right_comm]
      refine congrArg₂ (fun a b : EReal => a * (s : EReal) * b) ?_ ?_
      · exact congrArg (fun a => argQ m c (ix3 _ a _)) (Fin.ext (by dsimp only; omega))
      · refine congrArg (fun a => argK m c (ix3 _ a _)) (Fin.ext ?_)
        show keyStart n + u.val = (winRow n + w.val / 64) * 64 + w.val % 64
        omega
    · refine congrArg₂ (fun a b => argB m c (ix3 _ a b)) (Fin.ext ?_) (Fin.ext ?_)
      · show keyRow n + u.val / 64 + 7 - n.val / 64 = winRow n + w.val / 64 + 7 - n.val / 64
        omega
      · show u.val % 64 + 15 - n.val % 64 = min (w.val % 64 + 15 - n.val % 64) 30
        omega
  · rw [dif_neg h, if_neg (fun h' => h (hw.2 h')), EReal.add_bot]

/-- Outside the window's rows the kernel's score is minus infinity. -/
theorem kscore_out (t : Fin cfg0.N) (n : Fin 2048) (u : Fin 768) (hu : u.val < off n ∨ off n + 512 ≤ u.val) :
    kscore (iblk m c 0 t) (iblk m c 1 t) (tabs m c t) n u = ⊥ := by
  have h : ¬ InWin n u := by
    intro h
    have h1 := h.1
    have hle : keyRow n ≤ winRow n := by simp only [winRow, keyRow]; omega
    unfold off at hu
    omega
  unfold kscore
  rw [tabs_at, dif_neg h, EReal.add_bot]

/-- The point's result is the reference's. -/
theorem kout_eq (hq : ∀ i, IsReal (argQ m c i)) (hk : ∀ i, IsReal (argK m c i)) (hr : ∀ i, IsReal (argB m c i))
    (t : Fin cfg0.N) (n : Fin 2048) (d : Fin 128) (N : Fin 16384) (e : Fin 1536) (hN : N.val = t % 8 * 2048 + n) (he : e.val = t / 8 * 128 + d) :
    kout (iblk m c 0 t) (iblk m c 1 t) (iblk m c 2 t) (tabs m c t) n d = attn (argQ m c) (argK m c) (argV m c) (argB m c) (ix2 N e) := by
  have ht := lt_N t
  have ho := off_facts n.2
  rw [attn_at _ _ _ _ (⟨t % 8, by omega⟩ : Fin 8) (⟨n / 64, by omega⟩ : Fin 32) (⟨t / 8, by omega⟩ : Fin 12) (⟨n % 64, by omega⟩ : Fin 64) d N e
    (by dsimp only; omega) (by dsimp only; omega)]
  unfold kout kweight
  refine (Cert.Na.core (scores (argQ m c) (argK m c) (argB m c) (⟨t % 8, by omega⟩ : Fin 8) (⟨n / 64, by omega⟩ : Fin 32)
        (⟨t / 8, by omega⟩ : Fin 12) (⟨n % 64, by omega⟩ : Fin 64))
    (fun u => kscore (iblk m c 0 t) (iblk m c 1 t) (tabs m c t) n u) (off n) ho.1
    (fun w => kscore_in m c t n w _ rfl) (fun u hu => kscore_out m c t n u hu)
    (scores_ne_top _ _ _ hq hk hr _ _ _ _) _ (scores_ne_bot _ _ _ hq hk hr _ _ _ _)
    (fun u => (iblk m c 2 t : Vec Ideal S2048x128 .bf16) (ix2 ⟨keyStart n + u, key_lt u.2⟩ d))).trans ?_
  refine Finset.sum_congr rfl fun i _ => Finset.sum_congr rfl fun j _ => ?_
  refine congrArg (fun z : EReal => z * _) ?_
  refine (vblk_at m c t _ d).trans ?_
  refine congrArg₂ (fun a b => argV m c (ix3 _ a b)) (Fin.ext ?_) (Fin.ext ?_)
  · show keyStart n + (off n + (i.val * 64 + j.val)) = (winRow n + i.val) * 64 + j.val
    omega
  · show t.val / 8 * 128 + d.val = e.val
    omega

/-- The array that the kernel leaves is the reference's. -/
theorem array_eq (hq : ∀ i, IsReal (argQ m c i)) (hk : ∀ i, IsReal (argK m c i)) (hr : ∀ i, IsReal (argB m c i)) :
    (dats m 0 c).arrAt 5 cfg0.N = attn (argQ m c) (argK m c) (argV m c) (argB m c) := by
  refine (dats m 0 c).arrAt_eq_of_covers 5 _ (by decide +kernel) fun t hf y => ?_
  show (dats m 0 c).after 5 t ((cfg0.win 5).xinj (cfg0.grid.coords t) y) = _
  rw [after0_5]
  have h := idx t
  have e0 : win0_5.index t 0 = t.val % 8 := by rw [h.2.2.2.2.2.2]; rfl
  have e1 : win0_5.index t 1 = t.val / 8 := by rw [h.2.2.2.2.2.2]; rfl
  have hy0 : (y 0).val < 2048 := (y 0).isLt
  have hy1 : (y 1).val < 128 := (y 1).isLt
  refine (out_at m c t y).trans ?_
  refine (kout_eq m c hq hk hr t ⟨y 0, hy0⟩ ⟨y 1, hy1⟩ ⟨t % 8 * 2048 + (y 0).val, by omega⟩ ⟨t / 8 * 128 + (y 1).val, by have := lt_N t; omega⟩ rfl rfl).trans ?_
  refine congrArg (attn (argQ m c) (argK m c) (argV m c) (argB m c)) (funext fun a => Fin.ext ?_)
  fin_cases a
  · show t.val % 8 * 2048 + (y 0).val = win0_5.index t 0 * 2048 + 1 * (y 0).val
    omega
  · show t.val / 8 * 128 + (y 1).val = win0_5.index t 1 * 128 + 1 * (y 1).val
    omega

end Cert.KernelIdeal.Na

end
-- ==== Proof.Na.Pre.lean ====
/- What the precondition gives: the queries, the keys and the bias are finite. -/
module

public import proofs.«01_k».proof.Pre_finite
public import Idealize.ShloMosaic.PureOps.Ideal
public import Idealize.ShloMosaic.Lib.ReduceAll
public import Idealize.ShloMosaic.Lib.ValueIdx

@[expose] public section

noncomputable section

namespace Cert.Pre_finite

open Idealize.ShloMosaic

theorem facts : Facts where
  bcast_S_S8x2048x1536 := by decide
  reducesTo_S8x2048x1536_S_d0_1_2 := by decide
  h_S_ := by decide
  bcast_S_S12x15x31 := by decide
  reducesTo_S12x15x31_S_d0_1_2 := by decide

theorem top_word : (FloatOps.ofBits (F := Ideal) FTy.f32 0x7F800000#32) = (⊤ : EReal) := rfl

/-- An element whose magnitude is below plus infinity is a real. -/
theorem real_of_lt {x : EReal} (h : max x (-x) < ⊤) : x ≠ ⊤ ∧ x ≠ ⊥ := by
  constructor
  · rintro rfl; simp at h
  · rintro rfl; simp at h

theorem real_of_word {x : EReal} (h : Ideal.cmp .olt (max x (-x)) (⊤ : EReal) = 1#1) : x ≠ ⊤ ∧ x ≠ ⊥ := by
  refine real_of_lt ?_
  by_contra hc
  simp [Ideal.cmp, hc] at h

theorem finite [Facts] (q k v : FVec Ideal S8x2048x1536 .f32) (b : FVec Ideal S12x15x31 .f32)
    (h : fn (F := Ideal) q k v b = fun _ => 1#1) :
    (∀ i, (q i : EReal) ≠ ⊤ ∧ (q i : EReal) ≠ ⊥) ∧ (∀ i, (k i : EReal) ≠ ⊤ ∧ (k i : EReal) ≠ ⊥) ∧ (∀ i, (b i : EReal) ≠ ⊤ ∧ (b i : EReal) ≠ ⊥) := by
  have hs : Subsingleton S_.Idx := ⟨fun a b => funext fun x => x.elim0⟩
  have h0 := congrFun h (fun x => x.elim0)
  dsimp only [fn] at h0
  have h1 := IntOp.andi_eq_one.1 h0
  have h2 := IntOp.andi_eq_one.1 h1.1
  exact ⟨fun i => real_of_word (Host.reduce_andi_all _ _ _ _ _ h2.1 i), fun i => real_of_word (Host.reduce_andi_all _ _ _ _ _ h2.2 i),
    fun i => real_of_word (Host.reduce_andi_all _ _ _ _ _ h1.2 i)⟩

end Cert.Pre_finite

end
-- ==== Proof.lean ====
/- The claims about the calls of the layer: of every call both programs of the kernel and the reference run to the end, keep their
   arguments and leave every semaphore at zero; over the extended reals the kernel's result is the reference's, of the neighbourhood
   attention for finite queries, keys and biases, of the other calls for all arguments. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Ffn.Equation
public import proofs.«01_k».proof.Proof.Gen.Kernel3.Frame
public import proofs.«01_k».proof.Proof.Gen.Kernel3Ideal.Value
public import proofs.«01_k».proof.Proof.Gen.Reference3Ideal.Run
public import proofs.«01_k».proof.Proof.Ffn.OutEquation
public import proofs.«01_k».proof.Proof.Gen.Kernel4.Frame
public import proofs.«01_k».proof.Proof.Gen.Kernel4Ideal.Value
public import proofs.«01_k».proof.Proof.Gen.Reference4Ideal.Run
public import proofs.«01_k».proof.Proof.Norm.Equation
public import proofs.«01_k».proof.Proof.Gen.Kernel5.Frame
public import proofs.«01_k».proof.Proof.Gen.Kernel5Ideal.Value
public import proofs.«01_k».proof.Proof.Gen.Reference5Ideal.Run
public import proofs.«01_k».proof.Proof.Gates.Equation
public import proofs.«01_k».proof.Proof.Gen.Kernel6.Frame
public import proofs.«01_k».proof.Proof.Gen.Kernel6Ideal.Value
public import proofs.«01_k».proof.Proof.Gen.Reference6Ideal.Run
public import proofs.«01_k».proof.Proof.Merge.Equation
public import proofs.«01_k».proof.Proof.Gen.Kernel7.Frame
public import proofs.«01_k».proof.Proof.Gen.Kernel7Ideal.Value
public import proofs.«01_k».proof.Proof.Gen.Reference7Ideal.Run
public import proofs.«01_k».proof.Proof.MixOut.Equation
public import proofs.«01_k».proof.Proof.Gen.Kernel8.Frame
public import proofs.«01_k».proof.Proof.Gen.Kernel8Ideal.Value
public import proofs.«01_k».proof.Proof.Gen.Reference8Ideal.Run
public import proofs.«01_k».proof.Proof.Proj.Equation
public import proofs.«01_k».proof.Proof.Na.Equation
public import proofs.«01_k».proof.Proof.Na.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end, keeps its arguments and declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem algebraic : algebraic_KernelIdeal_ReferenceIdeal_pre_finite (hPre_finite := Cert.Pre_finite.facts) := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  have hf := @Cert.Pre_finite.finite Cert.Pre_finite.facts _ _ _ _ (hpre c)
  have ha := hagree c
  rw [Cert.ReferenceIdeal.Na.res_eq]
  refine Eq.trans ?_ (Cert.KernelIdeal.Na.array_eq m c (fun i => .of (hf.1 i)) (fun i => .of (hf.2.1 i)) (fun i => .of (hf.2.2 i))).symm
  simp only [ha]

/-- The reference of the first half of the feed-forward network runs to the end, keeps its arguments and declares no semaphore. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result is the reference's: the first half of the feed-forward network. -/
theorem algebraic2 : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  have ha := hagree c
  refine Eq.trans ?_ (Cert.Kernel2Ideal.Ffn.array_eq m c).symm
  simp only [ha]
  rfl

/-- The reference of the second half of the feed-forward network with its residual runs to the end, keeps its arguments and declares no semaphore. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's: the second half of the feed-forward network with its residual. -/
theorem algebraic3 : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  have ha := hagree c
  refine Eq.trans ?_ (Cert.Kernel3Ideal.Ffn.array_eq m c).symm
  simp only [ha]
  rfl

/-- The reference of the last norm runs to the end, keeps its arguments and declares no semaphore. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's: the last norm. -/
theorem algebraic4 : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  have ha := hagree c
  refine Eq.trans ?_ (Cert.Kernel4Ideal.Norm.array_eq m c).symm
  simp only [ha]
  rfl

/-- The reference of the gates of the mixers runs to the end, keeps its arguments and declares no semaphore. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's result is the reference's: the gates of the mixers. -/
theorem algebraic5 : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  have ha := hagree c
  refine Eq.trans ?_ (Cert.Kernel5Ideal.Gates.array_eq m c).symm
  simp only [ha]
  rfl

/-- The reference of the merge of the mixers runs to the end, keeps its arguments and declares no semaphore. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's result is the reference's: the merge of the mixers. -/
theorem algebraic6 : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  have ha := hagree c
  refine Eq.trans ?_ (Cert.Kernel6Ideal.Merge.array_eq m c).symm
  simp only [ha]
  rfl

/-- The reference of the mixers' output projection with its residual runs to the end, keeps its arguments and declares no semaphore. -/
theorem quiescent_Reference7Ideal : quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel's three results are the reference's: the mixers' output projection with its residual. -/
theorem algebraic7 : algebraic_Kernel7Ideal_Reference7Ideal := by
  intro m ρ m' ρ' _ hagree
  refine ⟨_, _, _, Cert.Kernel7Ideal.Value.run_blocks (F := Ideal) m ρ, ?_⟩
  refine (θ_run Cert.Reference7Ideal.defs _ _).mono (fun _ h c => ⟨?_, ?_, ?_, (h c).2.2.2⟩) (Cert.Reference7Ideal.Value.run (F := Ideal) m' ρ')
  · rw [(h c).1]
    have ha := hagree c
    refine Eq.trans ?_ (Cert.Kernel7Ideal.MixOut.stream_eq m c).symm
    simp only [ha]
    rfl
  · rw [(h c).2.1]
    have ha := hagree c
    refine Eq.trans ?_ (Cert.Kernel7Ideal.MixOut.narrow_eq m c).symm
    simp only [ha]
    rfl
  · rw [(h c).2.2.1]
    have ha := hagree c
    refine Eq.trans ?_ (Cert.Kernel7Ideal.MixOut.lanes_eq m c).symm
    simp only [ha]
    rfl

/-- The reference of the mixers' projection runs to the end, keeps its arguments and declares no semaphore. -/
theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's result is the reference's: the mixers' projection. -/
theorem algebraic8 : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  have ha := hagree c
  refine Eq.trans ?_ (Cert.Kernel8Ideal.Proj.array_eq m c).symm
  rw [Cert.Reference8Ideal.Proj.res_eq]
  simp only [ha]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  (trivial : preserves_Kernel_KernelIdeal), algebraic,
  (trivial : preserves_Kernel2_Kernel2Ideal), algebraic2,
  (trivial : preserves_Kernel3_Kernel3Ideal), algebraic3,
  (trivial : preserves_Kernel4_Kernel4Ideal), algebraic4,
  (trivial : preserves_Kernel5_Kernel5Ideal), algebraic5,
  (trivial : preserves_Kernel6_Kernel6Ideal), algebraic6,
  (trivial : preserves_Kernel7_Kernel7Ideal), algebraic7,
  (trivial : preserves_Kernel8_Kernel8Ideal), algebraic8⟩

end Cert.Proof

end
